-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1)
      ∧ r.2.mem ((c.tc : Thread Cert.Wo.nD Cert.Wo.τ).loc Cert.Wo.main_arg2) = m ((c.tc : Thread Cert.Wo.nD Cert.Wo.τ).loc Cert.Wo.main_arg2)
      ∧ r.2.mem ((c.tc : Thread Cert.Wo.nD Cert.Wo.τ).loc Cert.Wo.main_arg3) = m ((c.tc : Thread Cert.Wo.nD Cert.Wo.τ).loc Cert.Wo.main_arg3))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
      ∧ r.2.mem ((c.tc : Thread Cert.WoIdeal.nD Cert.WoIdeal.τ).loc Cert.WoIdeal.main_arg3) = m ((c.tc : Thread Cert.WoIdeal.nD Cert.WoIdeal.τ).loc Cert.WoIdeal.main_arg3))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2)
      ∧ r.2.mem ((c.tc : Thread Cert.WoRefIdeal.nD Cert.WoRefIdeal.τ).loc Cert.WoRefIdeal.main_arg3) = m ((c.tc : Thread Cert.WoRefIdeal.nD Cert.WoRefIdeal.τ).loc Cert.WoRefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11)
      ∧ r.2.mem ((c.tc : Thread Cert.Qkv.nD Cert.Qkv.τ).loc Cert.Qkv.main_arg12) = m ((c.tc : Thread Cert.Qkv.nD Cert.Qkv.τ).loc Cert.Qkv.main_arg12))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
      ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11)
      ∧ r.2.mem ((c.tc : Thread Cert.QkvRefIdeal.nD Cert.QkvRefIdeal.τ).loc Cert.QkvRefIdeal.main_arg12) = m ((c.tc : Thread Cert.QkvRefIdeal.nD Cert.QkvRefIdeal.τ).loc Cert.QkvRefIdeal.main_arg12))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)
      ∧ m' ((c.tc : Thread Cert.WoRefIdeal.nD Cert.WoRefIdeal.τ).loc Cert.WoRefIdeal.main_arg2) = m ((c.tc : Thread Cert.WoIdeal.nD Cert.WoIdeal.τ).loc Cert.WoIdeal.main_arg2)
      ∧ m' ((c.tc : Thread Cert.WoRefIdeal.nD Cert.WoRefIdeal.τ).loc Cert.WoRefIdeal.main_arg3) = m ((c.tc : Thread Cert.WoIdeal.nD Cert.WoIdeal.τ).loc Cert.WoIdeal.main_arg3)) →
    ∃ (v0 : (c : Dev Cert.WoIdeal.nD) → Buf (Elt Ideal) ((c.tc : Thread Cert.WoIdeal.nD Cert.WoIdeal.τ).loc Cert.WoIdeal.main_v0)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v0) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
          ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
          ∧ r.2.mem ((c.tc : Thread Cert.WoIdeal.nD Cert.WoIdeal.τ).loc Cert.WoIdeal.main_arg3) = m ((c.tc : Thread Cert.WoIdeal.nD Cert.WoIdeal.τ).loc Cert.WoIdeal.main_arg3))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v0) = v0 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1)
          ∧ r.2.mem ((c.tc : Thread Cert.WoRefIdeal.nD Cert.WoRefIdeal.τ).loc Cert.WoRefIdeal.main_arg2) = m' ((c.tc : Thread Cert.WoRefIdeal.nD Cert.WoRefIdeal.τ).loc Cert.WoRefIdeal.main_arg2)
          ∧ r.2.mem ((c.tc : Thread Cert.WoRefIdeal.nD Cert.WoRefIdeal.τ).loc Cert.WoRefIdeal.main_arg3) = m' ((c.tc : Thread Cert.WoRefIdeal.nD Cert.WoRefIdeal.τ).loc Cert.WoRefIdeal.main_arg3))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_v0_2) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)
      ∧ m' ((c.tc : Thread Cert.QkvRefIdeal.nD Cert.QkvRefIdeal.τ).loc Cert.QkvRefIdeal.main_arg11) = m ((c.tc : Thread Cert.QkvIdeal.nD Cert.QkvIdeal.τ).loc Cert.QkvIdeal.main_arg11)
      ∧ m' ((c.tc : Thread Cert.QkvRefIdeal.nD Cert.QkvRefIdeal.τ).loc Cert.QkvRefIdeal.main_arg12) = m ((c.tc : Thread Cert.QkvIdeal.nD Cert.QkvIdeal.τ).loc Cert.QkvIdeal.main_arg12)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)) (v3 : (c : Dev Cert.QkvIdeal.nD) → Buf (Elt Ideal) ((c.tc : Thread Cert.QkvIdeal.nD Cert.QkvIdeal.τ).loc Cert.QkvIdeal.main_v0_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_v0_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
          ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10)
          ∧ r.2.mem ((c.tc : Thread Cert.QkvRefIdeal.nD Cert.QkvRefIdeal.τ).loc Cert.QkvRefIdeal.main_arg11) = m' ((c.tc : Thread Cert.QkvRefIdeal.nD Cert.QkvRefIdeal.τ).loc Cert.QkvRefIdeal.main_arg11)
          ∧ r.2.mem ((c.tc : Thread Cert.QkvRefIdeal.nD Cert.QkvRefIdeal.τ).loc Cert.QkvRefIdeal.main_arg12) = m' ((c.tc : Thread Cert.QkvRefIdeal.nD Cert.QkvRefIdeal.τ).loc Cert.QkvRefIdeal.main_arg12))

def Claim : Prop :=
  ∃ (hDown : Cert.Down.Facts) (hDownIdeal : Cert.DownIdeal.Facts) (hDownRefIdeal : Cert.DownRefIdeal.Facts) (hWo : Cert.Wo.Facts) (hWoIdeal : Cert.WoIdeal.Facts) (hWoRefIdeal : Cert.WoRefIdeal.Facts) (hGateUp : Cert.GateUp.Facts) (hGateUpIdeal : Cert.GateUpIdeal.Facts) (hGateUpRefIdeal : Cert.GateUpRefIdeal.Facts) (hQkv : Cert.Qkv.Facts) (hQkvIdeal : Cert.QkvIdeal.Facts) (hQkvRefIdeal : Cert.QkvRefIdeal.Facts),
    quiescent_Down (hDown := hDown)
    ∧ quiescent_DownIdeal (hDownIdeal := hDownIdeal)
    ∧ quiescent_DownRefIdeal (hDownRefIdeal := hDownRefIdeal)
    ∧ quiescent_Wo (hWo := hWo)
    ∧ quiescent_WoIdeal (hWoIdeal := hWoIdeal)
    ∧ quiescent_WoRefIdeal (hWoRefIdeal := hWoRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Qkv (hQkv := hQkv)
    ∧ quiescent_QkvIdeal (hQkvIdeal := hQkvIdeal)
    ∧ quiescent_QkvRefIdeal (hQkvRefIdeal := hQkvRefIdeal)
    ∧ preserves_Down_DownIdeal
    ∧ algebraic_DownIdeal_DownRefIdeal (hDownIdeal := hDownIdeal) (hDownRefIdeal := hDownRefIdeal)
    ∧ preserves_Wo_WoIdeal
    ∧ algebraic_WoIdeal_WoRefIdeal (hWoIdeal := hWoIdeal) (hWoRefIdeal := hWoRefIdeal)
    ∧ preserves_GateUp_GateUpIdeal
    ∧ algebraic_GateUpIdeal_GateUpRefIdeal (hGateUpIdeal := hGateUpIdeal) (hGateUpRefIdeal := hGateUpRefIdeal)
    ∧ preserves_Qkv_QkvIdeal
    ∧ algebraic_QkvIdeal_QkvRefIdeal (hQkvIdeal := hQkvIdeal) (hQkvRefIdeal := hQkvRefIdeal)
-- ==== Down.lean ====
abbrev S3840x4352 : Shape := ⟨2, ![3840, 4352]⟩
abbrev S4352x5120 : Shape := ⟨2, ![4352, 5120]⟩
abbrev S34x40 : Shape := ⟨2, ![34, 40]⟩
abbrev S3840x5120 : Shape := ⟨2, ![3840, 5120]⟩
abbrev S768x4352 : Shape := ⟨2, ![768, 4352]⟩
abbrev S4352x1024 : Shape := ⟨2, ![4352, 1024]⟩
abbrev S768x1024 : Shape := ⟨2, ![768, 1024]⟩
abbrev S1x1 : Shape := ⟨2, ![1, 1]⟩
abbrev S128x128 : Shape := ⟨2, ![128, 128]⟩

abbrev nBuf : Space → Nat
  | .hbm => 5
  | .vmem => 9
  | .smem => 1
  | _ => 0

abbrev bufTy : (tb : Table) → Fin (tcTables nBuf tb) → BufTy
  | .hbm, ⟨0, _⟩ => ⟨S3840x4352, .bf16⟩
  | .hbm, ⟨1, _⟩ => ⟨S4352x5120, .fp8e4m3⟩
  | .hbm, ⟨2, _⟩ => ⟨S34x40, .f32⟩
  | .hbm, ⟨3, _⟩ => ⟨S3840x5120, .f32⟩
  | .hbm, ⟨4, _⟩ => ⟨S3840x5120, .bf16⟩
  | .local _ .vmem, ⟨0, _⟩ => ⟨S768x4352, .bf16⟩
  | .local _ .vmem, ⟨1, _⟩ => ⟨S768x4352, .bf16⟩
  | .local _ .vmem, ⟨2, _⟩ => ⟨S4352x1024, .fp8e4m3⟩
  | .local _ .vmem, ⟨3, _⟩ => ⟨S4352x1024, .fp8e4m3⟩
  | .local _ .vmem, ⟨4, _⟩ => ⟨S768x1024, .f32⟩
  | .local _ .vmem, ⟨5, _⟩ => ⟨S768x1024, .f32⟩
  | .local _ .vmem, ⟨6, _⟩ => ⟨S768x1024, .bf16⟩
  | .local _ .vmem, ⟨7, _⟩ => ⟨S768x1024, .bf16⟩
  | .local _ .vmem, ⟨8, _⟩ => ⟨S4352x1024, .bf16⟩
  | .local _ .smem, ⟨0, _⟩ => ⟨S34x40, .f32⟩
  | _, _ => ⟨S3840x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![5, 5], ![false, false]⟩

def k0_off1 (i : grid0.Coords) (c0_i32 : BitVec 32) : Fin 2 → Nat :=
  let c0 : Index := 0#32
  let arg1 : BitVec 32 := BitVec.ofNat 32 (i 1).val
  let c8_i32 : BitVec 32 := 8#32
  let v0 : BitVec 32 := Scalar.muli arg1 c8_i32
  let v1 : BitVec 32 := Scalar.addi v0 c0_i32
  let v2 : Index := Scalar.indexCast v1
  ![0, v2.toNat]
def k0_off2 (i : grid0.Coords) (c0_i32_32 : BitVec 32) : Fin 2 → Nat :=
  let c1 : Index := 1#32
  let arg1 : BitVec 32 := BitVec.ofNat 32 (i 1).val
  let c8_i32 : BitVec 32 := 8#32
  let v0 : BitVec 32 := Scalar.muli arg1 c8_i32
  let v89 : BitVec 32 := Scalar.addi v0 c0_i32_32
  let v90 : Index := Scalar.indexCast v89
  ![1, v90.toNat]
def k0_off3 (i : grid0.Coords) (c0_i32_79 : BitVec 32) : Fin 2 → Nat :=
  let c2 : Index := 2#32
  let arg1 : BitVec 32 := BitVec.ofNat 32 (i 1).val
  let c8_i32 : BitVec 32 := 8#32
  let v0 : BitVec 32 := Scalar.muli arg1 c8_i32
  let v177 : BitVec 32 := Scalar.addi v0 c0_i32_79
  let v178 : Index := Scalar.indexCast v177
  ![2, v178.toNat]
def k0_off4 (i : grid0.Coords) (c0_i32_126 : BitVec 32) : Fin 2 → Nat :=
  let c3 : Index := 3#32
  let arg1 : BitVec 32 := BitVec.ofNat 32 (i 1).val
  let c8_i32 : BitVec 32 := 8#32
  let v0 : BitVec 32 := Scalar.muli arg1 c8_i32
  let v265 : BitVec 32 := Scalar.addi v0 c0_i32_126
  let v266 : Index := Scalar.indexCast v265
  ![3, v266.toNat]
def k0_off5 (i : grid0.Coords) (c0_i32_173 : BitVec 32) : Fin 2 → Nat :=
  let c4 : Index := 4#32
  let arg1 : BitVec 32 := BitVec.ofNat 32 (i 1).val
  let c8_i32 : BitVec 32 := 8#32
  let v0 : BitVec 32 := Scalar.muli arg1 c8_i32
  let v353 : BitVec 32 := Scalar.addi v0 c0_i32_173
  let v354 : Index := Scalar.indexCast v353
  ![4, v354.toNat]
def k0_off6 (i : grid0.Coords) (c0_i32_220 : BitVec 32) : Fin 2 → Nat :=
  let c5 : Index := 5#32
  let arg1 : BitVec 32 := BitVec.ofNat 32 (i 1).val
  let c8_i32 : BitVec 32 := 8#32
  let v0 : BitVec 32 := Scalar.muli arg1 c8_i32
  let v441 : BitVec 32 := Scalar.addi v0 c0_i32_220
  let v442 : Index := Scalar.indexCast v441
  ![5, v442.toNat]
def k0_off7 (i : grid0.Coords) (c0_i32_267 : BitVec 32) : Fin 2 → Nat :=
  let c6 : Index := 6#32
  let arg1 : BitVec 32 := BitVec.ofNat 32 (i 1).val
  let c8_i32 : BitVec 32 := 8#32
  let v0 : BitVec 32 := Scalar.muli arg1 c8_i32
  let v529 : BitVec 32 := Scalar.addi v0 c0_i32_267
  let v530 : Index := Scalar.indexCast v529
  ![6, v530.toNat]
def k0_off8 (i : grid0.Coords) (c0_i32_314 : BitVec 32) : Fin 2 → Nat :=
  let c7 : Index := 7#32
  let arg1 : BitVec 32 := BitVec.ofNat 32 (i 1).val
  let c8_i32 : BitVec 32 := 8#32
  let v0 : BitVec 32 := Scalar.muli arg1 c8_i32
  let v617 : BitVec 32 := Scalar.addi v0 c0_i32_314
  let v618 : Index := Scalar.indexCast v617
  ![7, v618.toNat]
def k0_off9 (i : grid0.Coords) (c0_i32_361 : BitVec 32) : Fin 2 → Nat :=
  let c8 : Index := 8#32
  let arg1 : BitVec 32 := BitVec.ofNat 32 (i 1).val
  let c8_i32 : BitVec 32 := 8#32
  let v0 : BitVec 32 := Scalar.muli arg1 c8_i32
  let v705 : BitVec 32 := Scalar.addi v0 c0_i32_361
  let v706 : Index := Scalar.indexCast v705
  ![8, v706.toNat]
def k0_off10 (i : grid0.Coords) (c0_i32_407 : BitVec 32) : Fin 2 → Nat :=
  let c9 : Index := 9#32
  let arg1 : BitVec 32 := BitVec.ofNat 32 (i 1).val
  let c8_i32 : BitVec 32 := 8#32
  let v0 : BitVec 32 := Scalar.muli arg1 c8_i32
  let v793 : BitVec 32 := Scalar.addi v0 c0_i32_407
  let v794 : Index := Scalar.indexCast v793
  ![9, v794.toNat]
def k0_off11 (i : grid0.Coords) (c0_i32_453 : BitVec 32) : Fin 2 → Nat :=
  let c10 : Index := 10#32
  let arg1 : BitVec 32 := BitVec.ofNat 32 (i 1).val
  let c8_i32 : BitVec 32 := 8#32
  let v0 : BitVec 32 := Scalar.muli arg1 c8_i32
  let v881 : BitVec 32 := Scalar.addi v0 c0_i32_453
  let v882 : Index := Scalar.indexCast v881
  ![10, v882.toNat]
def k0_off12 (i : grid0.Coords) (c0_i32_499 : BitVec 32) : Fin 2 → Nat :=
  let c11 : Index := 11#32
  let arg1 : BitVec 32 := BitVec.ofNat 32 (i 1).val
  let c8_i32 : BitVec 32 := 8#32
  let v0 : BitVec 32 := Scalar.muli arg1 c8_i32
  let v969 : BitVec 32 := Scalar.addi v0 c0_i32_499
  let v970 : Index := Scalar.indexCast v969
  ![11, v970.toNat]
def k0_off13 (i : grid0.Coords) (c0_i32_545 : BitVec 32) : Fin 2 → Nat :=
  let c12 : Index := 12#32
  let arg1 : BitVec 32 := BitVec.ofNat 32 (i 1).val
  let c8_i32 : BitVec 32 := 8#32
  let v0 : BitVec 32 := Scalar.muli arg1 c8_i32
  let v1057 : BitVec 32 := Scalar.addi v0 c0_i32_545
  let v1058 : Index := Scalar.indexCast v1057
  ![12, v1058.toNat]
def k0_off14 (i : grid0.Coords) (c0_i32_591 : BitVec 32) : Fin 2 → Nat :=
  let c13 : Index := 13#32
  let arg1 : BitVec 32 := BitVec.ofNat 32 (i 1).val
  let c8_i32 : BitVec 32 := 8#32
  let v0 : BitVec 32 := Scalar.muli arg1 c8_i32
  let v1145 : BitVec 32 := Scalar.addi v0 c0_i32_591
  let v1146 : Index := Scalar.indexCast v1145
  ![13, v1146.toNat]
def k0_off15 (i : grid0.Coords) (c0_i32_637 : BitVec 32) : Fin 2 → Nat :=
  let c14 : Index := 14#32
  let arg1 : BitVec 32 := BitVec.ofNat 32 (i 1).val
  let c8_i32 : BitVec 32 := 8#32
  let v0 : BitVec 32 := Scalar.muli arg1 c8_i32
  let v1233 : BitVec 32 := Scalar.addi v0 c0_i32_637
  let v1234 : Index := Scalar.indexCast v1233
  ![14, v1234.toNat]
def k0_off16 (i : grid0.Coords) (c0_i32_683 : BitVec 32) : Fin 2 → Nat :=
  let c15 : Index := 15#32
  let arg1 : BitVec 32 := BitVec.ofNat 32 (i 1).val
  let c8_i32 : BitVec 32 := 8#32
  let v0 : BitVec 32 := Scalar.muli arg1 c8_i32
  let v1321 : BitVec 32 := Scalar.addi v0 c0_i32_683
  let v1322 : Index := Scalar.indexCast v1321
  ![15, v1322.toNat]
def k0_off17 (i : grid0.Coords) (c0_i32_729 : BitVec 32) : Fin 2 → Nat :=
  let c16 : Index := 16#32
  let arg1 : BitVec 32 := BitVec.ofNat 32 (i 1).val
  let c8_i32 : BitVec 32 := 8#32
  let v0 : BitVec 32 := Scalar.muli arg1 c8_i32
  let v1409 : BitVec 32 := Scalar.addi v0 c0_i32_729
  let v1410 : Index := Scalar.indexCast v1409
  ![16, v1410.toNat]
def k0_off18 (i : grid0.Coords) (c0_i32_775 : BitVec 32) : Fin 2 → Nat :=
  let c17 : Index := 17#32
  let arg1 : BitVec 32 := BitVec.ofNat 32 (i 1).val
  let c8_i32 : BitVec 32 := 8#32
  let v0 : BitVec 32 := Scalar.muli arg1 c8_i32
  let v1497 : BitVec 32 := Scalar.addi v0 c0_i32_775
  let v1498 : Index := Scalar.indexCast v1497
  ![17, v1498.toNat]
def k0_off19 (i : grid0.Coords) (c0_i32_821 : BitVec 32) : Fin 2 → Nat :=
  let c18 : Index := 18#32
  let arg1 : BitVec 32 := BitVec.ofNat 32 (i 1).val
  let c8_i32 : BitVec 32 := 8#32
  let v0 : BitVec 32 := Scalar.muli arg1 c8_i32
  let v1585 : BitVec 32 := Scalar.addi v0 c0_i32_821
  let v1586 : Index := Scalar.indexCast v1585
  ![18, v1586.toNat]
def k0_off20 (i : grid0.Coords) (c0_i32_867 : BitVec 32) : Fin 2 → Nat :=
  let c19 : Index := 19#32
  let arg1 : BitVec 32 := BitVec.ofNat 32 (i 1).val
  let c8_i32 : BitVec 32 := 8#32
  let v0 : BitVec 32 := Scalar.muli arg1 c8_i32
  let v1673 : BitVec 32 := Scalar.addi v0 c0_i32_867
  let v1674 : Index := Scalar.indexCast v1673
  ![19, v1674.toNat]
def k0_off21 (i : grid0.Coords) (c0_i32_913 : BitVec 32) : Fin 2 → Nat :=
  let c20 : Index := 20#32
  let arg1 : BitVec 32 := BitVec.ofNat 32 (i 1).val
  let c8_i32 : BitVec 32 := 8#32
  let v0 : BitVec 32 := Scalar.muli arg1 c8_i32
  let v1761 : BitVec 32 := Scalar.addi v0 c0_i32_913
  let v1762 : Index := Scalar.indexCast v1761
  ![20, v1762.toNat]
def k0_off22 (i : grid0.Coords) (c0_i32_959 : BitVec 32) : Fin 2 → Nat :=
  let c21 : Index := 21#32
  let arg1 : BitVec 32 := BitVec.ofNat 32 (i 1).val
  let c8_i32 : BitVec 32 := 8#32
  let v0 : BitVec 32 := Scalar.muli arg1 c8_i32
  let v1849 : BitVec 32 := Scalar.addi v0 c0_i32_959
  let v1850 : Index := Scalar.indexCast v1849
  ![21, v1850.toNat]
def k0_off23 (i : grid0.Coords) (c0_i32_1005 : BitVec 32) : Fin 2 → Nat :=
  let c22 : Index := 22#32
  let arg1 : BitVec 32 := BitVec.ofNat 32 (i 1).val
  let c8_i32 : BitVec 32 := 8#32
  let v0 : BitVec 32 := Scalar.muli arg1 c8_i32
  let v1937 : BitVec 32 := Scalar.addi v0 c0_i32_1005
  let v1938 : Index := Scalar.indexCast v1937
  ![22, v1938.toNat]
def k0_off24 (i : grid0.Coords) (c0_i32_1051 : BitVec 32) : Fin 2 → Nat :=
  let c23 : Index := 23#32
  let arg1 : BitVec 32 := BitVec.ofNat 32 (i 1).val
  let c8_i32 : BitVec 32 := 8#32
  let v0 : BitVec 32 := Scalar.muli arg1 c8_i32
  let v2025 : BitVec 32 := Scalar.addi v0 c0_i32_1051
  let v2026 : Index := Scalar.indexCast v2025
  ![23, v2026.toNat]
def k0_off25 (i : grid0.Coords) (c0_i32_1097 : BitVec 32) : Fin 2 → Nat :=
  let c24 : Index := 24#32
  let arg1 : BitVec 32 := BitVec.ofNat 32 (i 1).val
  let c8_i32 : BitVec 32 := 8#32
  let v0 : BitVec 32 := Scalar.muli arg1 c8_i32
  let v2113 : BitVec 32 := Scalar.addi v0 c0_i32_1097
  let v2114 : Index := Scalar.indexCast v2113
  ![24, v2114.toNat]
def k0_off26 (i : grid0.Coords) (c0_i32_1143 : BitVec 32) : Fin 2 → Nat :=
  let c25 : Index := 25#32
  let arg1 : BitVec 32 := BitVec.ofNat 32 (i 1).val
  let c8_i32 : BitVec 32 := 8#32
  let v0 : BitVec 32 := Scalar.muli arg1 c8_i32
  let v2201 : BitVec 32 := Scalar.addi v0 c0_i32_1143
  let v2202 : Index := Scalar.indexCast v2201
  ![25, v2202.toNat]
def k0_off27 (i : grid0.Coords) (c0_i32_1189 : BitVec 32) : Fin 2 → Nat :=
  let c26 : Index := 26#32
  let arg1 : BitVec 32 := BitVec.ofNat 32 (i 1).val
  let c8_i32 : BitVec 32 := 8#32
  let v0 : BitVec 32 := Scalar.muli arg1 c8_i32
  let v2289 : BitVec 32 := Scalar.addi v0 c0_i32_1189
  let v2290 : Index := Scalar.indexCast v2289
  ![26, v2290.toNat]
def k0_off28 (i : grid0.Coords) (c0_i32_1235 : BitVec 32) : Fin 2 → Nat :=
  let c27 : Index := 27#32
  let arg1 : BitVec 32 := BitVec.ofNat 32 (i 1).val
  let c8_i32 : BitVec 32 := 8#32
  let v0 : BitVec 32 := Scalar.muli arg1 c8_i32
  let v2377 : BitVec 32 := Scalar.addi v0 c0_i32_1235
  let v2378 : Index := Scalar.indexCast v2377
  ![27, v2378.toNat]
def k0_off29 (i : grid0.Coords) (c0_i32_1281 : BitVec 32) : Fin 2 → Nat :=
  let c28 : Index := 28#32
  let arg1 : BitVec 32 := BitVec.ofNat 32 (i 1).val
  let c8_i32 : BitVec 32 := 8#32
  let v0 : BitVec 32 := Scalar.muli arg1 c8_i32
  let v2465 : BitVec 32 := Scalar.addi v0 c0_i32_1281
  let v2466 : Index := Scalar.indexCast v2465
  ![28, v2466.toNat]
def k0_off30 (i : grid0.Coords) (c0_i32_1327 : BitVec 32) : Fin 2 → Nat :=
  let c29 : Index := 29#32
  let arg1 : BitVec 32 := BitVec.ofNat 32 (i 1).val
  let c8_i32 : BitVec 32 := 8#32
  let v0 : BitVec 32 := Scalar.muli arg1 c8_i32
  let v2553 : BitVec 32 := Scalar.addi v0 c0_i32_1327
  let v2554 : Index := Scalar.indexCast v2553
  ![29, v2554.toNat]
def k0_off31 (i : grid0.Coords) (c0_i32_1373 : BitVec 32) : Fin 2 → Nat :=
  let c30 : Index := 30#32
  let arg1 : BitVec 32 := BitVec.ofNat 32 (i 1).val
  let c8_i32 : BitVec 32 := 8#32
  let v0 : BitVec 32 := Scalar.muli arg1 c8_i32
  let v2641 : BitVec 32 := Scalar.addi v0 c0_i32_1373
  let v2642 : Index := Scalar.indexCast v2641
  ![30, v2642.toNat]
def k0_off32 (i : grid0.Coords) (c0_i32_1419 : BitVec 32) : Fin 2 → Nat :=
  let c31 : Index := 31#32
  let arg1 : BitVec 32 := BitVec.ofNat 32 (i 1).val
  let c8_i32 : BitVec 32 := 8#32
  let v0 : BitVec 32 := Scalar.muli arg1 c8_i32
  let v2729 : BitVec 32 := Scalar.addi v0 c0_i32_1419
  let v2730 : Index := Scalar.indexCast v2729
  ![31, v2730.toNat]
def k0_off33 (i : grid0.Coords) (c0_i32_1465 : BitVec 32) : Fin 2 → Nat :=
  let c32 : Index := 32#32
  let arg1 : BitVec 32 := BitVec.ofNat 32 (i 1).val
  let c8_i32 : BitVec 32 := 8#32
  let v0 : BitVec 32 := Scalar.muli arg1 c8_i32
  let v2817 : BitVec 32 := Scalar.addi v0 c0_i32_1465
  let v2818 : Index := Scalar.indexCast v2817
  ![32, v2818.toNat]
def k0_off34 (i : grid0.Coords) (c0_i32_1511 : BitVec 32) : Fin 2 → Nat :=
  let c33 : Index := 33#32
  let arg1 : BitVec 32 := BitVec.ofNat 32 (i 1).val
  let c8_i32 : BitVec 32 := 8#32
  let v0 : BitVec 32 := Scalar.muli arg1 c8_i32
  let v2905 : BitVec 32 := Scalar.addi v0 c0_i32_1511
  let v2906 : Index := Scalar.indexCast v2905
  ![33, v2906.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S34x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S768x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S3840x4352 : Shape := ⟨2, ![3840, 4352]⟩
abbrev S4352x5120 : Shape := ⟨2, ![4352, 5120]⟩
abbrev S34x40 : Shape := ⟨2, ![34, 40]⟩
abbrev S3840x5120 : Shape := ⟨2, ![3840, 5120]⟩
abbrev S34x40x1 : Shape := ⟨3, ![34, 40, 1]⟩
abbrev S34x40x128 : Shape := ⟨3, ![34, 40, 128]⟩
abbrev S34x5120 : Shape := ⟨2, ![34, 5120]⟩
abbrev S34x128x5120 : Shape := ⟨3, ![34, 128, 5120]⟩
abbrev S34x1x5120 : Shape := ⟨3, ![34, 1, 5120]⟩

abbrev nBuf : Space → Nat
  | .hbm => 5
  | .vmem => 5
  | .smem => 0
  | _ => 0

abbrev bufTy : (tb : Table) → Fin (tcTables nBuf tb) → BufTy
  | .hbm, ⟨0, _⟩ => ⟨S3840x4352, .bf16⟩
  | .hbm, ⟨1, _⟩ => ⟨S4352x5120, .fp8e4m3⟩
  | .hbm, ⟨2, _⟩ => ⟨S34x40, .f32⟩
  | .hbm, ⟨3, _⟩ => ⟨S3840x5120, .f32⟩
  | .hbm, ⟨4, _⟩ => ⟨S3840x5120, .bf16⟩
  | .local _ .vmem, ⟨0, _⟩ => ⟨S3840x4352, .bf16⟩
  | .local _ .vmem, ⟨1, _⟩ => ⟨S4352x5120, .fp8e4m3⟩
  | .local _ .vmem, ⟨2, _⟩ => ⟨S34x40, .f32⟩
  | .local _ .vmem, ⟨3, _⟩ => ⟨S3840x5120, .f32⟩
  | .local _ .vmem, ⟨4, _⟩ => ⟨S3840x5120, .bf16⟩
  | _, _ => ⟨S3840x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3840x4352 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4352x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S34x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3840x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3840x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Wo.lean ====
abbrev S3840x1536 : Shape := ⟨2, ![3840, 1536]⟩
abbrev S1536x5120 : Shape := ⟨2, ![1536, 5120]⟩
abbrev S12x40 : Shape := ⟨2, ![12, 40]⟩
abbrev S3840x5120 : Shape := ⟨2, ![3840, 5120]⟩
abbrev S640x1536 : Shape := ⟨2, ![640, 1536]⟩
abbrev S1536x1024 : Shape := ⟨2, ![1536, 1024]⟩
abbrev S640x1024 : Shape := ⟨2, ![640, 1024]⟩
abbrev S1x1 : Shape := ⟨2, ![1, 1]⟩
abbrev S128x128 : Shape := ⟨2, ![128, 128]⟩

abbrev nBuf : Space → Nat
  | .hbm => 5
  | .vmem => 9
  | .smem => 1
  | _ => 0

abbrev bufTy : (tb : Table) → Fin (tcTables nBuf tb) → BufTy
  | .hbm, ⟨0, _⟩ => ⟨S3840x1536, .bf16⟩
  | .hbm, ⟨1, _⟩ => ⟨S1536x5120, .fp8e4m3⟩
  | .hbm, ⟨2, _⟩ => ⟨S12x40, .f32⟩
  | .hbm, ⟨3, _⟩ => ⟨S3840x5120, .bf16⟩
  | .hbm, ⟨4, _⟩ => ⟨S3840x5120, .f32⟩
  | .local _ .vmem, ⟨0, _⟩ => ⟨S640x1536, .bf16⟩
  | .local _ .vmem, ⟨1, _⟩ => ⟨S640x1536, .bf16⟩
  | .local _ .vmem, ⟨2, _⟩ => ⟨S1536x1024, .fp8e4m3⟩
  | .local _ .vmem, ⟨3, _⟩ => ⟨S1536x1024, .fp8e4m3⟩
  | .local _ .vmem, ⟨4, _⟩ => ⟨S640x1024, .bf16⟩
  | .local _ .vmem, ⟨5, _⟩ => ⟨S640x1024, .bf16⟩
  | .local _ .vmem, ⟨6, _⟩ => ⟨S640x1024, .f32⟩
  | .local _ .vmem, ⟨7, _⟩ => ⟨S640x1024, .f32⟩
  | .local _ .vmem, ⟨8, _⟩ => ⟨S1536x1024, .bf16⟩
  | .local _ .smem, ⟨0, _⟩ => ⟨S12x40, .f32⟩
  | _, _ => ⟨S3840x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![6, 5], ![false, false]⟩

def k0_off1 (i : grid0.Coords) (c0_i32 : BitVec 32) : Fin 2 → Nat :=
  let c0 : Index := 0#32
  let arg1 : BitVec 32 := BitVec.ofNat 32 (i 1).val
  let c8_i32 : BitVec 32 := 8#32
  let v0 : BitVec 32 := Scalar.muli arg1 c8_i32
  let v1 : BitVec 32 := Scalar.addi v0 c0_i32
  let v2 : Index := Scalar.indexCast v1
  ![0, v2.toNat]
def k0_off2 (i : grid0.Coords) (c0_i32_32 : BitVec 32) : Fin 2 → Nat :=
  let c1 : Index := 1#32
  let arg1 : BitVec 32 := BitVec.ofNat 32 (i 1).val
  let c8_i32 : BitVec 32 := 8#32
  let v0 : BitVec 32 := Scalar.muli arg1 c8_i32
  let v89 : BitVec 32 := Scalar.addi v0 c0_i32_32
  let v90 : Index := Scalar.indexCast v89
  ![1, v90.toNat]
def k0_off3 (i : grid0.Coords) (c0_i32_79 : BitVec 32) : Fin 2 → Nat :=
  let c2 : Index := 2#32
  let arg1 : BitVec 32 := BitVec.ofNat 32 (i 1).val
  let c8_i32 : BitVec 32 := 8#32
  let v0 : BitVec 32 := Scalar.muli arg1 c8_i32
  let v177 : BitVec 32 := Scalar.addi v0 c0_i32_79
  let v178 : Index := Scalar.indexCast v177
  ![2, v178.toNat]
def k0_off4 (i : grid0.Coords) (c0_i32_126 : BitVec 32) : Fin 2 → Nat :=
  let c3 : Index := 3#32
  let arg1 : BitVec 32 := BitVec.ofNat 32 (i 1).val
  let c8_i32 : BitVec 32 := 8#32
  let v0 : BitVec 32 := Scalar.muli arg1 c8_i32
  let v265 : BitVec 32 := Scalar.addi v0 c0_i32_126
  let v266 : Index := Scalar.indexCast v265
  ![3, v266.toNat]
def k0_off5 (i : grid0.Coords) (c0_i32_173 : BitVec 32) : Fin 2 → Nat :=
  let c4 : Index := 4#32
  let arg1 : BitVec 32 := BitVec.ofNat 32 (i 1).val
  let c8_i32 : BitVec 32 := 8#32
  let v0 : BitVec 32 := Scalar.muli arg1 c8_i32
  let v353 : BitVec 32 := Scalar.addi v0 c0_i32_173
  let v354 : Index := Scalar.indexCast v353
  ![4, v354.toNat]
def k0_off6 (i : grid0.Coords) (c0_i32_220 : BitVec 32) : Fin 2 → Nat :=
  let c5 : Index := 5#32
  let arg1 : BitVec 32 := BitVec.ofNat 32 (i 1).val
  let c8_i32 : BitVec 32 := 8#32
  let v0 : BitVec 32 := Scalar.muli arg1 c8_i32
  let v441 : BitVec 32 := Scalar.addi v0 c0_i32_220
  let v442 : Index := Scalar.indexCast v441
  ![5, v442.toNat]
def k0_off7 (i : grid0.Coords) (c0_i32_267 : BitVec 32) : Fin 2 → Nat :=
  let c6 : Index := 6#32
  let arg1 : BitVec 32 := BitVec.ofNat 32 (i 1).val
  let c8_i32 : BitVec 32 := 8#32
  let v0 : BitVec 32 := Scalar.muli arg1 c8_i32
  let v529 : BitVec 32 := Scalar.addi v0 c0_i32_267
  let v530 : Index := Scalar.indexCast v529
  ![6, v530.toNat]
def k0_off8 (i : grid0.Coords) (c0_i32_314 : BitVec 32) : Fin 2 → Nat :=
  let c7 : Index := 7#32
  let arg1 : BitVec 32 := BitVec.ofNat 32 (i 1).val
  let c8_i32 : BitVec 32 := 8#32
  let v0 : BitVec 32 := Scalar.muli arg1 c8_i32
  let v617 : BitVec 32 := Scalar.addi v0 c0_i32_314
  let v618 : Index := Scalar.indexCast v617
  ![7, v618.toNat]
def k0_off9 (i : grid0.Coords) (c0_i32_361 : BitVec 32) : Fin 2 → Nat :=
  let c8 : Index := 8#32
  let arg1 : BitVec 32 := BitVec.ofNat 32 (i 1).val
  let c8_i32 : BitVec 32 := 8#32
  let v0 : BitVec 32 := Scalar.muli arg1 c8_i32
  let v705 : BitVec 32 := Scalar.addi v0 c0_i32_361
  let v706 : Index := Scalar.indexCast v705
  ![8, v706.toNat]
def k0_off10 (i : grid0.Coords) (c0_i32_407 : BitVec 32) : Fin 2 → Nat :=
  let c9 : Index := 9#32
  let arg1 : BitVec 32 := BitVec.ofNat 32 (i 1).val
  let c8_i32 : BitVec 32 := 8#32
  let v0 : BitVec 32 := Scalar.muli arg1 c8_i32
  let v793 : BitVec 32 := Scalar.addi v0 c0_i32_407
  let v794 : Index := Scalar.indexCast v793
  ![9, v794.toNat]
def k0_off11 (i : grid0.Coords) (c0_i32_453 : BitVec 32) : Fin 2 → Nat :=
  let c10 : Index := 10#32
  let arg1 : BitVec 32 := BitVec.ofNat 32 (i 1).val
  let c8_i32 : BitVec 32 := 8#32
  let v0 : BitVec 32 := Scalar.muli arg1 c8_i32
  let v881 : BitVec 32 := Scalar.addi v0 c0_i32_453
  let v882 : Index := Scalar.indexCast v881
  ![10, v882.toNat]
def k0_off12 (i : grid0.Coords) (c0_i32_499 : BitVec 32) : Fin 2 → Nat :=
  let c11 : Index := 11#32
  let arg1 : BitVec 32 := BitVec.ofNat 32 (i 1).val
  let c8_i32 : BitVec 32 := 8#32
  let v0 : BitVec 32 := Scalar.muli arg1 c8_i32
  let v969 : BitVec 32 := Scalar.addi v0 c0_i32_499
  let v970 : Index := Scalar.indexCast v969
  ![11, v970.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S12x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S640x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== WoRefIdeal.lean ====
abbrev S3840x1536 : Shape := ⟨2, ![3840, 1536]⟩
abbrev S1536x5120 : Shape := ⟨2, ![1536, 5120]⟩
abbrev S12x40 : Shape := ⟨2, ![12, 40]⟩
abbrev S3840x5120 : Shape := ⟨2, ![3840, 5120]⟩
abbrev S12x40x1 : Shape := ⟨3, ![12, 40, 1]⟩
abbrev S12x40x128 : Shape := ⟨3, ![12, 40, 128]⟩
abbrev S12x5120 : Shape := ⟨2, ![12, 5120]⟩
abbrev S12x128x5120 : Shape := ⟨3, ![12, 128, 5120]⟩
abbrev S12x1x5120 : Shape := ⟨3, ![12, 1, 5120]⟩

abbrev nBuf : Space → Nat
  | .hbm => 5
  | .vmem => 5
  | .smem => 0
  | _ => 0

abbrev bufTy : (tb : Table) → Fin (tcTables nBuf tb) → BufTy
  | .hbm, ⟨0, _⟩ => ⟨S3840x1536, .bf16⟩
  | .hbm, ⟨1, _⟩ => ⟨S1536x5120, .fp8e4m3⟩
  | .hbm, ⟨2, _⟩ => ⟨S12x40, .f32⟩
  | .hbm, ⟨3, _⟩ => ⟨S3840x5120, .bf16⟩
  | .hbm, ⟨4, _⟩ => ⟨S3840x5120, .f32⟩
  | .local _ .vmem, ⟨0, _⟩ => ⟨S3840x1536, .bf16⟩
  | .local _ .vmem, ⟨1, _⟩ => ⟨S1536x5120, .fp8e4m3⟩
  | .local _ .vmem, ⟨2, _⟩ => ⟨S12x40, .f32⟩
  | .local _ .vmem, ⟨3, _⟩ => ⟨S3840x5120, .bf16⟩
  | .local _ .vmem, ⟨4, _⟩ => ⟨S3840x5120, .f32⟩
  | _, _ => ⟨S3840x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3840x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3840x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3840x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== GateUp.lean ====
abbrev S3840x5120 : Shape := ⟨2, ![3840, 5120]⟩
abbrev S5120x8704 : Shape := ⟨2, ![5120, 8704]⟩
abbrev S40x68 : Shape := ⟨2, ![40, 68]⟩
abbrev S3840x4352 : Shape := ⟨2, ![3840, 4352]⟩
abbrev S3840x34 : Shape := ⟨2, ![3840, 34]⟩
abbrev S1280x5120 : Shape := ⟨2, ![1280, 5120]⟩
abbrev S5120x256 : Shape := ⟨2, ![5120, 256]⟩
abbrev S1280x256 : Shape := ⟨2, ![1280, 256]⟩
abbrev S1280x34 : Shape := ⟨2, ![1280, 34]⟩
abbrev S5120x512 : Shape := ⟨2, ![5120, 512]⟩
abbrev S1280x128 : Shape := ⟨2, ![1280, 128]⟩
abbrev S1x1 : Shape := ⟨2, ![1, 1]⟩
abbrev S128x128 : Shape := ⟨2, ![128, 128]⟩
abbrev S1280x512 : Shape := ⟨2, ![1280, 512]⟩
abbrev S1280 : Shape := ⟨1, ![1280]⟩
abbrev S1280x1 : Shape := ⟨2, ![1280, 1]⟩

abbrev nBuf : Space → Nat
  | .hbm => 6
  | .vmem => 14
  | .smem => 1
  | _ => 0

abbrev bufTy : (tb : Table) → Fin (tcTables nBuf tb) → BufTy
  | .hbm, ⟨0, _⟩ => ⟨S3840x5120, .bf16⟩
  | .hbm, ⟨1, _⟩ => ⟨S5120x8704, .fp8e4m3⟩
  | .hbm, ⟨2, _⟩ => ⟨S40x68, .f32⟩
  | .hbm, ⟨3, _⟩ => ⟨S3840x4352, .fp8e4m3⟩
  | .hbm, ⟨4, _⟩ => ⟨S3840x34, .f32⟩
  | .hbm, ⟨5, _⟩ => ⟨S3840x4352, .bf16⟩
  | .local _ .vmem, ⟨0, _⟩ => ⟨S1280x5120, .bf16⟩
  | .local _ .vmem, ⟨1, _⟩ => ⟨S1280x5120, .bf16⟩
  | .local _ .vmem, ⟨2, _⟩ => ⟨S5120x256, .fp8e4m3⟩
  | .local _ .vmem, ⟨3, _⟩ => ⟨S5120x256, .fp8e4m3⟩
  | .local _ .vmem, ⟨4, _⟩ => ⟨S5120x256, .fp8e4m3⟩
  | .local _ .vmem, ⟨5, _⟩ => ⟨S5120x256, .fp8e4m3⟩
  | .local _ .vmem, ⟨6, _⟩ => ⟨S1280x256, .fp8e4m3⟩
  | .local _ .vmem, ⟨7, _⟩ => ⟨S1280x256, .fp8e4m3⟩
  | .local _ .vmem, ⟨8, _⟩ => ⟨S1280x34, .f32⟩
  | .local _ .vmem, ⟨9, _⟩ => ⟨S1280x34, .f32⟩
  | .local _ .vmem, ⟨10, _⟩ => ⟨S1280x256, .bf16⟩
  | .local _ .vmem, ⟨11, _⟩ => ⟨S1280x256, .bf16⟩
  | .local _ .vmem, ⟨12, _⟩ => ⟨S5120x512, .bf16⟩
  | .local _ .vmem, ⟨13, _⟩ => ⟨S1280x128, .f32⟩
  | .local _ .smem, ⟨0, _⟩ => ⟨S40x68, .f32⟩
  | _, _ => ⟨S3840x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![3, 17], ![false, false]⟩

def k0_off1 (i : grid0.Coords) (c0_i32 : BitVec 32) : Fin 2 → Nat :=
  let c0 : Index := 0#32
  let arg1 : BitVec 32 := BitVec.ofNat 32 (i 1).val
  let c2_i32 : BitVec 32 := 2#32
  let v0 : BitVec 32 := Scalar.muli arg1 c2_i32
  let v1 : BitVec 32 := Scalar.addi v0 c0_i32
  let v2 : Index := Scalar.indexCast v1
  ![0, v2.toNat]
def k0_off2 (i : grid0.Coords) (c0_i32_8 : BitVec 32) : Fin 2 → Nat :=
  let c1 : Index := 1#32
  let arg1 : BitVec 32 := BitVec.ofNat 32 (i 1).val
  let c2_i32 : BitVec 32 := 2#32
  let v0 : BitVec 32 := Scalar.muli arg1 c2_i32
  let v23 : BitVec 32 := Scalar.addi v0 c0_i32_8
  let v24 : Index := Scalar.indexCast v23
  ![1, v24.toNat]
def k0_off3 (i : grid0.Coords) (c0_i32_19 : BitVec 32) : Fin 2 → Nat :=
  let c2 : Index := 2#32
  let arg1 : BitVec 32 := BitVec.ofNat 32 (i 1).val
  let c2_i32 : BitVec 32 := 2#32
  let v0 : BitVec 32 := Scalar.muli arg1 c2_i32
  let v45 : BitVec 32 := Scalar.addi v0 c0_i32_19
  let v46 : Index := Scalar.indexCast v45
  ![2, v46.toNat]
def k0_off4 (i : grid0.Coords) (c0_i32_29 : BitVec 32) : Fin 2 → Nat :=
  let c3 : Index := 3#32
  let arg1 : BitVec 32 := BitVec.ofNat 32 (i 1).val
  let c2_i32 : BitVec 32 := 2#32
  let v0 : BitVec 32 := Scalar.muli arg1 c2_i32
  let v67 : BitVec 32 := Scalar.addi v0 c0_i32_29
  let v68 : Index := Scalar.indexCast v67
  ![3, v68.toNat]
def k0_off5 (i : grid0.Coords) (c0_i32_39 : BitVec 32) : Fin 2 → Nat :=
  let c4 : Index := 4#32
  let arg1 : BitVec 32 := BitVec.ofNat 32 (i 1).val
  let c2_i32 : BitVec 32 := 2#32
  let v0 : BitVec 32 := Scalar.muli arg1 c2_i32
  let v89 : BitVec 32 := Scalar.addi v0 c0_i32_39
  let v90 : Index := Scalar.indexCast v89
  ![4, v90.toNat]
def k0_off6 (i : grid0.Coords) (c0_i32_49 : BitVec 32) : Fin 2 → Nat :=
  let c5 : Index := 5#32
  let arg1 : BitVec 32 := BitVec.ofNat 32 (i 1).val
  let c2_i32 : BitVec 32 := 2#32
  let v0 : BitVec 32 := Scalar.muli arg1 c2_i32
  let v111 : BitVec 32 := Scalar.addi v0 c0_i32_49
  let v112 : Index := Scalar.indexCast v111
  ![5, v112.toNat]
def k0_off7 (i : grid0.Coords) (c0_i32_59 : BitVec 32) : Fin 2 → Nat :=
  let c6 : Index := 6#32
  let arg1 : BitVec 32 := BitVec.ofNat 32 (i 1).val
  let c2_i32 : BitVec 32 := 2#32
  let v0 : BitVec 32 := Scalar.muli arg1 c2_i32
  let v133 : BitVec 32 := Scalar.addi v0 c0_i32_59
  let v134 : Index := Scalar.indexCast v133
  ![6, v134.toNat]
def k0_off8 (i : grid0.Coords) (c0_i32_69 : BitVec 32) : Fin 2 → Nat :=
  let c7 : Index := 7#32
  let arg1 : BitVec 32 := BitVec.ofNat 32 (i 1).val
  let c2_i32 : BitVec 32 := 2#32
  let v0 : BitVec 32 := Scalar.muli arg1 c2_i32
  let v155 : BitVec 32 := Scalar.addi v0 c0_i32_69
  let v156 : Index := Scalar.indexCast v155
  ![7, v156.toNat]
def k0_off9 (i : grid0.Coords) (c0_i32_79 : BitVec 32) : Fin 2 → Nat :=
  let c8 : Index := 8#32
  let arg1 : BitVec 32 := BitVec.ofNat 32 (i 1).val
  let c2_i32 : BitVec 32 := 2#32
  let v0 : BitVec 32 := Scalar.muli arg1 c2_i32
  let v177 : BitVec 32 := Scalar.addi v0 c0_i32_79
  let v178 : Index := Scalar.indexCast v177
  ![8, v178.toNat]
def k0_off10 (i : grid0.Coords) (c0_i32_89 : BitVec 32) : Fin 2 → Nat :=
  let c9 : Index := 9#32
  let arg1 : BitVec 32 := BitVec.ofNat 32 (i 1).val
  let c2_i32 : BitVec 32 := 2#32
  let v0 : BitVec 32 := Scalar.muli arg1 c2_i32
  let v199 : BitVec 32 := Scalar.addi v0 c0_i32_89
  let v200 : Index := Scalar.indexCast v199
  ![9, v200.toNat]
def k0_off11 (i : grid0.Coords) (c0_i32_99 : BitVec 32) : Fin 2 → Nat :=
  let c10 : Index := 10#32
  let arg1 : BitVec 32 := BitVec.ofNat 32 (i 1).val
  let c2_i32 : BitVec 32 := 2#32
  let v0 : BitVec 32 := Scalar.muli arg1 c2_i32
  let v221 : BitVec 32 := Scalar.addi v0 c0_i32_99
  let v222 : Index := Scalar.indexCast v221
  ![10, v222.toNat]
def k0_off12 (i : grid0.Coords) (c0_i32_109 : BitVec 32) : Fin 2 → Nat :=
  let c11 : Index := 11#32
  let arg1 : BitVec 32 := BitVec.ofNat 32 (i 1).val
  let c2_i32 : BitVec 32 := 2#32
  let v0 : BitVec 32 := Scalar.muli arg1 c2_i32
  let v243 : BitVec 32 := Scalar.addi v0 c0_i32_109
  let v244 : Index := Scalar.indexCast v243
  ![11, v244.toNat]
def k0_off13 (i : grid0.Coords) (c0_i32_119 : BitVec 32) : Fin 2 → Nat :=
  let c12 : Index := 12#32
  let arg1 : BitVec 32 := BitVec.ofNat 32 (i 1).val
  let c2_i32 : BitVec 32 := 2#32
  let v0 : BitVec 32 := Scalar.muli arg1 c2_i32
  let v265 : BitVec 32 := Scalar.addi v0 c0_i32_119
  let v266 : Index := Scalar.indexCast v265
  ![12, v266.toNat]
def k0_off14 (i : grid0.Coords) (c0_i32_129 : BitVec 32) : Fin 2 → Nat :=
  let c13 : Index := 13#32
  let arg1 : BitVec 32 := BitVec.ofNat 32 (i 1).val
  let c2_i32 : BitVec 32 := 2#32
  let v0 : BitVec 32 := Scalar.muli arg1 c2_i32
  let v287 : BitVec 32 := Scalar.addi v0 c0_i32_129
  let v288 : Index := Scalar.indexCast v287
  ![13, v288.toNat]
def k0_off15 (i : grid0.Coords) (c0_i32_139 : BitVec 32) : Fin 2 → Nat :=
  let c14 : Index := 14#32
  let arg1 : BitVec 32 := BitVec.ofNat 32 (i 1).val
  let c2_i32 : BitVec 32 := 2#32
  let v0 : BitVec 32 := Scalar.muli arg1 c2_i32
  let v309 : BitVec 32 := Scalar.addi v0 c0_i32_139
  let v310 : Index := Scalar.indexCast v309
  ![14, v310.toNat]
def k0_off16 (i : grid0.Coords) (c0_i32_149 : BitVec 32) : Fin 2 → Nat :=
  let c15 : Index := 15#32
  let arg1 : BitVec 32 := BitVec.ofNat 32 (i 1).val
  let c2_i32 : BitVec 32 := 2#32
  let v0 : BitVec 32 := Scalar.muli arg1 c2_i32
  let v331 : BitVec 32 := Scalar.addi v0 c0_i32_149
  let v332 : Index := Scalar.indexCast v331
  ![15, v332.toNat]
def k0_off17 (i : grid0.Coords) (c0_i32_159 : BitVec 32) : Fin 2 → Nat :=
  let c16 : Index := 16#32
  let arg1 : BitVec 32 := BitVec.ofNat 32 (i 1).val
  let c2_i32 : BitVec 32 := 2#32
  let v0 : BitVec 32 := Scalar.muli arg1 c2_i32
  let v353 : BitVec 32 := Scalar.addi v0 c0_i32_159
  let v354 : Index := Scalar.indexCast v353
  ![16, v354.toNat]
def k0_off18 (i : grid0.Coords) (c0_i32_169 : BitVec 32) : Fin 2 → Nat :=
  let c17 : Index := 17#32
  let arg1 : BitVec 32 := BitVec.ofNat 32 (i 1).val
  let c2_i32 : BitVec 32 := 2#32
  let v0 : BitVec 32 := Scalar.muli arg1 c2_i32
  let v375 : BitVec 32 := Scalar.addi v0 c0_i32_169
  let v376 : Index := Scalar.indexCast v375
  ![17, v376.toNat]
def k0_off19 (i : grid0.Coords) (c0_i32_179 : BitVec 32) : Fin 2 → Nat :=
  let c18 : Index := 18#32
  let arg1 : BitVec 32 := BitVec.ofNat 32 (i 1).val
  let c2_i32 : BitVec 32 := 2#32
  let v0 : BitVec 32 := Scalar.muli arg1 c2_i32
  let v397 : BitVec 32 := Scalar.addi v0 c0_i32_179
  let v398 : Index := Scalar.indexCast v397
  ![18, v398.toNat]
def k0_off20 (i : grid0.Coords) (c0_i32_189 : BitVec 32) : Fin 2 → Nat :=
  let c19 : Index := 19#32
  let arg1 : BitVec 32 := BitVec.ofNat 32 (i 1).val
  let c2_i32 : BitVec 32 := 2#32
  let v0 : BitVec 32 := Scalar.muli arg1 c2_i32
  let v419 : BitVec 32 := Scalar.addi v0 c0_i32_189
  let v420 : Index := Scalar.indexCast v419
  ![19, v420.toNat]
def k0_off21 (i : grid0.Coords) (c0_i32_199 : BitVec 32) : Fin 2 → Nat :=
  let c20 : Index := 20#32
  let arg1 : BitVec 32 := BitVec.ofNat 32 (i 1).val
  let c2_i32 : BitVec 32 := 2#32
  let v0 : BitVec 32 := Scalar.muli arg1 c2_i32
  let v441 : BitVec 32 := Scalar.addi v0 c0_i32_199
  let v442 : Index := Scalar.indexCast v441
  ![20, v442.toNat]
def k0_off22 (i : grid0.Coords) (c0_i32_209 : BitVec 32) : Fin 2 → Nat :=
  let c21 : Index := 21#32
  let arg1 : BitVec 32 := BitVec.ofNat 32 (i 1).val
  let c2_i32 : BitVec 32 := 2#32
  let v0 : BitVec 32 := Scalar.muli arg1 c2_i32
  let v463 : BitVec 32 := Scalar.addi v0 c0_i32_209
  let v464 : Index := Scalar.indexCast v463
  ![21, v464.toNat]
def k0_off23 (i : grid0.Coords) (c0_i32_219 : BitVec 32) : Fin 2 → Nat :=
  let c22 : Index := 22#32
  let arg1 : BitVec 32 := BitVec.ofNat 32 (i 1).val
  let c2_i32 : BitVec 32 := 2#32
  let v0 : BitVec 32 := Scalar.muli arg1 c2_i32
  let v485 : BitVec 32 := Scalar.addi v0 c0_i32_219
  let v486 : Index := Scalar.indexCast v485
  ![22, v486.toNat]
def k0_off24 (i : grid0.Coords) (c0_i32_229 : BitVec 32) : Fin 2 → Nat :=
  let c23 : Index := 23#32
  let arg1 : BitVec 32 := BitVec.ofNat 32 (i 1).val
  let c2_i32 : BitVec 32 := 2#32
  let v0 : BitVec 32 := Scalar.muli arg1 c2_i32
  let v507 : BitVec 32 := Scalar.addi v0 c0_i32_229
  let v508 : Index := Scalar.indexCast v507
  ![23, v508.toNat]
def k0_off25 (i : grid0.Coords) (c0_i32_239 : BitVec 32) : Fin 2 → Nat :=
  let c24 : Index := 24#32
  let arg1 : BitVec 32 := BitVec.ofNat 32 (i 1).val
  let c2_i32 : BitVec 32 := 2#32
  let v0 : BitVec 32 := Scalar.muli arg1 c2_i32
  let v529 : BitVec 32 := Scalar.addi v0 c0_i32_239
  let v530 : Index := Scalar.indexCast v529
  ![24, v530.toNat]
def k0_off26 (i : grid0.Coords) (c0_i32_249 : BitVec 32) : Fin 2 → Nat :=
  let c25 : Index := 25#32
  let arg1 : BitVec 32 := BitVec.ofNat 32 (i 1).val
  let c2_i32 : BitVec 32 := 2#32
  let v0 : BitVec 32 := Scalar.muli arg1 c2_i32
  let v551 : BitVec 32 := Scalar.addi v0 c0_i32_249
  let v552 : Index := Scalar.indexCast v551
  ![25, v552.toNat]
def k0_off27 (i : grid0.Coords) (c0_i32_259 : BitVec 32) : Fin 2 → Nat :=
  let c26 : Index := 26#32
  let arg1 : BitVec 32 := BitVec.ofNat 32 (i 1).val
  let c2_i32 : BitVec 32 := 2#32
  let v0 : BitVec 32 := Scalar.muli arg1 c2_i32
  let v573 : BitVec 32 := Scalar.addi v0 c0_i32_259
  let v574 : Index := Scalar.indexCast v573
  ![26, v574.toNat]
def k0_off28 (i : grid0.Coords) (c0_i32_269 : BitVec 32) : Fin 2 → Nat :=
  let c27 : Index := 27#32
  let arg1 : BitVec 32 := BitVec.ofNat 32 (i 1).val
  let c2_i32 : BitVec 32 := 2#32
  let v0 : BitVec 32 := Scalar.muli arg1 c2_i32
  let v595 : BitVec 32 := Scalar.addi v0 c0_i32_269
  let v596 : Index := Scalar.indexCast v595
  ![27, v596.toNat]
def k0_off29 (i : grid0.Coords) (c0_i32_279 : BitVec 32) : Fin 2 → Nat :=
  let c28 : Index := 28#32
  let arg1 : BitVec 32 := BitVec.ofNat 32 (i 1).val
  let c2_i32 : BitVec 32 := 2#32
  let v0 : BitVec 32 := Scalar.muli arg1 c2_i32
  let v617 : BitVec 32 := Scalar.addi v0 c0_i32_279
  let v618 : Index := Scalar.indexCast v617
  ![28, v618.toNat]
def k0_off30 (i : grid0.Coords) (c0_i32_289 : BitVec 32) : Fin 2 → Nat :=
  let c29 : Index := 29#32
  let arg1 : BitVec 32 := BitVec.ofNat 32 (i 1).val
  let c2_i32 : BitVec 32 := 2#32
  let v0 : BitVec 32 := Scalar.muli arg1 c2_i32
  let v639 : BitVec 32 := Scalar.addi v0 c0_i32_289
  let v640 : Index := Scalar.indexCast v639
  ![29, v640.toNat]
def k0_off31 (i : grid0.Coords) (c0_i32_299 : BitVec 32) : Fin 2 → Nat :=
  let c30 : Index := 30#32
  let arg1 : BitVec 32 := BitVec.ofNat 32 (i 1).val
  let c2_i32 : BitVec 32 := 2#32
  let v0 : BitVec 32 := Scalar.muli arg1 c2_i32
  let v661 : BitVec 32 := Scalar.addi v0 c0_i32_299
  let v662 : Index := Scalar.indexCast v661
  ![30, v662.toNat]
def k0_off32 (i : grid0.Coords) (c0_i32_309 : BitVec 32) : Fin 2 → Nat :=
  let c31 : Index := 31#32
  let arg1 : BitVec 32 := BitVec.ofNat 32 (i 1).val
  let c2_i32 : BitVec 32 := 2#32
  let v0 : BitVec 32 := Scalar.muli arg1 c2_i32
  let v683 : BitVec 32 := Scalar.addi v0 c0_i32_309
  let v684 : Index := Scalar.indexCast v683
  ![31, v684.toNat]
def k0_off33 (i : grid0.Coords) (c0_i32_319 : BitVec 32) : Fin 2 → Nat :=
  let c32 : Index := 32#32
  let arg1 : BitVec 32 := BitVec.ofNat 32 (i 1).val
  let c2_i32 : BitVec 32 := 2#32
  let v0 : BitVec 32 := Scalar.muli arg1 c2_i32
  let v705 : BitVec 32 := Scalar.addi v0 c0_i32_319
  let v706 : Index := Scalar.indexCast v705
  ![32, v706.toNat]
def k0_off34 (i : grid0.Coords) (c0_i32_329 : BitVec 32) : Fin 2 → Nat :=
  let c33 : Index := 33#32
  let arg1 : BitVec 32 := BitVec.ofNat 32 (i 1).val
  let c2_i32 : BitVec 32 := 2#32
  let v0 : BitVec 32 := Scalar.muli arg1 c2_i32
  let v727 : BitVec 32 := Scalar.addi v0 c0_i32_329
  let v728 : Index := Scalar.indexCast v727
  ![33, v728.toNat]
def k0_off35 (i : grid0.Coords) (c0_i32_339 : BitVec 32) : Fin 2 → Nat :=
  let c34 : Index := 34#32
  let arg1 : BitVec 32 := BitVec.ofNat 32 (i 1).val
  let c2_i32 : BitVec 32 := 2#32
  let v0 : BitVec 32 := Scalar.muli arg1 c2_i32
  let v749 : BitVec 32 := Scalar.addi v0 c0_i32_339
  let v750 : Index := Scalar.indexCast v749
  ![34, v750.toNat]
def k0_off36 (i : grid0.Coords) (c0_i32_349 : BitVec 32) : Fin 2 → Nat :=
  let c35 : Index := 35#32
  let arg1 : BitVec 32 := BitVec.ofNat 32 (i 1).val
  let c2_i32 : BitVec 32 := 2#32
  let v0 : BitVec 32 := Scalar.muli arg1 c2_i32
  let v771 : BitVec 32 := Scalar.addi v0 c0_i32_349
  let v772 : Index := Scalar.indexCast v771
  ![35, v772.toNat]
def k0_off37 (i : grid0.Coords) (c0_i32_359 : BitVec 32) : Fin 2 → Nat :=
  let c36 : Index := 36#32
  let arg1 : BitVec 32 := BitVec.ofNat 32 (i 1).val
  let c2_i32 : BitVec 32 := 2#32
  let v0 : BitVec 32 := Scalar.muli arg1 c2_i32
  let v793 : BitVec 32 := Scalar.addi v0 c0_i32_359
  let v794 : Index := Scalar.indexCast v793
  ![36, v794.toNat]
def k0_off38 (i : grid0.Coords) (c0_i32_369 : BitVec 32) : Fin 2 → Nat :=
  let c37 : Index := 37#32
  let arg1 : BitVec 32 := BitVec.ofNat 32 (i 1).val
  let c2_i32 : BitVec 32 := 2#32
  let v0 : BitVec 32 := Scalar.muli arg1 c2_i32
  let v815 : BitVec 32 := Scalar.addi v0 c0_i32_369
  let v816 : Index := Scalar.indexCast v815
  ![37, v816.toNat]
def k0_off39 (i : grid0.Coords) (c0_i32_379 : BitVec 32) : Fin 2 → Nat :=
  let c38 : Index := 38#32
  let arg1 : BitVec 32 := BitVec.ofNat 32 (i 1).val
  let c2_i32 : BitVec 32 := 2#32
  let v0 : BitVec 32 := Scalar.muli arg1 c2_i32
  let v837 : BitVec 32 := Scalar.addi v0 c0_i32_379
  let v838 : Index := Scalar.indexCast v837
  ![38, v838.toNat]
def k0_off40 (i : grid0.Coords) (c0_i32_389 : BitVec 32) : Fin 2 → Nat :=
  let c39 : Index := 39#32
  let arg1 : BitVec 32 := BitVec.ofNat 32 (i 1).val
  let c2_i32 : BitVec 32 := 2#32
  let v0 : BitVec 32 := Scalar.muli arg1 c2_i32
  let v859 : BitVec 32 := Scalar.addi v0 c0_i32_389
  let v860 : Index := Scalar.indexCast v859
  ![39, v860.toNat]
def k0_off41 (i : grid0.Coords) (c0_i32_400 : BitVec 32) : Fin 2 → Nat :=
  let c0_401 : Index := 0#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v883 : BitVec 32 := Scalar.addi v882 c0_i32_400
  let v884 : Index := Scalar.indexCast v883
  ![0, v884.toNat]
def k0_off42 (i : grid0.Coords) (c0_i32_412 : BitVec 32) : Fin 2 → Nat :=
  let c1_413 : Index := 1#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v905 : BitVec 32 := Scalar.addi v882 c0_i32_412
  let v906 : Index := Scalar.indexCast v905
  ![1, v906.toNat]
def k0_off43 (i : grid0.Coords) (c0_i32_424 : BitVec 32) : Fin 2 → Nat :=
  let c2_425 : Index := 2#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v927 : BitVec 32 := Scalar.addi v882 c0_i32_424
  let v928 : Index := Scalar.indexCast v927
  ![2, v928.toNat]
def k0_off44 (i : grid0.Coords) (c0_i32_436 : BitVec 32) : Fin 2 → Nat :=
  let c3_437 : Index := 3#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v949 : BitVec 32 := Scalar.addi v882 c0_i32_436
  let v950 : Index := Scalar.indexCast v949
  ![3, v950.toNat]
def k0_off45 (i : grid0.Coords) (c0_i32_448 : BitVec 32) : Fin 2 → Nat :=
  let c4_449 : Index := 4#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v971 : BitVec 32 := Scalar.addi v882 c0_i32_448
  let v972 : Index := Scalar.indexCast v971
  ![4, v972.toNat]
def k0_off46 (i : grid0.Coords) (c0_i32_460 : BitVec 32) : Fin 2 → Nat :=
  let c5_461 : Index := 5#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v993 : BitVec 32 := Scalar.addi v882 c0_i32_460
  let v994 : Index := Scalar.indexCast v993
  ![5, v994.toNat]
def k0_off47 (i : grid0.Coords) (c0_i32_472 : BitVec 32) : Fin 2 → Nat :=
  let c6_473 : Index := 6#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1015 : BitVec 32 := Scalar.addi v882 c0_i32_472
  let v1016 : Index := Scalar.indexCast v1015
  ![6, v1016.toNat]
def k0_off48 (i : grid0.Coords) (c0_i32_484 : BitVec 32) : Fin 2 → Nat :=
  let c7_485 : Index := 7#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1037 : BitVec 32 := Scalar.addi v882 c0_i32_484
  let v1038 : Index := Scalar.indexCast v1037
  ![7, v1038.toNat]
def k0_off49 (i : grid0.Coords) (c0_i32_496 : BitVec 32) : Fin 2 → Nat :=
  let c8_497 : Index := 8#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1059 : BitVec 32 := Scalar.addi v882 c0_i32_496
  let v1060 : Index := Scalar.indexCast v1059
  ![8, v1060.toNat]
def k0_off50 (i : grid0.Coords) (c0_i32_508 : BitVec 32) : Fin 2 → Nat :=
  let c9_509 : Index := 9#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1081 : BitVec 32 := Scalar.addi v882 c0_i32_508
  let v1082 : Index := Scalar.indexCast v1081
  ![9, v1082.toNat]
def k0_off51 (i : grid0.Coords) (c0_i32_520 : BitVec 32) : Fin 2 → Nat :=
  let c10_521 : Index := 10#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1103 : BitVec 32 := Scalar.addi v882 c0_i32_520
  let v1104 : Index := Scalar.indexCast v1103
  ![10, v1104.toNat]
def k0_off52 (i : grid0.Coords) (c0_i32_532 : BitVec 32) : Fin 2 → Nat :=
  let c11_533 : Index := 11#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1125 : BitVec 32 := Scalar.addi v882 c0_i32_532
  let v1126 : Index := Scalar.indexCast v1125
  ![11, v1126.toNat]
def k0_off53 (i : grid0.Coords) (c0_i32_544 : BitVec 32) : Fin 2 → Nat :=
  let c12_545 : Index := 12#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1147 : BitVec 32 := Scalar.addi v882 c0_i32_544
  let v1148 : Index := Scalar.indexCast v1147
  ![12, v1148.toNat]
def k0_off54 (i : grid0.Coords) (c0_i32_556 : BitVec 32) : Fin 2 → Nat :=
  let c13_557 : Index := 13#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1169 : BitVec 32 := Scalar.addi v882 c0_i32_556
  let v1170 : Index := Scalar.indexCast v1169
  ![13, v1170.toNat]
def k0_off55 (i : grid0.Coords) (c0_i32_568 : BitVec 32) : Fin 2 → Nat :=
  let c14_569 : Index := 14#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1191 : BitVec 32 := Scalar.addi v882 c0_i32_568
  let v1192 : Index := Scalar.indexCast v1191
  ![14, v1192.toNat]
def k0_off56 (i : grid0.Coords) (c0_i32_580 : BitVec 32) : Fin 2 → Nat :=
  let c15_581 : Index := 15#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1213 : BitVec 32 := Scalar.addi v882 c0_i32_580
  let v1214 : Index := Scalar.indexCast v1213
  ![15, v1214.toNat]
def k0_off57 (i : grid0.Coords) (c0_i32_592 : BitVec 32) : Fin 2 → Nat :=
  let c16_593 : Index := 16#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1235 : BitVec 32 := Scalar.addi v882 c0_i32_592
  let v1236 : Index := Scalar.indexCast v1235
  ![16, v1236.toNat]
def k0_off58 (i : grid0.Coords) (c0_i32_604 : BitVec 32) : Fin 2 → Nat :=
  let c17_605 : Index := 17#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1257 : BitVec 32 := Scalar.addi v882 c0_i32_604
  let v1258 : Index := Scalar.indexCast v1257
  ![17, v1258.toNat]
def k0_off59 (i : grid0.Coords) (c0_i32_616 : BitVec 32) : Fin 2 → Nat :=
  let c18_617 : Index := 18#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1279 : BitVec 32 := Scalar.addi v882 c0_i32_616
  let v1280 : Index := Scalar.indexCast v1279
  ![18, v1280.toNat]
def k0_off60 (i : grid0.Coords) (c0_i32_628 : BitVec 32) : Fin 2 → Nat :=
  let c19_629 : Index := 19#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1301 : BitVec 32 := Scalar.addi v882 c0_i32_628
  let v1302 : Index := Scalar.indexCast v1301
  ![19, v1302.toNat]
def k0_off61 (i : grid0.Coords) (c0_i32_640 : BitVec 32) : Fin 2 → Nat :=
  let c20_641 : Index := 20#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1323 : BitVec 32 := Scalar.addi v882 c0_i32_640
  let v1324 : Index := Scalar.indexCast v1323
  ![20, v1324.toNat]
def k0_off62 (i : grid0.Coords) (c0_i32_652 : BitVec 32) : Fin 2 → Nat :=
  let c21_653 : Index := 21#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1345 : BitVec 32 := Scalar.addi v882 c0_i32_652
  let v1346 : Index := Scalar.indexCast v1345
  ![21, v1346.toNat]
def k0_off63 (i : grid0.Coords) (c0_i32_664 : BitVec 32) : Fin 2 → Nat :=
  let c22_665 : Index := 22#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1367 : BitVec 32 := Scalar.addi v882 c0_i32_664
  let v1368 : Index := Scalar.indexCast v1367
  ![22, v1368.toNat]
def k0_off64 (i : grid0.Coords) (c0_i32_676 : BitVec 32) : Fin 2 → Nat :=
  let c23_677 : Index := 23#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1389 : BitVec 32 := Scalar.addi v882 c0_i32_676
  let v1390 : Index := Scalar.indexCast v1389
  ![23, v1390.toNat]
def k0_off65 (i : grid0.Coords) (c0_i32_688 : BitVec 32) : Fin 2 → Nat :=
  let c24_689 : Index := 24#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1411 : BitVec 32 := Scalar.addi v882 c0_i32_688
  let v1412 : Index := Scalar.indexCast v1411
  ![24, v1412.toNat]
def k0_off66 (i : grid0.Coords) (c0_i32_700 : BitVec 32) : Fin 2 → Nat :=
  let c25_701 : Index := 25#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1433 : BitVec 32 := Scalar.addi v882 c0_i32_700
  let v1434 : Index := Scalar.indexCast v1433
  ![25, v1434.toNat]
def k0_off67 (i : grid0.Coords) (c0_i32_712 : BitVec 32) : Fin 2 → Nat :=
  let c26_713 : Index := 26#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1455 : BitVec 32 := Scalar.addi v882 c0_i32_712
  let v1456 : Index := Scalar.indexCast v1455
  ![26, v1456.toNat]
def k0_off68 (i : grid0.Coords) (c0_i32_724 : BitVec 32) : Fin 2 → Nat :=
  let c27_725 : Index := 27#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1477 : BitVec 32 := Scalar.addi v882 c0_i32_724
  let v1478 : Index := Scalar.indexCast v1477
  ![27, v1478.toNat]
def k0_off69 (i : grid0.Coords) (c0_i32_736 : BitVec 32) : Fin 2 → Nat :=
  let c28_737 : Index := 28#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1499 : BitVec 32 := Scalar.addi v882 c0_i32_736
  let v1500 : Index := Scalar.indexCast v1499
  ![28, v1500.toNat]
def k0_off70 (i : grid0.Coords) (c0_i32_748 : BitVec 32) : Fin 2 → Nat :=
  let c29_749 : Index := 29#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1521 : BitVec 32 := Scalar.addi v882 c0_i32_748
  let v1522 : Index := Scalar.indexCast v1521
  ![29, v1522.toNat]
def k0_off71 (i : grid0.Coords) (c0_i32_760 : BitVec 32) : Fin 2 → Nat :=
  let c30_761 : Index := 30#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1543 : BitVec 32 := Scalar.addi v882 c0_i32_760
  let v1544 : Index := Scalar.indexCast v1543
  ![30, v1544.toNat]
def k0_off72 (i : grid0.Coords) (c0_i32_772 : BitVec 32) : Fin 2 → Nat :=
  let c31_773 : Index := 31#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1565 : BitVec 32 := Scalar.addi v882 c0_i32_772
  let v1566 : Index := Scalar.indexCast v1565
  ![31, v1566.toNat]
def k0_off73 (i : grid0.Coords) (c0_i32_784 : BitVec 32) : Fin 2 → Nat :=
  let c32_785 : Index := 32#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1587 : BitVec 32 := Scalar.addi v882 c0_i32_784
  let v1588 : Index := Scalar.indexCast v1587
  ![32, v1588.toNat]
def k0_off74 (i : grid0.Coords) (c0_i32_796 : BitVec 32) : Fin 2 → Nat :=
  let c33_797 : Index := 33#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1609 : BitVec 32 := Scalar.addi v882 c0_i32_796
  let v1610 : Index := Scalar.indexCast v1609
  ![33, v1610.toNat]
def k0_off75 (i : grid0.Coords) (c0_i32_808 : BitVec 32) : Fin 2 → Nat :=
  let c34_809 : Index := 34#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1631 : BitVec 32 := Scalar.addi v882 c0_i32_808
  let v1632 : Index := Scalar.indexCast v1631
  ![34, v1632.toNat]
def k0_off76 (i : grid0.Coords) (c0_i32_820 : BitVec 32) : Fin 2 → Nat :=
  let c35_821 : Index := 35#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1653 : BitVec 32 := Scalar.addi v882 c0_i32_820
  let v1654 : Index := Scalar.indexCast v1653
  ![35, v1654.toNat]
def k0_off77 (i : grid0.Coords) (c0_i32_832 : BitVec 32) : Fin 2 → Nat :=
  let c36_833 : Index := 36#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1675 : BitVec 32 := Scalar.addi v882 c0_i32_832
  let v1676 : Index := Scalar.indexCast v1675
  ![36, v1676.toNat]
def k0_off78 (i : grid0.Coords) (c0_i32_844 : BitVec 32) : Fin 2 → Nat :=
  let c37_845 : Index := 37#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1697 : BitVec 32 := Scalar.addi v882 c0_i32_844
  let v1698 : Index := Scalar.indexCast v1697
  ![37, v1698.toNat]
def k0_off79 (i : grid0.Coords) (c0_i32_856 : BitVec 32) : Fin 2 → Nat :=
  let c38_857 : Index := 38#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1719 : BitVec 32 := Scalar.addi v882 c0_i32_856
  let v1720 : Index := Scalar.indexCast v1719
  ![38, v1720.toNat]
def k0_off80 (i : grid0.Coords) (c0_i32_868 : BitVec 32) : Fin 2 → Nat :=
  let c39_869 : Index := 39#32
  let c34_i32 : BitVec 32 := 34#32
  let arg1 : BitVec 32 := BitVec.ofNat 32 (i 1).val
  let c2_i32_399 : BitVec 32 := 2#32
  let v881 : BitVec 32 := Scalar.muli arg1 c2_i32_399
  let v882 : BitVec 32 := Scalar.addi c34_i32 v881
  let v1741 : BitVec 32 := Scalar.addi v882 c0_i32_868
  let v1742 : Index := Scalar.indexCast v1741
  ![39, v1742.toNat]
def k0_cond1 (i : grid0.Coords) : BitVec 1 :=
  let arg1 : BitVec 32 := BitVec.ofNat 32 (i 1).val
  let c16_i32 : BitVec 32 := 16#32
  let v1996 : BitVec 1 := Scalar.cmpi .eq arg1 c16_i32
  let v1997 : BitVec 32 := Scalar.extui v1996
  let c0_i32_966 : BitVec 32 := 0#32
  let v1998 : BitVec 1 := Scalar.cmpi .ne v1997 c0_i32_966
  v1998

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S40x68 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1280x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5120x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S5120x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1280x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1280x34 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1280x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateUpRefIdeal.lean ====
abbrev S3840x5120 : Shape := ⟨2, ![3840, 5120]⟩
abbrev S5120x8704 : Shape := ⟨2, ![5120, 8704]⟩
abbrev S40x68 : Shape := ⟨2, ![40, 68]⟩
abbrev S3840x4352 : Shape := ⟨2, ![3840, 4352]⟩
abbrev S3840x34 : Shape := ⟨2, ![3840, 34]⟩
abbrev S40x68x1 : Shape := ⟨3, ![40, 68, 1]⟩
abbrev S40x68x128 : Shape := ⟨3, ![40, 68, 128]⟩
abbrev S40x8704 : Shape := ⟨2, ![40, 8704]⟩
abbrev S40x128x8704 : Shape := ⟨3, ![40, 128, 8704]⟩
abbrev S40x1x8704 : Shape := ⟨3, ![40, 1, 8704]⟩
abbrev S3840x8704 : Shape := ⟨2, ![3840, 8704]⟩
abbrev S3840x34x128 : Shape := ⟨3, ![3840, 34, 128]⟩
abbrev S3840x34x1 : Shape := ⟨3, ![3840, 34, 1]⟩
abbrev S1x1x247 : Shape := ⟨3, ![1, 1, 247]⟩
abbrev S3840x34x247 : Shape := ⟨3, ![3840, 34, 247]⟩

abbrev nBuf : Space → Nat
  | .hbm => 6
  | .vmem => 6
  | .smem => 0
  | _ => 0

abbrev bufTy : (tb : Table) → Fin (tcTables nBuf tb) → BufTy
  | .hbm, ⟨0, _⟩ => ⟨S3840x5120, .bf16⟩
  | .hbm, ⟨1, _⟩ => ⟨S5120x8704, .fp8e4m3⟩
  | .hbm, ⟨2, _⟩ => ⟨S40x68, .f32⟩
  | .hbm, ⟨3, _⟩ => ⟨S3840x4352, .fp8e4m3⟩
  | .hbm, ⟨4, _⟩ => ⟨S3840x34, .f32⟩
  | .hbm, ⟨5, _⟩ => ⟨S3840x4352, .bf16⟩
  | .local _ .vmem, ⟨0, _⟩ => ⟨S3840x5120, .bf16⟩
  | .local _ .vmem, ⟨1, _⟩ => ⟨S5120x8704, .fp8e4m3⟩
  | .local _ .vmem, ⟨2, _⟩ => ⟨S40x68, .f32⟩
  | .local _ .vmem, ⟨3, _⟩ => ⟨S3840x4352, .fp8e4m3⟩
  | .local _ .vmem, ⟨4, _⟩ => ⟨S3840x34, .f32⟩
  | .local _ .vmem, ⟨5, _⟩ => ⟨S3840x4352, .bf16⟩
  | _, _ => ⟨S3840x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3840x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x8704 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x68 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3840x4352 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3840x34 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3840x4352 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Qkv.lean ====
abbrev S3840x5120 : Shape := ⟨2, ![3840, 5120]⟩
abbrev S5120x3072 : Shape := ⟨2, ![5120, 3072]⟩
abbrev S40x24 : Shape := ⟨2, ![40, 24]⟩
abbrev S5120x256 : Shape := ⟨2, ![5120, 256]⟩
abbrev S40x2 : Shape := ⟨2, ![40, 2]⟩
abbrev S1x256 : Shape := ⟨2, ![1, 256]⟩
abbrev S3840x32 : Shape := ⟨2, ![3840, 32]⟩
abbrev S1 : Shape := ⟨1, ![1]⟩
abbrev S3840x1536 : Shape := ⟨2, ![3840, 1536]⟩
abbrev S3840x256 : Shape := ⟨2, ![3840, 256]⟩
abbrev S768x5120 : Shape := ⟨2, ![768, 5120]⟩
abbrev S5120x512 : Shape := ⟨2, ![5120, 512]⟩
abbrev S768x32 : Shape := ⟨2, ![768, 32]⟩
abbrev S768x256 : Shape := ⟨2, ![768, 256]⟩
abbrev S1x1 : Shape := ⟨2, ![1, 1]⟩
abbrev S128x128 : Shape := ⟨2, ![128, 128]⟩
abbrev S768x512 : Shape := ⟨2, ![768, 512]⟩
abbrev S768 : Shape := ⟨1, ![768]⟩
abbrev S768x1 : Shape := ⟨2, ![768, 1]⟩
abbrev S768x128 : Shape := ⟨2, ![768, 128]⟩
abbrev S768x64 : Shape := ⟨2, ![768, 64]⟩

abbrev nBuf : Space → Nat
  | .hbm => 17
  | .vmem => 21
  | .smem => 5
  | _ => 0

abbrev bufTy : (tb : Table) → Fin (tcTables nBuf tb) → BufTy
  | .hbm, ⟨0, _⟩ => ⟨S3840x5120, .bf16⟩
  | .hbm, ⟨1, _⟩ => ⟨S5120x3072, .fp8e4m3⟩
  | .hbm, ⟨2, _⟩ => ⟨S40x24, .f32⟩
  | .hbm, ⟨3, _⟩ => ⟨S5120x256, .fp8e4m3⟩
  | .hbm, ⟨4, _⟩ => ⟨S40x2, .f32⟩
  | .hbm, ⟨5, _⟩ => ⟨S5120x256, .fp8e4m3⟩
  | .hbm, ⟨6, _⟩ => ⟨S40x2, .f32⟩
  | .hbm, ⟨7, _⟩ => ⟨S1x256, .f32⟩
  | .hbm, ⟨8, _⟩ => ⟨S1x256, .f32⟩
  | .hbm, ⟨9, _⟩ => ⟨S3840x32, .f32⟩
  | .hbm, ⟨10, _⟩ => ⟨S3840x32, .f32⟩
  | .hbm, ⟨11, _⟩ => ⟨S1, .f32⟩
  | .hbm, ⟨12, _⟩ => ⟨S1, .f32⟩
  | .hbm, ⟨13, _⟩ => ⟨S3840x1536, .bf16⟩
  | .hbm, ⟨14, _⟩ => ⟨S3840x1536, .f32⟩
  | .hbm, ⟨15, _⟩ => ⟨S3840x256, .fp8e4m3⟩
  | .hbm, ⟨16, _⟩ => ⟨S3840x256, .fp8e4m3⟩
  | .local _ .vmem, ⟨0, _⟩ => ⟨S768x5120, .bf16⟩
  | .local _ .vmem, ⟨1, _⟩ => ⟨S768x5120, .bf16⟩
  | .local _ .vmem, ⟨2, _⟩ => ⟨S5120x512, .fp8e4m3⟩
  | .local _ .vmem, ⟨3, _⟩ => ⟨S5120x512, .fp8e4m3⟩
  | .local _ .vmem, ⟨4, _⟩ => ⟨S5120x256, .fp8e4m3⟩
  | .local _ .vmem, ⟨5, _⟩ => ⟨S5120x256, .fp8e4m3⟩
  | .local _ .vmem, ⟨6, _⟩ => ⟨S1x256, .f32⟩
  | .local _ .vmem, ⟨7, _⟩ => ⟨S1x256, .f32⟩
  | .local _ .vmem, ⟨8, _⟩ => ⟨S768x32, .f32⟩
  | .local _ .vmem, ⟨9, _⟩ => ⟨S768x32, .f32⟩
  | .local _ .vmem, ⟨10, _⟩ => ⟨S768x32, .f32⟩
  | .local _ .vmem, ⟨11, _⟩ => ⟨S768x32, .f32⟩
  | .local _ .vmem, ⟨12, _⟩ => ⟨S768x256, .bf16⟩
  | .local _ .vmem, ⟨13, _⟩ => ⟨S768x256, .bf16⟩
  | .local _ .vmem, ⟨14, _⟩ => ⟨S768x256, .f32⟩
  | .local _ .vmem, ⟨15, _⟩ => ⟨S768x256, .f32⟩
  | .local _ .vmem, ⟨16, _⟩ => ⟨S768x256, .fp8e4m3⟩
  | .local _ .vmem, ⟨17, _⟩ => ⟨S768x256, .fp8e4m3⟩
  | .local _ .vmem, ⟨18, _⟩ => ⟨S768x256, .fp8e4m3⟩
  | .local _ .vmem, ⟨19, _⟩ => ⟨S768x256, .fp8e4m3⟩
  | .local _ .vmem, ⟨20, _⟩ => ⟨S5120x512, .bf16⟩
  | .local _ .smem, ⟨0, _⟩ => ⟨S40x24, .f32⟩
  | .local _ .smem, ⟨1, _⟩ => ⟨S40x2, .f32⟩
  | .local _ .smem, ⟨2, _⟩ => ⟨S40x2, .f32⟩
  | .local _ .smem, ⟨3, _⟩ => ⟨S1, .f32⟩
  | .local _ .smem, ⟨4, _⟩ => ⟨S1, .f32⟩
  | _, _ => ⟨S3840x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg11_1 : Ref sig .tc := ⟨.vmem, 9, rfl⟩
abbrev cc0_stg12_0 : Ref sig .tc := ⟨.vmem, 10, rfl⟩
abbrev cc0_stg12_1 : Ref sig .tc := ⟨.vmem, 11, rfl⟩
abbrev cc0_stg13_0 : Ref sig .tc := ⟨.vmem, 12, rfl⟩
abbrev cc0_stg13_1 : Ref sig .tc := ⟨.vmem, 13, rfl⟩
abbrev cc0_stg14_0 : Ref sig .tc := ⟨.vmem, 14, rfl⟩
abbrev cc0_stg14_1 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_scratch0 : Ref sig .tc := ⟨.vmem, 20, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨2, ![5, 7], ![false, false]⟩

def k0_cond1 (i : grid0.Coords) : BitVec 1 :=
  let arg1 : BitVec 32 := BitVec.ofNat 32 (i 1).val
  let c6_i32 : BitVec 32 := 6#32
  let v0 : BitVec 1 := Scalar.cmpi .slt arg1 c6_i32
  let v1 : BitVec 32 := Scalar.extui v0
  let c0_i32 : BitVec 32 := 0#32
  let v2 : BitVec 1 := Scalar.cmpi .ne v1 c0_i32
  v2

def k0_off1 (i : grid0.Coords) (c0_i32_2 : BitVec 32) : Fin 2 → Nat :=
  let c0 : Index := 0#32
  let arg1 : BitVec 32 := BitVec.ofNat 32 (i 1).val
  let c4_i32 : BitVec 32 := 4#32
  let v6 : BitVec 32 := Scalar.muli arg1 c4_i32
  let v7 : BitVec 32 := Scalar.addi v6 c0_i32_2
  let v8 : Index := Scalar.indexCast v7
  ![0, v8.toNat]
def k0_off2 (i : grid0.Coords) (c0_i32_19 : BitVec 32) : Fin 2 → Nat :=
  let c1 : Index := 1#32
  let arg1 : BitVec 32 := BitVec.ofNat 32 (i 1).val
  let c4_i32 : BitVec 32 := 4#32
  let v6 : BitVec 32 := Scalar.muli arg1 c4_i32
  let v51 : BitVec 32 := Scalar.addi v6 c0_i32_19
  let v52 : Index := Scalar.indexCast v51
  ![1, v52.toNat]
def k0_off3 (i : grid0.Coords) (c0_i32_42 : BitVec 32) : Fin 2 → Nat :=
  let c2 : Index := 2#32
  let arg1 : BitVec 32 := BitVec.ofNat 32 (i 1).val
  let c4_i32 : BitVec 32 := 4#32
  let v6 : BitVec 32 := Scalar.muli arg1 c4_i32
  let v95 : BitVec 32 := Scalar.addi v6 c0_i32_42
  let v96 : Index := Scalar.indexCast v95
  ![2, v96.toNat]
def k0_off4 (i : grid0.Coords) (c0_i32_65 : BitVec 32) : Fin 2 → Nat :=
  let c3 : Index := 3#32
  let arg1 : BitVec 32 := BitVec.ofNat 32 (i 1).val
  let c4_i32 : BitVec 32 := 4#32
  let v6 : BitVec 32 := Scalar.muli arg1 c4_i32
  let v139 : BitVec 32 := Scalar.addi v6 c0_i32_65
  let v140 : Index := Scalar.indexCast v139
  ![3, v140.toNat]
def k0_off5 (i : grid0.Coords) (c0_i32_88 : BitVec 32) : Fin 2 → Nat :=
  let c4 : Index := 4#32
  let arg1 : BitVec 32 := BitVec.ofNat 32 (i 1).val
  let c4_i32 : BitVec 32 := 4#32
  let v6 : BitVec 32 := Scalar.muli arg1 c4_i32
  let v183 : BitVec 32 := Scalar.addi v6 c0_i32_88
  let v184 : Index := Scalar.indexCast v183
  ![4, v184.toNat]
def k0_off6 (i : grid0.Coords) (c0_i32_110 : BitVec 32) : Fin 2 → Nat :=
  let c5 : Index := 5#32
  let arg1 : BitVec 32 := BitVec.ofNat 32 (i 1).val
  let c4_i32 : BitVec 32 := 4#32
  let v6 : BitVec 32 := Scalar.muli arg1 c4_i32
  let v227 : BitVec 32 := Scalar.addi v6 c0_i32_110
  let v228 : Index := Scalar.indexCast v227
  ![5, v228.toNat]
def k0_off7 (i : grid0.Coords) (c0_i32_132 : BitVec 32) : Fin 2 → Nat :=
  let c6 : Index := 6#32
  let arg1 : BitVec 32 := BitVec.ofNat 32 (i 1).val
  let c4_i32 : BitVec 32 := 4#32
  let v6 : BitVec 32 := Scalar.muli arg1 c4_i32
  let v271 : BitVec 32 := Scalar.addi v6 c0_i32_132
  let v272 : Index := Scalar.indexCast v271
  ![6, v272.toNat]
def k0_off8 (i : grid0.Coords) (c0_i32_154 : BitVec 32) : Fin 2 → Nat :=
  let c7 : Index := 7#32
  let arg1 : BitVec 32 := BitVec.ofNat 32 (i 1).val
  let c4_i32 : BitVec 32 := 4#32
  let v6 : BitVec 32 := Scalar.muli arg1 c4_i32
  let v315 : BitVec 32 := Scalar.addi v6 c0_i32_154
  let v316 : Index := Scalar.indexCast v315
  ![7, v316.toNat]
def k0_off9 (i : grid0.Coords) (c0_i32_176 : BitVec 32) : Fin 2 → Nat :=
  let c8 : Index := 8#32
  let arg1 : BitVec 32 := BitVec.ofNat 32 (i 1).val
  let c4_i32 : BitVec 32 := 4#32
  let v6 : BitVec 32 := Scalar.muli arg1 c4_i32
  let v359 : BitVec 32 := Scalar.addi v6 c0_i32_176
  let v360 : Index := Scalar.indexCast v359
  ![8, v360.toNat]
def k0_off10 (i : grid0.Coords) (c0_i32_198 : BitVec 32) : Fin 2 → Nat :=
  let c9 : Index := 9#32
  let arg1 : BitVec 32 := BitVec.ofNat 32 (i 1).val
  let c4_i32 : BitVec 32 := 4#32
  let v6 : BitVec 32 := Scalar.muli arg1 c4_i32
  let v403 : BitVec 32 := Scalar.addi v6 c0_i32_198
  let v404 : Index := Scalar.indexCast v403
  ![9, v404.toNat]
def k0_off11 (i : grid0.Coords) (c0_i32_220 : BitVec 32) : Fin 2 → Nat :=
  let c10 : Index := 10#32
  let arg1 : BitVec 32 := BitVec.ofNat 32 (i 1).val
  let c4_i32 : BitVec 32 := 4#32
  let v6 : BitVec 32 := Scalar.muli arg1 c4_i32
  let v447 : BitVec 32 := Scalar.addi v6 c0_i32_220
  let v448 : Index := Scalar.indexCast v447
  ![10, v448.toNat]
def k0_off12 (i : grid0.Coords) (c0_i32_242 : BitVec 32) : Fin 2 → Nat :=
  let c11 : Index := 11#32
  let arg1 : BitVec 32 := BitVec.ofNat 32 (i 1).val
  let c4_i32 : BitVec 32 := 4#32
  let v6 : BitVec 32 := Scalar.muli arg1 c4_i32
  let v491 : BitVec 32 := Scalar.addi v6 c0_i32_242
  let v492 : Index := Scalar.indexCast v491
  ![11, v492.toNat]
def k0_off13 (i : grid0.Coords) (c0_i32_264 : BitVec 32) : Fin 2 → Nat :=
  let c12 : Index := 12#32
  let arg1 : BitVec 32 := BitVec.ofNat 32 (i 1).val
  let c4_i32 : BitVec 32 := 4#32
  let v6 : BitVec 32 := Scalar.muli arg1 c4_i32
  let v535 : BitVec 32 := Scalar.addi v6 c0_i32_264
  let v536 : Index := Scalar.indexCast v535
  ![12, v536.toNat]
def k0_off14 (i : grid0.Coords) (c0_i32_286 : BitVec 32) : Fin 2 → Nat :=
  let c13 : Index := 13#32
  let arg1 : BitVec 32 := BitVec.ofNat 32 (i 1).val
  let c4_i32 : BitVec 32 := 4#32
  let v6 : BitVec 32 := Scalar.muli arg1 c4_i32
  let v579 : BitVec 32 := Scalar.addi v6 c0_i32_286
  let v580 : Index := Scalar.indexCast v579
  ![13, v580.toNat]
def k0_off15 (i : grid0.Coords) (c0_i32_308 : BitVec 32) : Fin 2 → Nat :=
  let c14 : Index := 14#32
  let arg1 : BitVec 32 := BitVec.ofNat 32 (i 1).val
  let c4_i32 : BitVec 32 := 4#32
  let v6 : BitVec 32 := Scalar.muli arg1 c4_i32
  let v623 : BitVec 32 := Scalar.addi v6 c0_i32_308
  let v624 : Index := Scalar.indexCast v623
  ![14, v624.toNat]
def k0_off16 (i : grid0.Coords) (c0_i32_330 : BitVec 32) : Fin 2 → Nat :=
  let c15 : Index := 15#32
  let arg1 : BitVec 32 := BitVec.ofNat 32 (i 1).val
  let c4_i32 : BitVec 32 := 4#32
  let v6 : BitVec 32 := Scalar.muli arg1 c4_i32
  let v667 : BitVec 32 := Scalar.addi v6 c0_i32_330
  let v668 : Index := Scalar.indexCast v667
  ![15, v668.toNat]
def k0_off17 (i : grid0.Coords) (c0_i32_352 : BitVec 32) : Fin 2 → Nat :=
  let c16 : Index := 16#32
  let arg1 : BitVec 32 := BitVec.ofNat 32 (i 1).val
  let c4_i32 : BitVec 32 := 4#32
  let v6 : BitVec 32 := Scalar.muli arg1 c4_i32
  let v711 : BitVec 32 := Scalar.addi v6 c0_i32_352
  let v712 : Index := Scalar.indexCast v711
  ![16, v712.toNat]
def k0_off18 (i : grid0.Coords) (c0_i32_374 : BitVec 32) : Fin 2 → Nat :=
  let c17 : Index := 17#32
  let arg1 : BitVec 32 := BitVec.ofNat 32 (i 1).val
  let c4_i32 : BitVec 32 := 4#32
  let v6 : BitVec 32 := Scalar.muli arg1 c4_i32
  let v755 : BitVec 32 := Scalar.addi v6 c0_i32_374
  let v756 : Index := Scalar.indexCast v755
  ![17, v756.toNat]
def k0_off19 (i : grid0.Coords) (c0_i32_396 : BitVec 32) : Fin 2 → Nat :=
  let c18 : Index := 18#32
  let arg1 : BitVec 32 := BitVec.ofNat 32 (i 1).val
  let c4_i32 : BitVec 32 := 4#32
  let v6 : BitVec 32 := Scalar.muli arg1 c4_i32
  let v799 : BitVec 32 := Scalar.addi v6 c0_i32_396
  let v800 : Index := Scalar.indexCast v799
  ![18, v800.toNat]
def k0_off20 (i : grid0.Coords) (c0_i32_418 : BitVec 32) : Fin 2 → Nat :=
  let c19 : Index := 19#32
  let arg1 : BitVec 32 := BitVec.ofNat 32 (i 1).val
  let c4_i32 : BitVec 32 := 4#32
  let v6 : BitVec 32 := Scalar.muli arg1 c4_i32
  let v843 : BitVec 32 := Scalar.addi v6 c0_i32_418
  let v844 : Index := Scalar.indexCast v843
  ![19, v844.toNat]
def k0_off21 (i : grid0.Coords) (c0_i32_440 : BitVec 32) : Fin 2 → Nat :=
  let c20 : Index := 20#32
  let arg1 : BitVec 32 := BitVec.ofNat 32 (i 1).val
  let c4_i32 : BitVec 32 := 4#32
  let v6 : BitVec 32 := Scalar.muli arg1 c4_i32
  let v887 : BitVec 32 := Scalar.addi v6 c0_i32_440
  let v888 : Index := Scalar.indexCast v887
  ![20, v888.toNat]
def k0_off22 (i : grid0.Coords) (c0_i32_462 : BitVec 32) : Fin 2 → Nat :=
  let c21 : Index := 21#32
  let arg1 : BitVec 32 := BitVec.ofNat 32 (i 1).val
  let c4_i32 : BitVec 32 := 4#32
  let v6 : BitVec 32 := Scalar.muli arg1 c4_i32
  let v931 : BitVec 32 := Scalar.addi v6 c0_i32_462
  let v932 : Index := Scalar.indexCast v931
  ![21, v932.toNat]
def k0_off23 (i : grid0.Coords) (c0_i32_484 : BitVec 32) : Fin 2 → Nat :=
  let c22 : Index := 22#32
  let arg1 : BitVec 32 := BitVec.ofNat 32 (i 1).val
  let c4_i32 : BitVec 32 := 4#32
  let v6 : BitVec 32 := Scalar.muli arg1 c4_i32
  let v975 : BitVec 32 := Scalar.addi v6 c0_i32_484
  let v976 : Index := Scalar.indexCast v975
  ![22, v976.toNat]
def k0_off24 (i : grid0.Coords) (c0_i32_506 : BitVec 32) : Fin 2 → Nat :=
  let c23 : Index := 23#32
  let arg1 : BitVec 32 := BitVec.ofNat 32 (i 1).val
  let c4_i32 : BitVec 32 := 4#32
  let v6 : BitVec 32 := Scalar.muli arg1 c4_i32
  let v1019 : BitVec 32 := Scalar.addi v6 c0_i32_506
  let v1020 : Index := Scalar.indexCast v1019
  ![23, v1020.toNat]
def k0_off25 (i : grid0.Coords) (c0_i32_528 : BitVec 32) : Fin 2 → Nat :=
  let c24 : Index := 24#32
  let arg1 : BitVec 32 := BitVec.ofNat 32 (i 1).val
  let c4_i32 : BitVec 32 := 4#32
  let v6 : BitVec 32 := Scalar.muli arg1 c4_i32
  let v1063 : BitVec 32 := Scalar.addi v6 c0_i32_528
  let v1064 : Index := Scalar.indexCast v1063
  ![24, v1064.toNat]
def k0_off26 (i : grid0.Coords) (c0_i32_550 : BitVec 32) : Fin 2 → Nat :=
  let c25 : Index := 25#32
  let arg1 : BitVec 32 := BitVec.ofNat 32 (i 1).val
  let c4_i32 : BitVec 32 := 4#32
  let v6 : BitVec 32 := Scalar.muli arg1 c4_i32
  let v1107 : BitVec 32 := Scalar.addi v6 c0_i32_550
  let v1108 : Index := Scalar.indexCast v1107
  ![25, v1108.toNat]
def k0_off27 (i : grid0.Coords) (c0_i32_572 : BitVec 32) : Fin 2 → Nat :=
  let c26 : Index := 26#32
  let arg1 : BitVec 32 := BitVec.ofNat 32 (i 1).val
  let c4_i32 : BitVec 32 := 4#32
  let v6 : BitVec 32 := Scalar.muli arg1 c4_i32
  let v1151 : BitVec 32 := Scalar.addi v6 c0_i32_572
  let v1152 : Index := Scalar.indexCast v1151
  ![26, v1152.toNat]
def k0_off28 (i : grid0.Coords) (c0_i32_594 : BitVec 32) : Fin 2 → Nat :=
  let c27 : Index := 27#32
  let arg1 : BitVec 32 := BitVec.ofNat 32 (i 1).val
  let c4_i32 : BitVec 32 := 4#32
  let v6 : BitVec 32 := Scalar.muli arg1 c4_i32
  let v1195 : BitVec 32 := Scalar.addi v6 c0_i32_594
  let v1196 : Index := Scalar.indexCast v1195
  ![27, v1196.toNat]
def k0_off29 (i : grid0.Coords) (c0_i32_616 : BitVec 32) : Fin 2 → Nat :=
  let c28 : Index := 28#32
  let arg1 : BitVec 32 := BitVec.ofNat 32 (i 1).val
  let c4_i32 : BitVec 32 := 4#32
  let v6 : BitVec 32 := Scalar.muli arg1 c4_i32
  let v1239 : BitVec 32 := Scalar.addi v6 c0_i32_616
  let v1240 : Index := Scalar.indexCast v1239
  ![28, v1240.toNat]
def k0_off30 (i : grid0.Coords) (c0_i32_638 : BitVec 32) : Fin 2 → Nat :=
  let c29 : Index := 29#32
  let arg1 : BitVec 32 := BitVec.ofNat 32 (i 1).val
  let c4_i32 : BitVec 32 := 4#32
  let v6 : BitVec 32 := Scalar.muli arg1 c4_i32
  let v1283 : BitVec 32 := Scalar.addi v6 c0_i32_638
  let v1284 : Index := Scalar.indexCast v1283
  ![29, v1284.toNat]
def k0_off31 (i : grid0.Coords) (c0_i32_660 : BitVec 32) : Fin 2 → Nat :=
  let c30 : Index := 30#32
  let arg1 : BitVec 32 := BitVec.ofNat 32 (i 1).val
  let c4_i32 : BitVec 32 := 4#32
  let v6 : BitVec 32 := Scalar.muli arg1 c4_i32
  let v1327 : BitVec 32 := Scalar.addi v6 c0_i32_660
  let v1328 : Index := Scalar.indexCast v1327
  ![30, v1328.toNat]
def k0_off32 (i : grid0.Coords) (c0_i32_682 : BitVec 32) : Fin 2 → Nat :=
  let c31 : Index := 31#32
  let arg1 : BitVec 32 := BitVec.ofNat 32 (i 1).val
  let c4_i32 : BitVec 32 := 4#32
  let v6 : BitVec 32 := Scalar.muli arg1 c4_i32
  let v1371 : BitVec 32 := Scalar.addi v6 c0_i32_682
  let v1372 : Index := Scalar.indexCast v1371
  ![31, v1372.toNat]
def k0_off33 (i : grid0.Coords) (c0_i32_704 : BitVec 32) : Fin 2 → Nat :=
  let c32 : Index := 32#32
  let arg1 : BitVec 32 := BitVec.ofNat 32 (i 1).val
  let c4_i32 : BitVec 32 := 4#32
  let v6 : BitVec 32 := Scalar.muli arg1 c4_i32
  let v1415 : BitVec 32 := Scalar.addi v6 c0_i32_704
  let v1416 : Index := Scalar.indexCast v1415
  ![32, v1416.toNat]
def k0_off34 (i : grid0.Coords) (c0_i32_726 : BitVec 32) : Fin 2 → Nat :=
  let c33 : Index := 33#32
  let arg1 : BitVec 32 := BitVec.ofNat 32 (i 1).val
  let c4_i32 : BitVec 32 := 4#32
  let v6 : BitVec 32 := Scalar.muli arg1 c4_i32
  let v1459 : BitVec 32 := Scalar.addi v6 c0_i32_726
  let v1460 : Index := Scalar.indexCast v1459
  ![33, v1460.toNat]
def k0_off35 (i : grid0.Coords) (c0_i32_748 : BitVec 32) : Fin 2 → Nat :=
  let c34 : Index := 34#32
  let arg1 : BitVec 32 := BitVec.ofNat 32 (i 1).val
  let c4_i32 : BitVec 32 := 4#32
  let v6 : BitVec 32 := Scalar.muli arg1 c4_i32
  let v1503 : BitVec 32 := Scalar.addi v6 c0_i32_748
  let v1504 : Index := Scalar.indexCast v1503
  ![34, v1504.toNat]
def k0_off36 (i : grid0.Coords) (c0_i32_770 : BitVec 32) : Fin 2 → Nat :=
  let c35 : Index := 35#32
  let arg1 : BitVec 32 := BitVec.ofNat 32 (i 1).val
  let c4_i32 : BitVec 32 := 4#32
  let v6 : BitVec 32 := Scalar.muli arg1 c4_i32
  let v1547 : BitVec 32 := Scalar.addi v6 c0_i32_770
  let v1548 : Index := Scalar.indexCast v1547
  ![35, v1548.toNat]
def k0_off37 (i : grid0.Coords) (c0_i32_792 : BitVec 32) : Fin 2 → Nat :=
  let c36 : Index := 36#32
  let arg1 : BitVec 32 := BitVec.ofNat 32 (i 1).val
  let c4_i32 : BitVec 32 := 4#32
  let v6 : BitVec 32 := Scalar.muli arg1 c4_i32
  let v1591 : BitVec 32 := Scalar.addi v6 c0_i32_792
  let v1592 : Index := Scalar.indexCast v1591
  ![36, v1592.toNat]
def k0_off38 (i : grid0.Coords) (c0_i32_814 : BitVec 32) : Fin 2 → Nat :=
  let c37 : Index := 37#32
  let arg1 : BitVec 32 := BitVec.ofNat 32 (i 1).val
  let c4_i32 : BitVec 32 := 4#32
  let v6 : BitVec 32 := Scalar.muli arg1 c4_i32
  let v1635 : BitVec 32 := Scalar.addi v6 c0_i32_814
  let v1636 : Index := Scalar.indexCast v1635
  ![37, v1636.toNat]
def k0_off39 (i : grid0.Coords) (c0_i32_836 : BitVec 32) : Fin 2 → Nat :=
  let c38 : Index := 38#32
  let arg1 : BitVec 32 := BitVec.ofNat 32 (i 1).val
  let c4_i32 : BitVec 32 := 4#32
  let v6 : BitVec 32 := Scalar.muli arg1 c4_i32
  let v1679 : BitVec 32 := Scalar.addi v6 c0_i32_836
  let v1680 : Index := Scalar.indexCast v1679
  ![38, v1680.toNat]
def k0_off40 (i : grid0.Coords) (c0_i32_858 : BitVec 32) : Fin 2 → Nat :=
  let c39 : Index := 39#32
  let arg1 : BitVec 32 := BitVec.ofNat 32 (i 1).val
  let c4_i32 : BitVec 32 := 4#32
  let v6 : BitVec 32 := Scalar.muli arg1 c4_i32
  let v1723 : BitVec 32 := Scalar.addi v6 c0_i32_858
  let v1724 : Index := Scalar.indexCast v1723
  ![39, v1724.toNat]
def k0_cond2 (i : grid0.Coords) : BitVec 1 :=
  let arg1 : BitVec 32 := BitVec.ofNat 32 (i 1).val
  let c6_i32_0 : BitVec 32 := 6#32
  let v3 : BitVec 1 := Scalar.cmpi .eq arg1 c6_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  ![arg0.toNat, v0.toNat]

def cc0_transform_14 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  ![arg0.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S40x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S40x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S40x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S768x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S5120x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S5120x256 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S5120x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S768x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S768x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S768x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S768x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S768x256 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S768x256 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== QkvRefIdeal.lean ====
abbrev S3840x5120 : Shape := ⟨2, ![3840, 5120]⟩
abbrev S5120x3072 : Shape := ⟨2, ![5120, 3072]⟩
abbrev S40x24 : Shape := ⟨2, ![40, 24]⟩
abbrev S5120x256 : Shape := ⟨2, ![5120, 256]⟩
abbrev S40x2 : Shape := ⟨2, ![40, 2]⟩
abbrev S1x256 : Shape := ⟨2, ![1, 256]⟩
abbrev S3840x32 : Shape := ⟨2, ![3840, 32]⟩
abbrev S1 : Shape := ⟨1, ![1]⟩
abbrev S3840x1536 : Shape := ⟨2, ![3840, 1536]⟩
abbrev S3840x256 : Shape := ⟨2, ![3840, 256]⟩
abbrev S40x24x1 : Shape := ⟨3, ![40, 24, 1]⟩
abbrev S40x24x128 : Shape := ⟨3, ![40, 24, 128]⟩
abbrev S40x3072 : Shape := ⟨2, ![40, 3072]⟩
abbrev S40x128x3072 : Shape := ⟨3, ![40, 128, 3072]⟩
abbrev S40x1x3072 : Shape := ⟨3, ![40, 1, 3072]⟩
abbrev S3840x3072 : Shape := ⟨2, ![3840, 3072]⟩
abbrev S3840x6x2x256 : Shape := ⟨4, ![3840, 6, 2, 256]⟩
abbrev S3840x6x1x256 : Shape := ⟨4, ![3840, 6, 1, 256]⟩
abbrev S3840x6x256 : Shape := ⟨3, ![3840, 6, 256]⟩
abbrev S3840x6 : Shape := ⟨2, ![3840, 6]⟩
abbrev S3840x6x1 : Shape := ⟨3, ![3840, 6, 1]⟩
abbrev S1x1x256 : Shape := ⟨3, ![1, 1, 256]⟩
abbrev S3840x1x32 : Shape := ⟨3, ![3840, 1, 32]⟩
abbrev S3840x6x32 : Shape := ⟨3, ![3840, 6, 32]⟩
abbrev S3840x6x192 : Shape := ⟨3, ![3840, 6, 192]⟩
abbrev S40x2x1 : Shape := ⟨3, ![40, 2, 1]⟩
abbrev S40x2x128 : Shape := ⟨3, ![40, 2, 128]⟩
abbrev S40x256 : Shape := ⟨2, ![40, 256]⟩
abbrev S40x128x256 : Shape := ⟨3, ![40, 128, 256]⟩
abbrev S40x1x256 : Shape := ⟨3, ![40, 1, 256]⟩
abbrev S3840 : Shape := ⟨1, ![3840]⟩
abbrev S3840x1 : Shape := ⟨2, ![3840, 1]⟩
abbrev S3840x192 : Shape := ⟨2, ![3840, 192]⟩
abbrev S1x1 : Shape := ⟨2, ![1, 1]⟩

abbrev nBuf : Space → Nat
  | .hbm => 17
  | .vmem => 17
  | .smem => 0
  | _ => 0

abbrev bufTy : (tb : Table) → Fin (tcTables nBuf tb) → BufTy
  | .hbm, ⟨0, _⟩ => ⟨S3840x5120, .bf16⟩
  | .hbm, ⟨1, _⟩ => ⟨S5120x3072, .fp8e4m3⟩
  | .hbm, ⟨2, _⟩ => ⟨S40x24, .f32⟩
  | .hbm, ⟨3, _⟩ => ⟨S5120x256, .fp8e4m3⟩
  | .hbm, ⟨4, _⟩ => ⟨S40x2, .f32⟩
  | .hbm, ⟨5, _⟩ => ⟨S5120x256, .fp8e4m3⟩
  | .hbm, ⟨6, _⟩ => ⟨S40x2, .f32⟩
  | .hbm, ⟨7, _⟩ => ⟨S1x256, .f32⟩
  | .hbm, ⟨8, _⟩ => ⟨S1x256, .f32⟩
  | .hbm, ⟨9, _⟩ => ⟨S3840x32, .f32⟩
  | .hbm, ⟨10, _⟩ => ⟨S3840x32, .f32⟩
  | .hbm, ⟨11, _⟩ => ⟨S1, .f32⟩
  | .hbm, ⟨12, _⟩ => ⟨S1, .f32⟩
  | .hbm, ⟨13, _⟩ => ⟨S3840x1536, .bf16⟩
  | .hbm, ⟨14, _⟩ => ⟨S3840x1536, .f32⟩
  | .hbm, ⟨15, _⟩ => ⟨S3840x256, .fp8e4m3⟩
  | .hbm, ⟨16, _⟩ => ⟨S3840x256, .fp8e4m3⟩
  | .local _ .vmem, ⟨0, _⟩ => ⟨S3840x5120, .bf16⟩
  | .local _ .vmem, ⟨1, _⟩ => ⟨S5120x3072, .fp8e4m3⟩
  | .local _ .vmem, ⟨2, _⟩ => ⟨S40x24, .f32⟩
  | .local _ .vmem, ⟨3, _⟩ => ⟨S5120x256, .fp8e4m3⟩
  | .local _ .vmem, ⟨4, _⟩ => ⟨S40x2, .f32⟩
  | .local _ .vmem, ⟨5, _⟩ => ⟨S5120x256, .fp8e4m3⟩
  | .local _ .vmem, ⟨6, _⟩ => ⟨S40x2, .f32⟩
  | .local _ .vmem, ⟨7, _⟩ => ⟨S1x256, .f32⟩
  | .local _ .vmem, ⟨8, _⟩ => ⟨S1x256, .f32⟩
  | .local _ .vmem, ⟨9, _⟩ => ⟨S3840x32, .f32⟩
  | .local _ .vmem, ⟨10, _⟩ => ⟨S3840x32, .f32⟩
  | .local _ .vmem, ⟨11, _⟩ => ⟨S1, .f32⟩
  | .local _ .vmem, ⟨12, _⟩ => ⟨S1, .f32⟩
  | .local _ .vmem, ⟨13, _⟩ => ⟨S3840x1536, .bf16⟩
  | .local _ .vmem, ⟨14, _⟩ => ⟨S3840x1536, .f32⟩
  | .local _ .vmem, ⟨15, _⟩ => ⟨S3840x256, .fp8e4m3⟩
  | .local _ .vmem, ⟨16, _⟩ => ⟨S3840x256, .fp8e4m3⟩
  | _, _ => ⟨S3840x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S3840x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S40x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3840x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3840x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3840x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3840x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3840x256 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3840x256 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.Widen.lean ====
/- One 128 × 128 tile of a widened weight: every matrix-multiply kernel of the layer widens its weight tile by tile into a
   scratch array, each tile the codes times one scale. This module states the array those tiles make up (`wide`), for any
   shape, and that one tile, as a kernel stores it, is that array's part. -/
module

public import Idealize.ShloMosaic.Adequacy
public import Idealize.ShloMosaic.Init
public import Idealize.ShloMosaic.Lib.Pipeline.ValueKit
public import Idealize.ShloMosaic.Lib.Pointwise

@[expose] public section

set_option maxRecDepth 16384

noncomputable section

namespace Cert.Layer

open Idealize.ShloMosaic

/-- A weight as the multiply reads it: code (k, c) times the scale of its 128 × 128 tile, the tiles' columns counted from
    `nb` in the table of scales. -/
def wide {K C KS CS : ℕ} (nb : ℕ) (hK : ∀ k < K, k / 128 < KS) (hC : ∀ c < C, nb + c / 128 < CS)
    (s : Vec Ideal ⟨2, ![KS, CS]⟩ .f32) (w : Vec Ideal ⟨2, ![K, C]⟩ .fp8e4m3) : FVec Ideal ⟨2, ![K, C]⟩ .bf16 :=
  fun y => (w y : EReal) * s (ix2 ⟨(y 0).val / 128, hK _ (y 0).isLt⟩ ⟨nb + (y 1).val / 128, hC _ (y 1).isLt⟩)

/-- The word arithmetic of a tile's column: no overflow at the sizes of the layer. -/
theorem col_toNat (n g j : ℕ) (hn : n < 256) (hg : g < 256) (hj : j < 256) :
    (Scalar.indexCast (Scalar.addi (Scalar.muli (BitVec.ofNat 32 n) (BitVec.ofNat 32 g)) (BitVec.ofNat 32 j))).toNat
      = n * g + j := by
  have h : n * g < 256 * 256 := Nat.mul_lt_mul'' hn hg
  show ((BitVec.ofNat 32 n * BitVec.ofNat 32 g + BitVec.ofNat 32 j : BitVec 32)).toNat = _
  simp only [BitVec.toNat_add, BitVec.toNat_mul, BitVec.toNat_ofNat]
  rw [Nat.mod_eq_of_lt (show n < 2 ^ 32 by omega), Nat.mod_eq_of_lt (show g < 2 ^ 32 by omega),
    Nat.mod_eq_of_lt (show j < 2 ^ 32 by omega), Nat.mod_eq_of_lt (show n * g < 2 ^ 32 by omega),
    Nat.mod_eq_of_lt (show n * g + j < 2 ^ 32 by omega)]

/-- One stored tile: the codes of a 128 × 128 block widened, times one scale rounded to bf16. -/
theorem tile_apply (v3 : Elt Ideal .f32) (v6 : Vec Ideal ⟨2, ![128, 128]⟩ .fp8e4m3) (h1 : FTy.bits .fp8e4m3 < FTy.bits .bf16)
    (h2 : FTy.bits .f32 > FTy.bits .bf16) (h3)
    (x : (⟨2, ![128, 128]⟩ : Shape).Idx) :
    shapeCast ⟨2, ![128, 128]⟩ (mulf (extf (φ := .fp8e4m3) .bf16 v6 h1)
      (truncf .bf16 (broadcast ⟨2, ![128, 128]⟩ v3 : FVec Ideal _ .f32) h2)) h3 x = (v6 x : EReal) * v3 := by
  idx_vars x
  pointwise

/-- A tile stored at rows `128 kb` and columns `128 j`, its scale read from the table's entry `(kb, nb + j)`, is `wide`'s
    part there. -/
theorem tile_piece {sig : RefSig} {κ : Kind} {sp sp' : Space} {K C KS CS : ℕ} (nb : ℕ) (hK : ∀ k < K, k / 128 < KS)
    (hC : ∀ c < C, nb + c / 128 < CS) (M2 : Memref sig κ sp ⟨2, ![KS, CS]⟩ .f32) (h2 : M2.IsWhole)
    (M4 : Memref sig κ sp' ⟨2, ![K, C]⟩ .fp8e4m3) (h4 : M4.IsWhole)
    (s : Vec Ideal ⟨2, ![KS, CS]⟩ .f32) (w : Vec Ideal ⟨2, ![K, C]⟩ .fp8e4m3)
    (o : Fin 2 → ℕ) (inb) (os : Fin 2 → ℕ) (inbs) (hn) (kb j : ℕ) (hos0 : os 0 = kb) (hos1 : os 1 = nb + j)
    (ho0 : o 0 = 128 * kb) (ho1 : o 1 = 128 * j) (x : (Rect.unit (s := ⟨2, ![K, C]⟩) o ![128, 128] inb).shape.Idx) :
    (View.readAt (Elt Ideal) M4.view (Rect.unit o ![128, 128] inb).toLoadRect (h4.unread w) x : EReal)
        * View.readAt (Elt Ideal) M2.view (Rect.unit os ![1, 1] inbs).toLoadRect (h2.unread s) (Shape.Idx.first hn)
      = wide nb hK hC s w ((Rect.unit o ![128, 128] inb).emb x) := by
  have hx0 : (x 0).val < 128 := (x 0).isLt
  have hx1 : (x 1).val < 128 := (x 1).isLt
  have he : ∀ a, ((Rect.unit (s := ⟨2, ![K, C]⟩) o ![128, 128] inb).emb x a).val = o a + x a :=
    fun a => Rect.idx_unit_val _ _ _ _ _
  simp only [View.readAt_eq_ld, Memref.IsWhole.read_unread]
  unfold wide
  refine congr (congrArg _ rfl) (View.ld_unit_apply_of _ _ _ _ _ _ fun a => ?_)
  match a with
  | ⟨0, _⟩ =>
    show ((Rect.unit (s := ⟨2, ![K, C]⟩) o ![128, 128] inb).emb x 0).val / 128 = os 0 + 0
    rw [he, hos0, ho0]; omega
  | ⟨1, _⟩ =>
    show nb + ((Rect.unit (s := ⟨2, ![K, C]⟩) o ![128, 128] inb).emb x 1).val / 128 = os 1 + 0
    rw [he, hos1, ho1]; omega

/-- The product of activations with a widened weight, at each row and column: the sum over the contracted axis. -/
def linear {T K C KS CS : ℕ} (hK : ∀ k < K, k / 128 < KS) (hC : ∀ c < C, 0 + c / 128 < CS)
    (x : Vec Ideal ⟨2, ![T, K]⟩ .bf16) (s : Vec Ideal ⟨2, ![KS, CS]⟩ .f32) (w : Vec Ideal ⟨2, ![K, C]⟩ .fp8e4m3)
    (r : Fin T) (c : Fin C) : EReal :=
  ∑ k : Fin K, (x (ix2 r k) : EReal) * wide 0 hK hC s w (ix2 k c)

/-- A window's block read at an index: the array at the block's offset plus the index. -/
theorem read_rect_apply {sig : RefSig} {κ : Kind} {Val : EltTy → Type} (b : Ref sig κ) (f : b.ty.Contents Val)
    (off size : Fin b.ty.shape.rank → ℕ) (inb) (x : (Rect.unit (s := b.ty.shape) off size inb).shape.Idx) (i : b.ty.shape.Idx)
    (hi : ∀ a, (i a : ℕ) = off a + x a) :
    ((View.whole b).slice (Rect.unit off size inb)).read Val f x = f i :=
  congrArg f (funext fun a => Fin.ext ((Rect.idx_unit_val off size inb x a).trans (hi a).symm))

end Cert.Layer

end
-- ==== Proof.DownValue.lean ====
/- What the `down` kernel computes: one grid point's block, and the result array its 25 points fill. -/
module

public import proofs.«01_k».proof.Proof.Gen.DownIdeal.Value
public import proofs.«01_k».proof.Proof.Widen

@[expose] public section

set_option maxRecDepth 16384

noncomputable section

namespace Cert.DownIdeal.Gen

open Idealize.ShloMosaic Idealize.ShloMosaic.TcCoe Idealize.ShloMosaic.Tactic Cert.Layer
open Idealize.ShloMosaic.Pipeline (Dat)

theorem hK : ∀ k < 4352, k / 128 < 34 := by omega

theorem hC (i : grid0.Coords) : ∀ c < 1024, (i 1).val * 8 + c / 128 < 40 := by
  have h : (i 1).val < 5 := (i 1).isLt
  omega

theorem hz0 : (![0, 0] : Fin 2 → ℕ) = fun _ => 0 := funext fun a => by fin_cases a <;> rfl

theorem hC0 : ∀ c < 5120, 0 + c / 128 < 40 := by omega

set_option maxHeartbeats 4000000 in
/-- Each of the body's 272 stores into the scratch array is a tile of the widened weight block. -/
theorem pieces (c : Dev nD) (i : grid0.Coords) (arg2 : Memref sig .tc .smem S34x40 .f32) (harg2 : arg2.IsWhole)
    (arg4 : Memref sig .tc .vmem S4352x1024 .fp8e4m3) (harg4 : arg4.IsWhole)
    (x0 : Vec Ideal S34x40 .f32) (x2 : Vec Ideal S4352x1024 .fp8e4m3) :
    ∀ p ∈ kernelRun0_A.sl.HS0_272 c i arg2 harg2 arg4 harg4 x0 x2, ∀ x,
      p.2 x = wide ((i 1).val * 8) hK (hC i) x0 x2 (p.1.emb x) := by
  have hi : (i 1).val < 256 := lt_trans (i 1).isLt (by decide)
  unfold kernelRun0_A.sl.HS0_272
  repeat refine List.forall_mem_cons.2 ⟨fun x => (tile_apply _ _ _ _ _ x).trans (tile_piece _ hK (hC i) arg2 harg2 arg4
    harg4 x0 x2 _ _ _ _ _ _ _ rfl (col_toNat (i 1).val 8 _ hi (by decide) (by decide)) rfl rfl x), ?_⟩
  exact fun _ h => absurd h List.not_mem_nil

/-- The stores cover the scratch array. -/
theorem covers (c : Dev nD) (i : grid0.Coords) (arg2 : Memref sig .tc .smem S34x40 .f32) (harg2 : arg2.IsWhole)
    (arg4 : Memref sig .tc .vmem S4352x1024 .fp8e4m3) (harg4 : arg4.IsWhole)
    (x0 : Vec Ideal S34x40 .f32) (x2 : Vec Ideal S4352x1024 .fp8e4m3) (y : S4352x1024.Idx) :
    ∃ p ∈ kernelRun0_A.sl.HS0_272 c i arg2 harg2 arg4 harg4 x0 x2, y ∈ p.1.set :=
  View.cover_of_tiledL _ ![128, 128] (by sl_kernel_rfl) y

/-- One grid point's block of the result: the residual plus the product with the widened weight block. -/
theorem out_eq (c : Dev nD) (i : grid0.Coords) (arg2 : Memref sig .tc .smem S34x40 .f32) (harg2 : arg2.IsWhole)
    (arg3 : Memref sig .tc .vmem S768x4352 .bf16) (harg3 : arg3.IsWhole)
    (arg4 : Memref sig .tc .vmem S4352x1024 .fp8e4m3) (harg4 : arg4.IsWhole)
    (arg5 : Memref sig .tc .vmem S768x1024 .f32) (harg5 : arg5.IsWhole)
    (arg6 : Memref sig .tc .vmem S768x1024 .bf16) (harg6 : arg6.IsWhole)
    (arg7 : Memref sig .tc .vmem S4352x1024 .bf16) (harg7 : arg7.IsWhole)
    (x0 : Vec Ideal S34x40 .f32) (x1 : Vec Ideal S768x4352 .bf16) (x2 : Vec Ideal S4352x1024 .fp8e4m3)
    (x3 : Vec Ideal S768x1024 .f32) :
    out0_A_4 c i arg2 harg2 arg3 harg3 arg4 harg4 arg5 harg5 arg6 harg6 arg7 harg7 x0 x1 x2 x3
      = k0_pay1 x1 (wide ((i 1).val * 8) hK (hC i) x0 x2) x3 := by
  have hcanon : View.canon (kernelRun0_A.sl.HS0_272 c i arg2 harg2 arg4 harg4 x0 x2)
      = wide ((i 1).val * 8) hK (hC i) x0 x2 :=
    funext fun y => View.canon_apply_of_pieces _ _ (pieces c i arg2 harg2 arg4 harg4 x0 x2) y
      (covers c i arg2 harg2 arg4 harg4 x0 x2 y)
  unfold out0_A_4
  unfold kernelRun0_A
  dsimp only
  unfold kernelRun0_A.sl.v2994
  rw [View.read_writes_junk_eq_canon]
  rw [View.readCov_eq_canon_ld _ _ _ (covers c i arg2 harg2 arg4 harg4 x0 x2)]
  rw [hcanon]
  simp only [View.readAt_eq_ld, Memref.IsWhole.read_unread]
  rw [View.canon_unit_zero hz0, View.ld_unit_zero hz0, View.ld_unit_zero hz0, View.ld_unit_zero hz0]

/-! ## The blocks a grid point reads -/

variable (m : (ℓ : Loc nD τ sig) → Buf (Elt Ideal) ℓ) (ρ : Dev nD → PrngReg)

/-- The windows' block indices at each grid point. -/
theorem idx : ∀ t : Fin cfg0.N, (win0_0.index t 0 = 0 ∧ win0_0.index t 1 = 0)
    ∧ (win0_1.index t 0 = (grid0.coords t 0).val ∧ win0_1.index t 1 = 0)
    ∧ (win0_2.index t 0 = 0 ∧ win0_2.index t 1 = (grid0.coords t 1).val)
    ∧ (win0_3.index t 0 = (grid0.coords t 0).val ∧ win0_3.index t 1 = (grid0.coords t 1).val)
    ∧ (win0_4.index t 0 = (grid0.coords t 0).val ∧ win0_4.index t 1 = (grid0.coords t 1).val) :=
  (by decide +kernel : ∀ t : Fin grid0.N, _)

theorem row_lt (i : grid0.Coords) (r : Fin 768) : (i 0).val * 768 + r.val < 3840 := by
  have h : (i 0).val < 5 := (i 0).isLt
  omega

theorem col_lt (i : grid0.Coords) (r : Fin 1024) : (i 1).val * 1024 + r.val < 5120 := by
  have h : (i 1).val < 5 := (i 1).isLt
  omega

/-- The scales are read whole. -/
theorem blk0 (c : Dev nD) (t : Fin cfg0.N) (r : Fin 34) (k : Fin 40) :
    (iblk m c 0 t : Vec Ideal S34x40 .f32) (ix2 r k) = m ((c : Thread nD τ).loc main_arg2) (ix2 r k) := by
  obtain ⟨⟨h0, h1⟩, -⟩ := idx t
  refine read_rect_apply main_arg2 (m ((c : Thread nD τ).loc main_arg2)) _ _ _ _ _ fun a => ?_
  match a with
  | ⟨0, _⟩ => show r.val = win0_0.index t 0 * 34 + r.val; rw [h0]; omega
  | ⟨1, _⟩ => show k.val = win0_0.index t 1 * 40 + k.val; rw [h1]; omega

/-- The activations' block: 768 rows. -/
theorem blk1 (c : Dev nD) (t : Fin cfg0.N) (r : Fin 768) (k : Fin 4352) :
    (iblk m c 1 t : Vec Ideal S768x4352 .bf16) (ix2 r k)
      = m ((c : Thread nD τ).loc main_arg0) (ix2 ⟨_, row_lt (grid0.coords t) r⟩ k) := by
  obtain ⟨-, ⟨h0, h1⟩, -⟩ := idx t
  refine read_rect_apply main_arg0 (m ((c : Thread nD τ).loc main_arg0)) _ _ _ _ _ fun a => ?_
  match a with
  | ⟨0, _⟩ => show _ = win0_1.index t 0 * 768 + r.val; rw [h0]; rfl
  | ⟨1, _⟩ => show k.val = win0_1.index t 1 * 4352 + k.val; rw [h1]; omega

/-- The weight's block: 1024 columns. -/
theorem blk2 (c : Dev nD) (t : Fin cfg0.N) (k : Fin 4352) (r : Fin 1024) :
    (iblk m c 2 t : Vec Ideal S4352x1024 .fp8e4m3) (ix2 k r)
      = m ((c : Thread nD τ).loc main_arg1) (ix2 k ⟨_, col_lt (grid0.coords t) r⟩) := by
  obtain ⟨-, -, ⟨h0, h1⟩, -⟩ := idx t
  refine read_rect_apply main_arg1 (m ((c : Thread nD τ).loc main_arg1)) _ _ _ _ _ fun a => ?_
  match a with
  | ⟨0, _⟩ => show k.val = win0_2.index t 0 * 4352 + k.val; rw [h0]; omega
  | ⟨1, _⟩ => show _ = win0_2.index t 1 * 1024 + r.val; rw [h1]; rfl

/-- The residual's block. -/
theorem blk3 (c : Dev nD) (t : Fin cfg0.N) (r : Fin 768) (k : Fin 1024) :
    (iblk m c 3 t : Vec Ideal S768x1024 .f32) (ix2 r k)
      = m ((c : Thread nD τ).loc main_arg3) (ix2 ⟨_, row_lt (grid0.coords t) r⟩ ⟨_, col_lt (grid0.coords t) k⟩) := by
  obtain ⟨-, -, -, ⟨h0, h1⟩, -⟩ := idx t
  refine read_rect_apply main_arg3 (m ((c : Thread nD τ).loc main_arg3)) _ _ _ _ _ fun a => ?_
  match a with
  | ⟨0, _⟩ => show _ = win0_3.index t 0 * 768 + r.val; rw [h0]; rfl
  | ⟨1, _⟩ => show _ = win0_3.index t 1 * 1024 + k.val; rw [h1]; rfl

/-- The widened weight block is the widened weight's columns. -/
theorem wide_blk (c : Dev nD) (t : Fin cfg0.N) (k : Fin 4352) (r : Fin 1024) :
    wide ((grid0.coords t 1).val * 8) hK (hC (grid0.coords t)) (iblk m c 0 t) (iblk m c 2 t) (ix2 k r)
      = wide 0 hK hC0 (m ((c : Thread nD τ).loc main_arg2)) (m ((c : Thread nD τ).loc main_arg1))
          (ix2 k ⟨_, col_lt (grid0.coords t) r⟩) := by
  unfold wide
  refine congr (congrArg _ (blk2 m c t k r)) ((blk0 m c t _ _).trans (congrArg _ (congrArg _ (Fin.ext ?_))))
  show (grid0.coords t 1).val * 8 + r.val / 128 = 0 + ((grid0.coords t 1).val * 1024 + r.val) / 128
  omega

/-! ## The result array -/

/-- The layer's last projection: the residual plus the product. -/
def result (a0 : Vec Ideal S3840x4352 .bf16) (a1 : Vec Ideal S4352x5120 .fp8e4m3) (a2 : Vec Ideal S34x40 .f32)
    (a3 : Vec Ideal S3840x5120 .f32) : Vec Ideal S3840x5120 .bf16 :=
  fun y => (a3 y : EReal) + linear hK hC0 a0 a2 a1 (y 0) (y 1)

/-- The block a grid point writes back is the result's. -/
theorem flushed_eq (c : Dev nD) (t : Fin cfg0.N) :
    (dats m 0 c).flushed 4 t = ((cfg0.win 4).blk t).view.read (Elt Ideal)
      (result (m ((c : Thread nD τ).loc main_arg0)) (m ((c : Thread nD τ).loc main_arg1))
        (m ((c : Thread nD τ).loc main_arg2)) (m ((c : Thread nD τ).loc main_arg3))) := by
  rw [Value.flushed4_A, out_eq]
  obtain ⟨-, -, -, -, ⟨h0, h1⟩⟩ := idx t
  funext y
  obtain ⟨r, k, rfl⟩ : ∃ (r : Fin 768) (k : Fin 1024), y = ix2 r k := ⟨y 0, y 1, eq_ix2 y⟩
  refine Eq.trans ?_ (read_rect_apply main_v0 _ _ _ _ (ix2 r k)
    (ix2 ⟨_, row_lt (grid0.coords t) r⟩ ⟨_, col_lt (grid0.coords t) k⟩) fun a => ?_).symm
  · show k0_pay1 (iblk m c 1 t) _ (iblk m c 3 t) (ix2 r k) = _
    unfold result linear
    pointwise [k0_pay1]
    exact congrArg₂ (· + ·) (blk3 m c t r k)
      (Finset.sum_congr rfl fun x _ => congrArg₂ (· * ·) (blk1 m c t r x) (wide_blk m c t x k))
  · match a with
    | ⟨0, _⟩ => show _ = win0_4.index t 0 * 768 + r.val; rw [h0]; rfl
    | ⟨1, _⟩ => show _ = win0_4.index t 1 * 1024 + k.val; rw [h1]; rfl

/-- Every index of the result lies in some point's block. -/
theorem cover (y : S3840x5120.Idx) :
    ∃ t : Fin cfg0.N, (cfg0.win 4).flush t = true ∧ y ∈ ((cfg0.win 4).blk t).view.set := by
  have hy0 : (y 0).val < 3840 := (y 0).isLt
  have hy1 : (y 1).val < 5120 := (y 1).isLt
  obtain ⟨t, hf, ht0, ht1⟩ : ∃ t : Fin cfg0.N, (cfg0.win 4).flush t = true
      ∧ win0_4.index t 0 = (y 0).val / 768 ∧ win0_4.index t 1 = (y 1).val / 1024 :=
    (by decide +kernel : ∀ (a b : Fin 5), ∃ t : Fin grid0.N, win0_4.flush t = true
      ∧ win0_4.index t 0 = a.val ∧ win0_4.index t 1 = b.val) ⟨(y 0).val / 768, by omega⟩ ⟨(y 1).val / 1024, by omega⟩
  refine ⟨t, hf, ?_⟩
  show y ∈ ((View.whole main_v0).slice (win0_4.rect t)).set
  rw [View.set_slice_whole, Rect.mem_set_unit]
  intro a
  match a with
  | ⟨0, _⟩ =>
    show win0_4.index t 0 * 768 ≤ (y 0).val ∧ (y 0).val < win0_4.index t 0 * 768 + 768
    rw [ht0]; omega
  | ⟨1, _⟩ =>
    show win0_4.index t 1 * 1024 ≤ (y 1).val ∧ (y 1).val < win0_4.index t 1 * 1024 + 1024
    rw [ht1]; omega

/-- So the result array ends at the residual plus the product. -/
theorem final (c : Dev nD) : (dats m 0 c).arrAt 4 cfg0.N
    = result (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

end Cert.DownIdeal.Gen

end
-- ==== Proof.DownEq.lean ====
/- The `down` claim: what the kernel's run leaves is what the reference computes. -/
module

public import proofs.«01_k».proof.Defs
public import proofs.«01_k».proof.Proof.DownValue
public import proofs.«01_k».proof.Proof.Gen.DownRefIdeal.Value

@[expose] public section

set_option maxRecDepth 16384

noncomputable section

namespace Cert.DownEq

open Idealize.ShloMosaic Idealize.ShloMosaic.TcCoe Cert.Layer

/-- The reference is the residual plus the product with the widened weight. -/
theorem ref_eq (a0 : Vec Ideal Cert.DownRefIdeal.S3840x4352 .bf16) (a1 : Vec Ideal Cert.DownRefIdeal.S4352x5120 .fp8e4m3)
    (a2 : Vec Ideal Cert.DownRefIdeal.S34x40 .f32) (a3 : Vec Ideal Cert.DownRefIdeal.S3840x5120 .f32) :
    Cert.DownRefIdeal.Value.G4 a0 a1 a2 a3 = Cert.DownIdeal.Gen.result a0 a1 a2 a3 := by
  funext y
  obtain ⟨r, k, rfl⟩ : ∃ (r : Fin 3840) (k : Fin 5120), y = ix2 r k := ⟨y 0, y 1, eq_ix2 y⟩
  unfold Cert.DownIdeal.Gen.result linear wide
  pointwise [Cert.DownRefIdeal.Value.G4, Cert.DownRefIdeal.Gen.k0_pay1]

/-- The claim: both runs end, with equal results, the arguments unchanged. -/
theorem algebraic : Cert.algebraic_DownIdeal_DownRefIdeal := by
  intro m ρ m' ρ' _ hag
  refine ⟨fun c => Cert.DownIdeal.Gen.result (m ((c : Thread Cert.DownIdeal.nD Cert.DownIdeal.τ).loc Cert.DownIdeal.main_arg0))
    (m ((c : Thread Cert.DownIdeal.nD Cert.DownIdeal.τ).loc Cert.DownIdeal.main_arg1)) (m ((c : Thread Cert.DownIdeal.nD Cert.DownIdeal.τ).loc Cert.DownIdeal.main_arg2))
    (m ((c : Thread Cert.DownIdeal.nD Cert.DownIdeal.τ).loc Cert.DownIdeal.main_arg3)), ?_, ?_⟩
  · exact (θ_run _ _ _).mono (fun _ h c => ⟨(h c).1.trans (Cert.DownIdeal.Gen.final m c), (h c).2⟩) (Cert.DownIdeal.Value.run_blocks m ρ)
  · exact (θ_run _ _ _).mono (fun _ h c => ⟨(h c).1.trans (by
      obtain ⟨h0, h1, h2, h3⟩ := hag c
      rw [h0, h1, h2, h3]; exact ref_eq _ _ _ _), (h c).2⟩) (Cert.DownRefIdeal.Value.run m' ρ')

end Cert.DownEq

end
-- ==== Proof.WoValue.lean ====
/- What the `wo` kernel computes: one grid point's block, and the result array its 30 points fill. -/
module

public import proofs.«01_k».proof.Proof.Gen.WoIdeal.Value
public import proofs.«01_k».proof.Proof.Widen

@[expose] public section

set_option maxRecDepth 16384

noncomputable section

namespace Cert.WoIdeal.Gen

open Idealize.ShloMosaic Idealize.ShloMosaic.TcCoe Idealize.ShloMosaic.Tactic Cert.Layer
open Idealize.ShloMosaic.Pipeline (Dat)

theorem hK : ∀ k < 1536, k / 128 < 12 := by omega

theorem hC (i : grid0.Coords) : ∀ c < 1024, (i 1).val * 8 + c / 128 < 40 := by
  have h : (i 1).val < 5 := (i 1).isLt
  omega

theorem hz0 : (![0, 0] : Fin 2 → ℕ) = fun _ => 0 := funext fun a => by fin_cases a <;> rfl

theorem hC0 : ∀ c < 5120, 0 + c / 128 < 40 := by omega

set_option maxHeartbeats 4000000 in
/-- Each of the body's 96 stores into the scratch array is a tile of the widened weight block. -/
theorem pieces (c : Dev nD) (i : grid0.Coords) (arg2 : Memref sig .tc .smem S12x40 .f32) (harg2 : arg2.IsWhole)
    (arg4 : Memref sig .tc .vmem S1536x1024 .fp8e4m3) (harg4 : arg4.IsWhole)
    (x0 : Vec Ideal S12x40 .f32) (x2 : Vec Ideal S1536x1024 .fp8e4m3) :
    ∀ p ∈ kernelRun0_A.sl.HS0_96 c i arg2 harg2 arg4 harg4 x0 x2, ∀ x,
      p.2 x = wide ((i 1).val * 8) hK (hC i) x0 x2 (p.1.emb x) := by
  have hi : (i 1).val < 256 := lt_trans (i 1).isLt (by decide)
  unfold kernelRun0_A.sl.HS0_96
  repeat refine List.forall_mem_cons.2 ⟨fun x => (tile_apply _ _ _ _ _ x).trans (tile_piece _ hK (hC i) arg2 harg2 arg4
    harg4 x0 x2 _ _ _ _ _ _ _ rfl (col_toNat (i 1).val 8 _ hi (by decide) (by decide)) rfl rfl x), ?_⟩
  exact fun _ h => absurd h List.not_mem_nil

/-- The stores cover the scratch array. -/
theorem covers (c : Dev nD) (i : grid0.Coords) (arg2 : Memref sig .tc .smem S12x40 .f32) (harg2 : arg2.IsWhole)
    (arg4 : Memref sig .tc .vmem S1536x1024 .fp8e4m3) (harg4 : arg4.IsWhole)
    (x0 : Vec Ideal S12x40 .f32) (x2 : Vec Ideal S1536x1024 .fp8e4m3) (y : S1536x1024.Idx) :
    ∃ p ∈ kernelRun0_A.sl.HS0_96 c i arg2 harg2 arg4 harg4 x0 x2, y ∈ p.1.set :=
  View.cover_of_tiledL _ ![128, 128] (by sl_kernel_rfl) y

/-- One grid point's block of the result: the residual plus the product with the widened weight block. -/
theorem out_eq (c : Dev nD) (i : grid0.Coords) (arg2 : Memref sig .tc .smem S12x40 .f32) (harg2 : arg2.IsWhole)
    (arg3 : Memref sig .tc .vmem S640x1536 .bf16) (harg3 : arg3.IsWhole)
    (arg4 : Memref sig .tc .vmem S1536x1024 .fp8e4m3) (harg4 : arg4.IsWhole)
    (arg5 : Memref sig .tc .vmem S640x1024 .bf16) (harg5 : arg5.IsWhole)
    (arg6 : Memref sig .tc .vmem S640x1024 .f32) (harg6 : arg6.IsWhole)
    (arg7 : Memref sig .tc .vmem S1536x1024 .bf16) (harg7 : arg7.IsWhole)
    (x0 : Vec Ideal S12x40 .f32) (x1 : Vec Ideal S640x1536 .bf16) (x2 : Vec Ideal S1536x1024 .fp8e4m3)
    (x3 : Vec Ideal S640x1024 .bf16) (r : Fin 640) (k : Fin 1024) :
    out0_A_4 c i arg2 harg2 arg3 harg3 arg4 harg4 arg5 harg5 arg6 harg6 arg7 harg7 x0 x1 x2 x3 (ix2 r k)
      = (x3 (ix2 r k) : EReal) + ∑ e : Fin 1536, (x1 (ix2 r e) : EReal)
          * wide ((i 1).val * 8) hK (hC i) x0 x2 (ix2 e k) := by
  have hcanon : View.canon (kernelRun0_A.sl.HS0_96 c i arg2 harg2 arg4 harg4 x0 x2)
      = wide ((i 1).val * 8) hK (hC i) x0 x2 :=
    funext fun y => View.canon_apply_of_pieces _ _ (pieces c i arg2 harg2 arg4 harg4 x0 x2) y
      (covers c i arg2 harg2 arg4 harg4 x0 x2 y)
  unfold out0_A_4
  unfold kernelRun0_A
  dsimp only
  unfold kernelRun0_A.sl.r_114
  unfold kernelRun0_A.sl.v1058
  rw [View.read_writes_junk_eq_canon]
  rw [View.readCov_eq_canon_ld _ _ _ (covers c i arg2 harg2 arg4 harg4 x0 x2)]
  rw [hcanon]
  simp only [View.readAt_eq_ld, Memref.IsWhole.read_unread]
  rw [View.canon_unit_zero hz0, View.ld_unit_zero hz0, View.ld_unit_zero hz0, View.ld_unit_zero hz0]
  pointwise [k0_pay1, k0_pay116]

/-! ## The blocks a grid point reads -/

variable (m : (ℓ : Loc nD τ sig) → Buf (Elt Ideal) ℓ) (ρ : Dev nD → PrngReg)

/-- The windows' block indices at each grid point. -/
theorem idx : ∀ t : Fin cfg0.N, (win0_0.index t 0 = 0 ∧ win0_0.index t 1 = 0)
    ∧ (win0_1.index t 0 = (grid0.coords t 0).val ∧ win0_1.index t 1 = 0)
    ∧ (win0_2.index t 0 = 0 ∧ win0_2.index t 1 = (grid0.coords t 1).val)
    ∧ (win0_3.index t 0 = (grid0.coords t 0).val ∧ win0_3.index t 1 = (grid0.coords t 1).val)
    ∧ (win0_4.index t 0 = (grid0.coords t 0).val ∧ win0_4.index t 1 = (grid0.coords t 1).val) :=
  (by decide +kernel : ∀ t : Fin grid0.N, _)

theorem row_lt (i : grid0.Coords) (r : Fin 640) : (i 0).val * 640 + r.val < 3840 := by
  have h : (i 0).val < 6 := (i 0).isLt
  omega

theorem col_lt (i : grid0.Coords) (r : Fin 1024) : (i 1).val * 1024 + r.val < 5120 := by
  have h : (i 1).val < 5 := (i 1).isLt
  omega

/-- The scales are read whole. -/
theorem blk0 (c : Dev nD) (t : Fin cfg0.N) (r : Fin 12) (k : Fin 40) :
    (iblk m c 0 t : Vec Ideal S12x40 .f32) (ix2 r k) = m ((c : Thread nD τ).loc main_arg2) (ix2 r k) := by
  obtain ⟨⟨h0, h1⟩, -⟩ := idx t
  refine read_rect_apply main_arg2 (m ((c : Thread nD τ).loc main_arg2)) _ _ _ _ _ fun a => ?_
  match a with
  | ⟨0, _⟩ => show r.val = win0_0.index t 0 * 12 + r.val; rw [h0]; omega
  | ⟨1, _⟩ => show k.val = win0_0.index t 1 * 40 + k.val; rw [h1]; omega

/-- The activations' block: 640 rows. -/
theorem blk1 (c : Dev nD) (t : Fin cfg0.N) (r : Fin 640) (k : Fin 1536) :
    (iblk m c 1 t : Vec Ideal S640x1536 .bf16) (ix2 r k)
      = m ((c : Thread nD τ).loc main_arg0) (ix2 ⟨_, row_lt (grid0.coords t) r⟩ k) := by
  obtain ⟨-, ⟨h0, h1⟩, -⟩ := idx t
  refine read_rect_apply main_arg0 (m ((c : Thread nD τ).loc main_arg0)) _ _ _ _ _ fun a => ?_
  match a with
  | ⟨0, _⟩ => show _ = win0_1.index t 0 * 640 + r.val; rw [h0]; rfl
  | ⟨1, _⟩ => show k.val = win0_1.index t 1 * 1536 + k.val; rw [h1]; omega

/-- The weight's block: 1024 columns. -/
theorem blk2 (c : Dev nD) (t : Fin cfg0.N) (k : Fin 1536) (r : Fin 1024) :
    (iblk m c 2 t : Vec Ideal S1536x1024 .fp8e4m3) (ix2 k r)
      = m ((c : Thread nD τ).loc main_arg1) (ix2 k ⟨_, col_lt (grid0.coords t) r⟩) := by
  obtain ⟨-, -, ⟨h0, h1⟩, -⟩ := idx t
  refine read_rect_apply main_arg1 (m ((c : Thread nD τ).loc main_arg1)) _ _ _ _ _ fun a => ?_
  match a with
  | ⟨0, _⟩ => show k.val = win0_2.index t 0 * 1536 + k.val; rw [h0]; omega
  | ⟨1, _⟩ => show _ = win0_2.index t 1 * 1024 + r.val; rw [h1]; rfl

/-- The residual's block. -/
theorem blk3 (c : Dev nD) (t : Fin cfg0.N) (r : Fin 640) (k : Fin 1024) :
    (iblk m c 3 t : Vec Ideal S640x1024 .bf16) (ix2 r k)
      = m ((c : Thread nD τ).loc main_arg3) (ix2 ⟨_, row_lt (grid0.coords t) r⟩ ⟨_, col_lt (grid0.coords t) k⟩) := by
  obtain ⟨-, -, -, ⟨h0, h1⟩, -⟩ := idx t
  refine read_rect_apply main_arg3 (m ((c : Thread nD τ).loc main_arg3)) _ _ _ _ _ fun a => ?_
  match a with
  | ⟨0, _⟩ => show _ = win0_3.index t 0 * 640 + r.val; rw [h0]; rfl
  | ⟨1, _⟩ => show _ = win0_3.index t 1 * 1024 + k.val; rw [h1]; rfl

/-- The widened weight block is the widened weight's columns. -/
theorem wide_blk (c : Dev nD) (t : Fin cfg0.N) (k : Fin 1536) (r : Fin 1024) :
    wide ((grid0.coords t 1).val * 8) hK (hC (grid0.coords t)) (iblk m c 0 t) (iblk m c 2 t) (ix2 k r)
      = wide 0 hK hC0 (m ((c : Thread nD τ).loc main_arg2)) (m ((c : Thread nD τ).loc main_arg1))
          (ix2 k ⟨_, col_lt (grid0.coords t) r⟩) := by
  unfold wide
  refine congr (congrArg _ (blk2 m c t k r)) ((blk0 m c t _ _).trans (congrArg _ (congrArg _ (Fin.ext ?_))))
  show (grid0.coords t 1).val * 8 + r.val / 128 = 0 + ((grid0.coords t 1).val * 1024 + r.val) / 128
  omega

/-! ## The result array -/

/-- The layer's output projection: the residual plus the product. -/
def result (a0 : Vec Ideal S3840x1536 .bf16) (a1 : Vec Ideal S1536x5120 .fp8e4m3) (a2 : Vec Ideal S12x40 .f32)
    (a3 : Vec Ideal S3840x5120 .bf16) : Vec Ideal S3840x5120 .f32 :=
  fun y => (a3 y : EReal) + linear hK hC0 a0 a2 a1 (y 0) (y 1)

/-- The block a grid point writes back is the result's. -/
theorem flushed_eq (c : Dev nD) (t : Fin cfg0.N) :
    (dats m 0 c).flushed 4 t = ((cfg0.win 4).blk t).view.read (Elt Ideal)
      (result (m ((c : Thread nD τ).loc main_arg0)) (m ((c : Thread nD τ).loc main_arg1))
        (m ((c : Thread nD τ).loc main_arg2)) (m ((c : Thread nD τ).loc main_arg3))) := by
  rw [Value.flushed4_A]
  obtain ⟨-, -, -, -, ⟨h0, h1⟩⟩ := idx t
  funext y
  obtain ⟨r, k, rfl⟩ : ∃ (r : Fin 640) (k : Fin 1024), y = ix2 r k := ⟨y 0, y 1, eq_ix2 y⟩
  refine Eq.trans ?_ (read_rect_apply main_v0 _ _ _ _ (ix2 r k)
    (ix2 ⟨_, row_lt (grid0.coords t) r⟩ ⟨_, col_lt (grid0.coords t) k⟩) fun a => ?_).symm
  · refine (out_eq c (grid0.coords t) _ _ _ _ _ _ _ _ _ _ _ _ _ _ _ _ r k).trans ?_
    exact congrArg₂ (· + ·) (blk3 m c t r k)
      (Finset.sum_congr rfl fun x _ => congrArg₂ (· * ·) (blk1 m c t r x) (wide_blk m c t x k))
  · match a with
    | ⟨0, _⟩ => show _ = win0_4.index t 0 * 640 + r.val; rw [h0]; rfl
    | ⟨1, _⟩ => show _ = win0_4.index t 1 * 1024 + k.val; rw [h1]; rfl

/-- Every index of the result lies in some point's block. -/
theorem cover (y : S3840x5120.Idx) :
    ∃ t : Fin cfg0.N, (cfg0.win 4).flush t = true ∧ y ∈ ((cfg0.win 4).blk t).view.set := by
  have hy0 : (y 0).val < 3840 := (y 0).isLt
  have hy1 : (y 1).val < 5120 := (y 1).isLt
  obtain ⟨t, hf, ht0, ht1⟩ : ∃ t : Fin cfg0.N, (cfg0.win 4).flush t = true
      ∧ win0_4.index t 0 = (y 0).val / 640 ∧ win0_4.index t 1 = (y 1).val / 1024 :=
    (by decide +kernel : ∀ (a : Fin 6) (b : Fin 5), ∃ t : Fin grid0.N, win0_4.flush t = true
      ∧ win0_4.index t 0 = a.val ∧ win0_4.index t 1 = b.val) ⟨(y 0).val / 640, by omega⟩ ⟨(y 1).val / 1024, by omega⟩
  refine ⟨t, hf, ?_⟩
  show y ∈ ((View.whole main_v0).slice (win0_4.rect t)).set
  rw [View.set_slice_whole, Rect.mem_set_unit]
  intro a
  match a with
  | ⟨0, _⟩ =>
    show win0_4.index t 0 * 640 ≤ (y 0).val ∧ (y 0).val < win0_4.index t 0 * 640 + 640
    rw [ht0]; omega
  | ⟨1, _⟩ =>
    show win0_4.index t 1 * 1024 ≤ (y 1).val ∧ (y 1).val < win0_4.index t 1 * 1024 + 1024
    rw [ht1]; omega

/-- So the result array ends at the residual plus the product. -/
theorem final (c : Dev nD) : (dats m 0 c).arrAt 4 cfg0.N
    = result (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

end Cert.WoIdeal.Gen

end
-- ==== Proof.WoEq.lean ====
/- The `wo` claim: what the kernel's run leaves is what the reference computes. -/
module

public import proofs.«01_k».proof.Defs
public import proofs.«01_k».proof.Proof.WoValue
public import proofs.«01_k».proof.Proof.Gen.WoRefIdeal.Value

@[expose] public section

set_option maxRecDepth 16384

noncomputable section

namespace Cert.WoEq

open Idealize.ShloMosaic Idealize.ShloMosaic.TcCoe Cert.Layer

/-- The reference is the residual plus the product with the widened weight. -/
theorem ref_eq (a0 : Vec Ideal Cert.WoRefIdeal.S3840x1536 .bf16) (a1 : Vec Ideal Cert.WoRefIdeal.S1536x5120 .fp8e4m3)
    (a2 : Vec Ideal Cert.WoRefIdeal.S12x40 .f32) (a3 : Vec Ideal Cert.WoRefIdeal.S3840x5120 .bf16) :
    Cert.WoRefIdeal.Value.G4 a0 a1 a2 a3 = Cert.WoIdeal.Gen.result a0 a1 a2 a3 := by
  funext y
  obtain ⟨r, k, rfl⟩ : ∃ (r : Fin 3840) (k : Fin 5120), y = ix2 r k := ⟨y 0, y 1, eq_ix2 y⟩
  unfold Cert.WoIdeal.Gen.result linear wide
  pointwise [Cert.WoRefIdeal.Value.G4, Cert.WoRefIdeal.Gen.k0_pay1]

/-- The claim: both runs end, with equal results, the arguments unchanged. -/
theorem algebraic : Cert.algebraic_WoIdeal_WoRefIdeal := by
  intro m ρ m' ρ' _ hag
  refine ⟨fun c => Cert.WoIdeal.Gen.result (m ((c : Thread Cert.WoIdeal.nD Cert.WoIdeal.τ).loc Cert.WoIdeal.main_arg0))
    (m ((c : Thread Cert.WoIdeal.nD Cert.WoIdeal.τ).loc Cert.WoIdeal.main_arg1)) (m ((c : Thread Cert.WoIdeal.nD Cert.WoIdeal.τ).loc Cert.WoIdeal.main_arg2))
    (m ((c : Thread Cert.WoIdeal.nD Cert.WoIdeal.τ).loc Cert.WoIdeal.main_arg3)), ?_, ?_⟩
  · exact (θ_run _ _ _).mono (fun _ h c => ⟨(h c).1.trans (Cert.WoIdeal.Gen.final m c), (h c).2⟩) (Cert.WoIdeal.Value.run_blocks m ρ)
  · exact (θ_run _ _ _).mono (fun _ h c => ⟨(h c).1.trans (by
      obtain ⟨h0, h1, h2, h3⟩ := hag c
      rw [h0, h1, h2, h3]; exact ref_eq _ _ _ _), (h c).2⟩) (Cert.WoRefIdeal.Value.run m' ρ')

end Cert.WoEq

end
-- ==== Proof.GateUpRun.lean ====
/- The gate_up kernel: the whole body run once in each of its two cases, the last
   column step of a row block (which also stores the scales window) and the other steps. -/
module

public import proofs.«01_k».proof.Proof.Gen.GateUp.Frame
public import proofs.«01_k».proof.Proof.Gen.GateUp.Skeleton
public import proofs.«01_k».proof.Proof.Gen.GateUp.Points
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases of the body: the last column step, and the others -/

/-- The condition of the body's one branch: it holds at the last column step of a row block. -/
abbrev last0 (i : grid0.Coords) : Prop := k0_cond1 i = 1#1

/-- The last column steps are the points 16, 33 and 50. -/
theorem hlast0 : ∀ t : Fin cfg0.N, last0 (grid0.coords t) ↔ t.val % 17 = 16 :=
  (fun t => by
    have ht : t.val < 51 := Nat.lt_of_lt_of_eq t.isLt N_0
    have e0 : (grid0.coords t 0).val = t.val / 17 % 3 := Pipeline.Grid.coords_val t 0 (by decide) rfl
    have e1 : (grid0.coords t 1).val = t.val / 1 % 17 := Pipeline.Grid.coords_val t 1 (by decide) rfl
    simp only [last0, k0_cond1, e0, e1]
    word_cmp
   : ∀ t : Fin grid0.N, last0 (grid0.coords t) ↔ t.val % 17 = 16)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_6 : ∀ t : Fin cfg0.N, cfg0.idle 6 (grid0.coords t) = false := fun _ => rfl
/-- The scales window is stored at the last column step only; before it, it is idle and not written back. -/
theorem idleAt0_5_B : ∀ t : Fin cfg0.N, ¬last0 (grid0.coords t) → cfg0.idle 5 (grid0.coords t) = true := by decide +kernel
theorem noFlush0_5_B : ∀ t : Fin cfg0.N, ¬last0 (grid0.coords t) → (cfg0.win 5).flush t = false := by decide +kernel
theorem liveAt0_5_C : ∀ t : Fin cfg0.N, last0 (grid0.coords t) → cfg0.idle 5 (grid0.coords t) = false := by decide +kernel

/-! ## The staging and scratch buffers -/

/-- One staging buffer of output window 4, through which its contents are stated (`View.read_writes_of_cover`: the
    choice does not matter). -/
abbrev VO0_4 : View sig .tc .vmem S1280x256 .fp8e4m3 := (Memref.whole cc0_stg4_0 : Memref sig .tc .vmem S1280x256 .fp8e4m3).view
/-- One staging buffer of output window 5, through which its contents are stated (`View.read_writes_of_cover`: the
    choice does not matter). -/
abbrev VO0_5 : View sig .tc .vmem S1280x34 .f32 := (Memref.whole cc0_stg5_0 : Memref sig .tc .vmem S1280x34 .f32).view
/-- One staging buffer of output window 6, through which its contents are stated (`View.read_writes_of_cover`: the
    choice does not matter). -/
abbrev VO0_6 : View sig .tc .vmem S1280x256 .bf16 := (Memref.whole cc0_stg6_0 : Memref sig .tc .vmem S1280x256 .bf16).view
/-- Each window's current staging memref at point `t`, spelled as the pipeline passes it (`bodyAt0`), and its wholeness. -/
abbrev ms0_0 (t : Fin cfg0.N) : Memref sig .tc .smem S40x68 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x5120 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x34 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1280x256 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S5120x512 .bf16 := Memref.whole cc0_scratch0
abbrev scM0_1 : Memref sig .tc .vmem S1280x128 .f32 := Memref.whole cc0_scratch1
/-- The scratch `arg10` the kernel carries between points, as a view: what it holds is stated through it. -/
abbrev VS0_1 : View sig .tc .vmem S1280x128 .f32 := scM0_1.view

/-- The invariant the launch hands over: both scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The runs -/

set_option maxHeartbeats 5048000 in
/-- The body at a step that is not the last: from the inputs, the scales window and the scale scratch at given
    contents and the other buffers at anything, it ends with the pieces `L4` and `L6` written in the two stored
    outputs, `LS1` in the scale scratch, `LT0` in the weight scratch, the scales window untouched. -/
noncomputable def kernelRun0_B (c : Dev nD) (i : grid0.Coords) (arg2 : Memref sig .tc .smem S40x68 .f32) (harg2 : arg2.IsWhole) (arg3 : Memref sig .tc .vmem S1280x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1280x256 .fp8e4m3) (harg6 : arg6.IsWhole) (arg7 : Memref sig .tc .vmem S1280x34 .f32) (harg7 : arg7.IsWhole) (arg8 : Memref sig .tc .vmem S1280x256 .bf16) (harg8 : arg8.IsWhole) (arg9 : Memref sig .tc .vmem S5120x512 .bf16) (harg9 : arg9.IsWhole) (arg10 : Memref sig .tc .vmem S1280x128 .f32) (harg10 : arg10.IsWhole) (hc : ¬last0 i)
    (x0 : Vec F S40x68 .f32) (x1 : Vec F S1280x5120 .bf16) (x2 : Vec F S5120x256 .fp8e4m3) (x3 : Vec F S5120x256 .fp8e4m3) (xs1 : Vec F S1280x128 .f32) :
    Σ' (L4 : List (View.Piece (Elt F) S1280x256 .fp8e4m3)), Σ' (L5 : List (View.Piece (Elt F) S1280x34 .f32)), Σ' (L6 : List (View.Piece (Elt F) S1280x256 .bf16)), Σ' (LS1 : List (View.Piece (Elt F) S1280x128 .f32)), { LT0 : List (View.Piece (Elt F) S5120x512 .bf16) //
      ∀ (xi5 : Vec F S1280x34 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d) ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10) K } := by
  refine ⟨?_, [], ?_, ?_, ?_, fun xi5 E K => ?run⟩
  case run =>
    simp only [cc0_gate_up_eq_skeleton]; unfold cc0_gate_up_skel
    simp only [k0_part54_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg10.eq_unread hfs1
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]; · iexists _; iexact H6
    isplitl [HS0]; · iexists _; iexact HS0
    iexists _; iexact HS1

set_option maxHeartbeats 5060000 in
/-- The body at the last step: as before, and the scales window ends with the pieces `L5` written. -/
noncomputable def kernelRun0_C (c : Dev nD) (i : grid0.Coords) (arg2 : Memref sig .tc .smem S40x68 .f32) (harg2 : arg2.IsWhole) (arg3 : Memref sig .tc .vmem S1280x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1280x256 .fp8e4m3) (harg6 : arg6.IsWhole) (arg7 : Memref sig .tc .vmem S1280x34 .f32) (harg7 : arg7.IsWhole) (arg8 : Memref sig .tc .vmem S1280x256 .bf16) (harg8 : arg8.IsWhole) (arg9 : Memref sig .tc .vmem S5120x512 .bf16) (harg9 : arg9.IsWhole) (arg10 : Memref sig .tc .vmem S1280x128 .f32) (harg10 : arg10.IsWhole) (hc : last0 i)
    (x0 : Vec F S40x68 .f32) (x1 : Vec F S1280x5120 .bf16) (x2 : Vec F S5120x256 .fp8e4m3) (x3 : Vec F S5120x256 .fp8e4m3) (xs1 : Vec F S1280x128 .f32) :
    Σ' (L4 : List (View.Piece (Elt F) S1280x256 .fp8e4m3)), Σ' (L5 : List (View.Piece (Elt F) S1280x34 .f32)), Σ' (L6 : List (View.Piece (Elt F) S1280x256 .bf16)), Σ' (LS1 : List (View.Piece (Elt F) S1280x128 .f32)), { LT0 : List (View.Piece (Elt F) S5120x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_gate_up_eq_skeleton]; unfold cc0_gate_up_skel
    simp only [k0_part54_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg10.eq_unread hfs1
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _; iexact HS1

end Cert.GateUp.Gen

end
-- ==== Proof.Lane.lean ====
/- Selecting one lane of a row by comparing lane numbers as 32-bit words. -/
module

public import Idealize.ShloMosaic.Adequacy
public import Idealize.ShloMosaic.Init
public import Idealize.ShloMosaic.Lib.WordCmp

@[expose] public section

namespace Cert.Layer

open Idealize.ShloMosaic

/-- The select by `lane = n * 2 + j` is the choice by the numbers. -/
theorem lane_select {α : Type} (l n j : ℕ) (hl : l < 128) (hn : n < 256) (hj : j < 2) (x y : α) :
    Scalar.select (IntOp.cmpi .eq (BitVec.ofNat 32 l)
      (Scalar.addi (Scalar.muli (BitVec.ofNat 32 n) 2#32) (BitVec.ofNat 32 j))) x y = if l = 2 * n + j then x else y := by
  have e : Scalar.addi (Scalar.muli (BitVec.ofNat 32 n) 2#32) (BitVec.ofNat 32 j) = BitVec.ofNat 32 (2 * n + j) := by
    show BitVec.ofNat 32 n * BitVec.ofNat 32 2 + BitVec.ofNat 32 j = _
    rw [Nat.mul_comm 2 n, BitVec.ofNat_add, BitVec.ofNat_mul]
  rw [e, WordCmp.cmpi_eq_ofNat (by omega) (by omega)]
  unfold Scalar.select
  by_cases h : l = 2 * n + j
  · rw [if_pos h, decide_eq_true h]; rfl
  · rw [if_neg h, decide_eq_false h]; rfl

end Cert.Layer
-- ==== Proof.GateUpStep.lean ====
/- What one step of the gate_up kernel leaves in its buffers, as functions of the activations `x1` and the widened
   weight tile `W`: two 128-column groups of codes and of activations, and the row scales of the two groups put in
   lanes `2 n` and `2 n + 1` of the scale scratch. -/
module

public import proofs.«01_k».proof.Proof.GateUpRun
public import proofs.«01_k».proof.Proof.Lane
public import Idealize.ShloMosaic.Lib.Pointwise

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first group's row scales, in every lane. -/
def scale0 (X : Vec F S1280x5120 .bf16) (W : Vec F S5120x512 .bf16) : FVec F S1280x128 .f32 :=
  k0_pay222 (k0_pay198 X W) (k0_pay213 (k0_pay202 X W) (Scalar.ofBits .f32 0x4F800000#32))
    (k0_pay214 (k0_pay202 X W) (k0_pay203 X W) (Scalar.ofBits .f32 0x4F800000#32))
    (k0_pay215 (k0_pay202 X W) (Scalar.ofBits .f32 0x4F800000#32)) (k0_pay216 (k0_pay202 X W) (Scalar.ofBits .f32 0x4F800000#32))

/-- The first group's codes. -/
def codes0 (X : Vec F S1280x5120 .bf16) (W : Vec F S5120x512 .bf16) : FVec F S1280x128 .fp8e4m3 :=
  k0_pay219 (k0_pay197 X W) (k0_pay213 (k0_pay202 X W) (Scalar.ofBits .f32 0x4F800000#32))
    (k0_pay214 (k0_pay202 X W) (k0_pay203 X W) (Scalar.ofBits .f32 0x4F800000#32))
    (k0_pay215 (k0_pay202 X W) (Scalar.ofBits .f32 0x4F800000#32)) (k0_pay216 (k0_pay202 X W) (Scalar.ofBits .f32 0x4F800000#32))

/-- The first group's dequantised activations. -/
def acts0 (X : Vec F S1280x5120 .bf16) (W : Vec F S5120x512 .bf16) : FVec F S1280x128 .bf16 :=
  k0_pay220 (k0_pay197 X W) (k0_pay213 (k0_pay202 X W) (Scalar.ofBits .f32 0x4F800000#32))
    (k0_pay214 (k0_pay202 X W) (k0_pay203 X W) (Scalar.ofBits .f32 0x4F800000#32))
    (k0_pay215 (k0_pay202 X W) (Scalar.ofBits .f32 0x4F800000#32)) (k0_pay216 (k0_pay202 X W) (Scalar.ofBits .f32 0x4F800000#32))

/-- The second group's scale before the zero rows are given scale one. -/
def pow1 (X : Vec F S1280x5120 .bf16) (W : Vec F S5120x512 .bf16) : FVec F S1280x1 .f32 :=
  k0_pay237 (k0_pay233 (k0_pay196 X W)) (k0_pay234 (k0_pay196 X W)) (k0_pay235 (k0_pay196 X W))

/-- The second group's values times the inverse scale, before clipping. -/
def scaled1 (X : Vec F S1280x5120 .bf16) (W : Vec F S5120x512 .bf16) : FVec F S1280x128 .f32 :=
  k0_pay239 (k0_pay224 (k0_pay196 X W))
    (k0_pay238 (k0_pay233 (k0_pay196 X W)) (k0_pay234 (k0_pay196 X W)) (k0_pay235 (k0_pay196 X W)))

/-- The second group's codes. -/
def codes1 (X : Vec F S1280x5120 .bf16) (W : Vec F S5120x512 .bf16) : FVec F S1280x128 .fp8e4m3 :=
  k0_pay1 (Scalar.ofBits .f32 0x43E00000#32) (scaled1 X W)

/-- The second group's dequantised activations. -/
def acts1 (X : Vec F S1280x5120 .bf16) (W : Vec F S5120x512 .bf16) : FVec F S1280x128 .bf16 :=
  k0_pay2 (pow1 X W) (Scalar.ofBits .f32 0x43E00000#32) (scaled1 X W)

/-- The step's block of codes. -/
def codes (X : Vec F S1280x5120 .bf16) (W : Vec F S5120x512 .bf16) : Vec F S1280x256 .fp8e4m3 :=
  View.canon [⟨Rect.unit ![0, 128] ![1280, 128] inb_S1280x256_S1280x128_0_128, codes1 X W⟩,
    ⟨Rect.unit ![0, 0] ![1280, 128] inb_S1280x256_S1280x128_0_0, codes0 X W⟩]

/-- The step's block of activations. -/
def acts (X : Vec F S1280x5120 .bf16) (W : Vec F S5120x512 .bf16) : Vec F S1280x256 .bf16 :=
  View.canon [⟨Rect.unit ![0, 128] ![1280, 128] inb_S1280x256_S1280x128_0_128, acts1 X W⟩,
    ⟨Rect.unit ![0, 0] ![1280, 128] inb_S1280x256_S1280x128_0_0, acts0 X W⟩]

/-- The scale scratch after step `n`, from its contents `xs` before. -/
def next (n : ℕ) (X : Vec F S1280x5120 .bf16) (W : Vec F S5120x512 .bf16) (xs : Vec F S1280x128 .f32) :
    FVec F S1280x128 .f32 :=
  k0_pay3 (BitVec.ofNat 32 n) (iota .tc S1280x128 32 [1] iota_S1280x128_d1_w32)
    (k0_pay223 xs (k0_pay221 (BitVec.ofNat 32 n) (iota .tc S1280x128 32 [1] iota_S1280x128_d1_w32)) (scale0 X W))
    (k0_pay225 (k0_pay196 X W)) (pow1 X W)

/-- The first 34 lanes of the scale scratch, which the last step stores in the scales window. -/
def lanes (s : Vec F S1280x128 .f32) : Vec F S1280x34 .f32 :=
  fun j => s ((Rect.unit (s := S1280x128) ![0, 0] ![1280, 34] inb_S1280x128_S1280x34_0_0).toLoadRect.idx j)

/-- The widened weight tile the step stores in its scratch. -/
def weights (c : Dev nD) (i : grid0.Coords) (arg2 : Memref sig .tc .smem S40x68 .f32) (harg2 : arg2.IsWhole)
    (arg4 : Memref sig .tc .vmem S5120x256 .fp8e4m3) (harg4 : arg4.IsWhole)
    (arg5 : Memref sig .tc .vmem S5120x256 .fp8e4m3) (harg5 : arg5.IsWhole)
    (x0 : Vec F S40x68 .f32) (x2 : Vec F S5120x256 .fp8e4m3) (x3 : Vec F S5120x256 .fp8e4m3) : Vec F S5120x512 .bf16 :=
  View.canon (kernelRun0_B.sl.HS0_160 c i arg2 harg2 arg4 harg4 arg5 harg5 x0 x2 x3)

theorem hz0 : (![0, 0] : Fin 2 → ℕ) = fun _ => 0 := funext fun a => by fin_cases a <;> rfl

/-- The stores into the weight scratch cover it. -/
theorem covers_B (c : Dev nD) (i : grid0.Coords) (arg2 : Memref sig .tc .smem S40x68 .f32) (harg2 : arg2.IsWhole)
    (arg4 : Memref sig .tc .vmem S5120x256 .fp8e4m3) (harg4 : arg4.IsWhole)
    (arg5 : Memref sig .tc .vmem S5120x256 .fp8e4m3) (harg5 : arg5.IsWhole)
    (x0 : Vec F S40x68 .f32) (x2 : Vec F S5120x256 .fp8e4m3) (x3 : Vec F S5120x256 .fp8e4m3) (y : S5120x512.Idx) :
    ∃ p ∈ kernelRun0_B.sl.HS0_160 c i arg2 harg2 arg4 harg4 arg5 harg5 x0 x2 x3, y ∈ p.1.set :=
  View.cover_of_tiledL _ ![128, 128] (by sl_kernel_rfl) y

/-- The weight scratch read back is the widened weight tile. -/
theorem read_weights_B (c : Dev nD) (i : grid0.Coords) (arg2 : Memref sig .tc .smem S40x68 .f32) (harg2 : arg2.IsWhole)
    (arg4 : Memref sig .tc .vmem S5120x256 .fp8e4m3) (harg4 : arg4.IsWhole)
    (arg5 : Memref sig .tc .vmem S5120x256 .fp8e4m3) (harg5 : arg5.IsWhole)
    (arg9 : Memref sig .tc .vmem S5120x512 .bf16)
    (x0 : Vec F S40x68 .f32) (x2 : Vec F S5120x256 .fp8e4m3) (x3 : Vec F S5120x256 .fp8e4m3) :
    kernelRun0_B.sl.v1764 c i arg2 harg2 arg4 harg4 arg5 harg5 arg9 x0 x2 x3
      = weights c i arg2 harg2 arg4 harg4 arg5 harg5 x0 x2 x3 := by
  unfold kernelRun0_B.sl.v1764 weights
  rw [View.readCov_eq_canon_ld _ _ _ (covers_B c i arg2 harg2 arg4 harg4 arg5 harg5 x0 x2 x3), View.ld_unit_zero hz0]

/-- What the run leaves in each buffer is the step's. -/
theorem run_B (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : ¬last0 i)
    (x0 : Vec F S40x68 .f32) (x1 : Vec F S1280x5120 .bf16) (x2 : Vec F S5120x256 .fp8e4m3)
    (x3 : Vec F S5120x256 .fp8e4m3) (xs1 : Vec F S1280x128 .f32) :
    View.canon (kernelRun0_B c i arg2 harg2 arg3 harg3 arg4 harg4 arg5 harg5 arg6 harg6 arg7 harg7 arg8 harg8 arg9 harg9 arg10 harg10 hc x0 x1 x2 x3 xs1).1
        = codes x1 (weights c i arg2 harg2 arg4 harg4 arg5 harg5 x0 x2 x3)
    ∧ View.canon (kernelRun0_B c i arg2 harg2 arg3 harg3 arg4 harg4 arg5 harg5 arg6 harg6 arg7 harg7 arg8 harg8 arg9 harg9 arg10 harg10 hc x0 x1 x2 x3 xs1).2.2.1
        = acts x1 (weights c i arg2 harg2 arg4 harg4 arg5 harg5 x0 x2 x3)
    ∧ View.canon (kernelRun0_B c i arg2 harg2 arg3 harg3 arg4 harg4 arg5 harg5 arg6 harg6 arg7 harg7 arg8 harg8 arg9 harg9 arg10 harg10 hc x0 x1 x2 x3 xs1).2.2.2.1
        = next (i 1).val x1 (weights c i arg2 harg2 arg4 harg4 arg5 harg5 x0 x2 x3) xs1 := by
  unfold kernelRun0_B
  dsimp only
  simp only [kernelRun0_B.sl.r_200, kernelRun0_B.sl.r_201, kernelRun0_B.sl.r_202, kernelRun0_B.sl.r_203, kernelRun0_B.sl.r_204, kernelRun0_B.sl.r_205, kernelRun0_B.sl.r_206, kernelRun0_B.sl.r_207, kernelRun0_B.sl.r_208, kernelRun0_B.sl.r_209, kernelRun0_B.sl.r_210, kernelRun0_B.sl.r_211, kernelRun0_B.sl.r_212, kernelRun0_B.sl.r_213, kernelRun0_B.sl.r_214, kernelRun0_B.sl.r_215, kernelRun0_B.sl.r_216, kernelRun0_B.sl.r_217, kernelRun0_B.sl.r_218, kernelRun0_B.sl.r_219, kernelRun0_B.sl.r_220]
  simp only [read_weights_B, View.readAt_eq_ld, Memref.IsWhole.read_unread]
  rw [View.ld_unit_zero hz0, View.ld_unit_zero hz0]
  refine ⟨rfl, rfl, View.canon_unit_zero hz0 _ _⟩

/-- The stores into the weight scratch cover it. -/
theorem covers_C (c : Dev nD) (i : grid0.Coords) (arg2 : Memref sig .tc .smem S40x68 .f32) (harg2 : arg2.IsWhole)
    (arg4 : Memref sig .tc .vmem S5120x256 .fp8e4m3) (harg4 : arg4.IsWhole)
    (arg5 : Memref sig .tc .vmem S5120x256 .fp8e4m3) (harg5 : arg5.IsWhole)
    (x0 : Vec F S40x68 .f32) (x2 : Vec F S5120x256 .fp8e4m3) (x3 : Vec F S5120x256 .fp8e4m3) (y : S5120x512.Idx) :
    ∃ p ∈ kernelRun0_C.sl.HS0_160 c i arg2 harg2 arg4 harg4 arg5 harg5 x0 x2 x3, y ∈ p.1.set :=
  View.cover_of_tiledL _ ![128, 128] (by sl_kernel_rfl) y

/-- The weight scratch read back is the widened weight tile. -/
theorem read_weights_C (c : Dev nD) (i : grid0.Coords) (arg2 : Memref sig .tc .smem S40x68 .f32) (harg2 : arg2.IsWhole)
    (arg4 : Memref sig .tc .vmem S5120x256 .fp8e4m3) (harg4 : arg4.IsWhole)
    (arg5 : Memref sig .tc .vmem S5120x256 .fp8e4m3) (harg5 : arg5.IsWhole)
    (arg9 : Memref sig .tc .vmem S5120x512 .bf16)
    (x0 : Vec F S40x68 .f32) (x2 : Vec F S5120x256 .fp8e4m3) (x3 : Vec F S5120x256 .fp8e4m3) :
    kernelRun0_C.sl.v1764 c i arg2 harg2 arg4 harg4 arg5 harg5 arg9 x0 x2 x3
      = weights c i arg2 harg2 arg4 harg4 arg5 harg5 x0 x2 x3 := by
  unfold kernelRun0_C.sl.v1764 weights
  rw [View.readCov_eq_canon_ld _ _ _ (covers_C c i arg2 harg2 arg4 harg4 arg5 harg5 x0 x2 x3), View.ld_unit_zero hz0]
  rfl
/-- What the run leaves in each buffer is the step's. -/
theorem run_C (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : last0 i)
    (x0 : Vec F S40x68 .f32) (x1 : Vec F S1280x5120 .bf16) (x2 : Vec F S5120x256 .fp8e4m3)
    (x3 : Vec F S5120x256 .fp8e4m3) (xs1 : Vec F S1280x128 .f32) :
    View.canon (kernelRun0_C c i arg2 harg2 arg3 harg3 arg4 harg4 arg5 harg5 arg6 harg6 arg7 harg7 arg8 harg8 arg9 harg9 arg10 harg10 hc x0 x1 x2 x3 xs1).1
        = codes x1 (weights c i arg2 harg2 arg4 harg4 arg5 harg5 x0 x2 x3)
    ∧ View.canon (kernelRun0_C c i arg2 harg2 arg3 harg3 arg4 harg4 arg5 harg5 arg6 harg6 arg7 harg7 arg8 harg8 arg9 harg9 arg10 harg10 hc x0 x1 x2 x3 xs1).2.2.1
        = acts x1 (weights c i arg2 harg2 arg4 harg4 arg5 harg5 x0 x2 x3)
    ∧ View.canon (kernelRun0_C c i arg2 harg2 arg3 harg3 arg4 harg4 arg5 harg5 arg6 harg6 arg7 harg7 arg8 harg8 arg9 harg9 arg10 harg10 hc x0 x1 x2 x3 xs1).2.2.2.1
        = next (i 1).val x1 (weights c i arg2 harg2 arg4 harg4 arg5 harg5 x0 x2 x3) xs1
    ∧ View.canon (kernelRun0_C c i arg2 harg2 arg3 harg3 arg4 harg4 arg5 harg5 arg6 harg6 arg7 harg7 arg8 harg8 arg9 harg9 arg10 harg10 hc x0 x1 x2 x3 xs1).2.1
        = lanes (next (i 1).val x1 (weights c i arg2 harg2 arg4 harg4 arg5 harg5 x0 x2 x3) xs1) := by
  unfold kernelRun0_C
  dsimp only
  simp only [kernelRun0_C.sl.r_200, kernelRun0_C.sl.r_201, kernelRun0_C.sl.r_202, kernelRun0_C.sl.r_203, kernelRun0_C.sl.r_204, kernelRun0_C.sl.r_205, kernelRun0_C.sl.r_206, kernelRun0_C.sl.r_207, kernelRun0_C.sl.r_208, kernelRun0_C.sl.r_209, kernelRun0_C.sl.r_210, kernelRun0_C.sl.r_211, kernelRun0_C.sl.r_212, kernelRun0_C.sl.r_213, kernelRun0_C.sl.r_214, kernelRun0_C.sl.r_215, kernelRun0_C.sl.r_216, kernelRun0_C.sl.r_217, kernelRun0_C.sl.r_218, kernelRun0_C.sl.r_219, kernelRun0_C.sl.r_220, kernelRun0_C.sl.v1999, kernelRun0_C.sl.HS1_1]
  simp only [read_weights_C, View.readAt_eq_ld, Memref.IsWhole.read_unread]
  rw [View.ld_unit_zero hz0, View.ld_unit_zero hz0]
  refine ⟨rfl, rfl, View.canon_unit_zero hz0 _ _, (View.canon_unit_zero hz0 _ _).trans
    ((View.readCov_eq_canon' _ _ _).trans (funext fun j => congrFun (View.canon_unit_zero hz0 _ _) _))⟩

/-- The second group's row scale. -/
def scale1 (X : Vec F S1280x5120 .bf16) (W : Vec F S5120x512 .bf16) : FVec F S1280x1 .f32 :=
  select (cmpf .oeq (k0_pay225 (k0_pay196 X W)) (broadcast S1280x1 (Scalar.ofBits .f32 0x00000000#32)))
    (broadcast S1280x1 (Scalar.ofBits .f32 0x3F800000#32)) (pow1 X W)

/-- Step `n` writes lanes `2 n` and `2 n + 1` and keeps the others. -/
theorem next_apply (n : ℕ) (hn : n < 17) (X : Vec F S1280x5120 .bf16) (W : Vec F S5120x512 .bf16)
    (xs : Vec F S1280x128 .f32) (r : Fin 1280) (l : Fin 128) :
    next n X W xs (ix2 r l) = if l.val = 2 * n + 1 then scale1 X W (ix2 r 0)
      else if l.val = 2 * n then scale0 X W (ix2 r l) else xs (ix2 r l) := by
  unfold next
  have h1 := fun (x y : F .f32) => Cert.Layer.lane_select l.val n 1 l.isLt (by omega) (by decide) x y
  have h0 := fun (x y : F .f32) => Cert.Layer.lane_select l.val n 0 l.isLt (by omega) (by decide) x y
  pointwise [k0_pay3, k0_pay223, k0_pay221, scale1]
  exact (h1 _ _).trans (if_congr Iff.rfl rfl (h0 _ _))

/-- A lane of the stored scales window is that lane of the scratch. -/
theorem lanes_apply (s : Vec F S1280x128 .f32) (r : Fin 1280) (l : Fin 34) :
    lanes s (ix2 r l) = s (ix2 r ⟨l.val, by omega⟩) := by
  refine congrArg s (funext fun a => Fin.ext ?_)
  match a with
  | ⟨0, _⟩ => show 0 + 1 * r.val = r.val; omega
  | ⟨1, _⟩ => show 0 + 1 * l.val = l.val; omega

end Cert.GateUp.Gen

end
-- ==== Proof.GateUpFrame.lean ====
/- The gate_up kernel from launch to end. Its scale scratch is carried from step to step and starts at
   unknown contents: step `n` of a row block writes lanes `2 n` and `2 n + 1`, and only the last step's first 34 lanes
   are stored. So the invariant says which lanes are known: the scratch agrees, on the lanes written so far in the
   row block, with the scratch of a run started at a fixed content (`scratch`). -/
module

public import proofs.«01_k».proof.Proof.GateUpStep

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover the buffers -/

theorem cover4_B (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : ¬last0 i)
    (x0 : Vec F S40x68 .f32) (x1 : Vec F S1280x5120 .bf16) (x2 : Vec F S5120x256 .fp8e4m3)
    (x3 : Vec F S5120x256 .fp8e4m3) (xs1 : Vec F S1280x128 .f32) (y : S1280x256.Idx) :
    ∃ pc ∈ (kernelRun0_B c i arg2 harg2 arg3 harg3 arg4 harg4 arg5 harg5 arg6 harg6 arg7 harg7 arg8 harg8
      arg9 harg9 arg10 harg10 hc x0 x1 x2 x3 xs1).1, y ∈ pc.1.set :=
  View.cover_of_tiledL (kernelRun0_B c i arg2 harg2 arg3 harg3 arg4 harg4 arg5 harg5 arg6 harg6 arg7 harg7 arg8 harg8
      arg9 harg9 arg10 harg10 hc x0 x1 x2 x3 xs1).1 S1280x128.size (by sl_kernel_rfl) y

theorem cover6_B (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : ¬last0 i)
    (x0 : Vec F S40x68 .f32) (x1 : Vec F S1280x5120 .bf16) (x2 : Vec F S5120x256 .fp8e4m3)
    (x3 : Vec F S5120x256 .fp8e4m3) (xs1 : Vec F S1280x128 .f32) (y : S1280x256.Idx) :
    ∃ pc ∈ (kernelRun0_B c i arg2 harg2 arg3 harg3 arg4 harg4 arg5 harg5 arg6 harg6 arg7 harg7 arg8 harg8
      arg9 harg9 arg10 harg10 hc x0 x1 x2 x3 xs1).2.2.1, y ∈ pc.1.set :=
  View.cover_of_tiledL (kernelRun0_B c i arg2 harg2 arg3 harg3 arg4 harg4 arg5 harg5 arg6 harg6 arg7 harg7 arg8 harg8
      arg9 harg9 arg10 harg10 hc x0 x1 x2 x3 xs1).2.2.1 S1280x128.size (by sl_kernel_rfl) y

theorem scover_B (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : ¬last0 i)
    (x0 : Vec F S40x68 .f32) (x1 : Vec F S1280x5120 .bf16) (x2 : Vec F S5120x256 .fp8e4m3)
    (x3 : Vec F S5120x256 .fp8e4m3) (xs1 : Vec F S1280x128 .f32) (y : S1280x128.Idx) :
    ∃ pc ∈ (kernelRun0_B c i arg2 harg2 arg3 harg3 arg4 harg4 arg5 harg5 arg6 harg6 arg7 harg7 arg8 harg8
      arg9 harg9 arg10 harg10 hc x0 x1 x2 x3 xs1).2.2.2.1, y ∈ pc.1.set :=
  View.cover_of_tiledL (kernelRun0_B c i arg2 harg2 arg3 harg3 arg4 harg4 arg5 harg5 arg6 harg6 arg7 harg7 arg8 harg8
      arg9 harg9 arg10 harg10 hc x0 x1 x2 x3 xs1).2.2.2.1 S1280x128.size (by sl_kernel_rfl) y

theorem cover4_C (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : last0 i)
    (x0 : Vec F S40x68 .f32) (x1 : Vec F S1280x5120 .bf16) (x2 : Vec F S5120x256 .fp8e4m3)
    (x3 : Vec F S5120x256 .fp8e4m3) (xs1 : Vec F S1280x128 .f32) (y : S1280x256.Idx) :
    ∃ pc ∈ (kernelRun0_C c i arg2 harg2 arg3 harg3 arg4 harg4 arg5 harg5 arg6 harg6 arg7 harg7 arg8 harg8
      arg9 harg9 arg10 harg10 hc x0 x1 x2 x3 xs1).1, y ∈ pc.1.set :=
  View.cover_of_tiledL (kernelRun0_C c i arg2 harg2 arg3 harg3 arg4 harg4 arg5 harg5 arg6 harg6 arg7 harg7 arg8 harg8
      arg9 harg9 arg10 harg10 hc x0 x1 x2 x3 xs1).1 S1280x128.size (by sl_kernel_rfl) y

theorem cover5_C (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : last0 i)
    (x0 : Vec F S40x68 .f32) (x1 : Vec F S1280x5120 .bf16) (x2 : Vec F S5120x256 .fp8e4m3)
    (x3 : Vec F S5120x256 .fp8e4m3) (xs1 : Vec F S1280x128 .f32) (y : S1280x34.Idx) :
    ∃ pc ∈ (kernelRun0_C c i arg2 harg2 arg3 harg3 arg4 harg4 arg5 harg5 arg6 harg6 arg7 harg7 arg8 harg8
      arg9 harg9 arg10 harg10 hc x0 x1 x2 x3 xs1).2.1, y ∈ pc.1.set :=
  View.cover_of_tiledL (kernelRun0_C c i arg2 harg2 arg3 harg3 arg4 harg4 arg5 harg5 arg6 harg6 arg7 harg7 arg8 harg8
      arg9 harg9 arg10 harg10 hc x0 x1 x2 x3 xs1).2.1 S1280x34.size (by sl_kernel_rfl) y

theorem cover6_C (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : last0 i)
    (x0 : Vec F S40x68 .f32) (x1 : Vec F S1280x5120 .bf16) (x2 : Vec F S5120x256 .fp8e4m3)
    (x3 : Vec F S5120x256 .fp8e4m3) (xs1 : Vec F S1280x128 .f32) (y : S1280x256.Idx) :
    ∃ pc ∈ (kernelRun0_C c i arg2 harg2 arg3 harg3 arg4 harg4 arg5 harg5 arg6 harg6 arg7 harg7 arg8 harg8
      arg9 harg9 arg10 harg10 hc x0 x1 x2 x3 xs1).2.2.1, y ∈ pc.1.set :=
  View.cover_of_tiledL (kernelRun0_C c i arg2 harg2 arg3 harg3 arg4 harg4 arg5 harg5 arg6 harg6 arg7 harg7 arg8 harg8
      arg9 harg9 arg10 harg10 hc x0 x1 x2 x3 xs1).2.2.1 S1280x128.size (by sl_kernel_rfl) y

theorem scover_C (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : last0 i)
    (x0 : Vec F S40x68 .f32) (x1 : Vec F S1280x5120 .bf16) (x2 : Vec F S5120x256 .fp8e4m3)
    (x3 : Vec F S5120x256 .fp8e4m3) (xs1 : Vec F S1280x128 .f32) (y : S1280x128.Idx) :
    ∃ pc ∈ (kernelRun0_C c i arg2 harg2 arg3 harg3 arg4 harg4 arg5 harg5 arg6 harg6 arg7 harg7 arg8 harg8
      arg9 harg9 arg10 harg10 hc x0 x1 x2 x3 xs1).2.2.2.1, y ∈ pc.1.set :=
  View.cover_of_tiledL (kernelRun0_C c i arg2 harg2 arg3 harg3 arg4 harg4 arg5 harg5 arg6 harg6 arg7 harg7 arg8 harg8
      arg9 harg9 arg10 harg10 hc x0 x1 x2 x3 xs1).2.2.2.1 S1280x128.size (by sl_kernel_rfl) y

/-! ## The scale scratch -/

/-- The widened weight tile of point `t`. -/
def wtile (c : Dev nD) (t : Fin cfg0.N) : Vec F S5120x512 .bf16 :=
  weights c (grid0.coords t) (ms0_0 t) (hs0_0 t) (ms0_2 t) (hs0_2 t) (ms0_3 t) (hs0_3 t) (iblk m c 0 t) (iblk m c 2 t) (iblk m c 3 t)

/-- The scale scratch after point `n` of a run started at a fixed content. -/
def scratch (c : Dev nD) : (n : ℕ) → n < cfg0.N → Vec F S1280x128 .f32
  | 0, hn => next (grid0.coords ⟨0, hn⟩ 1).val (iblk m c 1 ⟨0, hn⟩) (wtile m c ⟨0, hn⟩) (fun _ => Scalar.ofBits .f32 0x00000000#32)
  | n + 1, hn => next (grid0.coords ⟨n + 1, hn⟩ 1).val (iblk m c 1 ⟨n + 1, hn⟩) (wtile m c ⟨n + 1, hn⟩)
      (scratch c n (Nat.lt_of_succ_lt hn))

/-- A point's column step. -/
theorem step_val (t : Fin cfg0.N) : (grid0.coords t 1).val = t.val % 17 :=
  (fun t => by
    have e1 : (grid0.coords t 1).val = t.val / 1 % 17 := Pipeline.Grid.coords_val t 1 (by decide) rfl
    rw [e1, Nat.div_one]
   : ∀ t : Fin grid0.N, (grid0.coords t 1).val = t.val % 17) t

/-- The contents `xs` agree with `scratch` on the lanes written before point `n` in its row block. -/
def Agrees (c : Dev nD) : (n : ℕ) → n ≤ cfg0.N → Vec F S1280x128 .f32 → Prop
  | 0, _, _ => True
  | n + 1, hn, xs => ∀ (r : Fin 1280) (l : Fin 128), l.val < 2 * (n % 17) + 2 → xs (ix2 r l) = scratch m c n hn (ix2 r l)

/-- One step keeps the agreement. -/
theorem agrees_step (c : Dev nD) (t : Fin cfg0.N) (xs : Vec F S1280x128 .f32)
    (h : Agrees m c t.val (Nat.le_of_lt t.isLt) xs) :
    Agrees m c (t.val + 1) t.isLt (next (grid0.coords t 1).val (iblk m c 1 t) (wtile m c t) xs) := by
  obtain ⟨n, hn⟩ := t
  have hs : (grid0.coords ⟨n, hn⟩ 1).val = n % 17 := step_val ⟨n, hn⟩
  have hm : n % 17 < 17 := Nat.mod_lt _ (by decide)
  intro r l hl
  have hl : l.val < 2 * (n % 17) + 2 := hl
  cases n with
  | zero =>
    show next _ _ _ _ (ix2 r l) = next _ _ _ _ (ix2 r l)
    rw [next_apply _ (hs ▸ hm), next_apply _ (hs ▸ hm), hs]
    split_ifs with h1 h0
    · rfl
    · rfl
    · omega
  | succ n =>
    show next _ _ _ _ (ix2 r l) = next _ _ _ _ (ix2 r l)
    rw [next_apply _ (hs ▸ hm), next_apply _ (hs ▸ hm), hs]
    split_ifs with h1 h0
    · rfl
    · rfl
    · exact h r l (by omega)

/-- At the last step every stored lane is known. -/
theorem lanes_scratch (c : Dev nD) (t : Fin cfg0.N) (hl : t.val % 17 = 16) (xs : Vec F S1280x128 .f32)
    (h : Agrees m c (t.val + 1) t.isLt xs) : lanes xs = lanes (scratch m c t.val t.isLt) := by
  funext y
  obtain ⟨r, l, rfl⟩ : ∃ r l, y = ix2 r l := ⟨y 0, y 1, eq_ix2 y⟩
  rw [lanes_apply, lanes_apply]
  exact h r _ (by have := l.isLt; dsimp only; omega)

/-! ## The pipeline's proof data -/

/-- The invariant before point `n`: the weight scratch at anything, the scale scratch at contents that agree. -/
def PhiS (c : Dev nD) (n : ℕ) (hn : n ≤ cfg0.N) : sProp 𝕄 :=
  iprop((∃ d, owns (c : Thread nD τ) scM0_0 fullShare d)
    ∗ (∃ xs, ⌜Agrees m c n hn xs⌝ ∗ owns (c : Thread nD τ) scM0_1 fullShare xs) ∗ (∃ r, prngReg c r))

/-- After the body at point `t` each input's buffer holds its block and each output's the step's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codes (iblk m c 1 t) (wtile m c t)
    | ⟨5, _⟩ => lanes (scratch m c t.val t.isLt)
    | ⟨6, _⟩ => acts (iblk m c 1 t) (wtile m c t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codes (iblk m c 1 t) (wtile m c t) := by dsimp only [dats]
theorem after0_5 (c : Dev nD) (t : Fin cfg0.N) : (dats m 0 c).after 5 t = lanes (scratch m c t.val t.isLt) := by dsimp only [dats]
theorem after0_6 (c : Dev nD) (t : Fin cfg0.N) : (dats m 0 c).after 6 t = acts (iblk m c 1 t) (wtile m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_castSucc m c t]
  unfold PhiS
  by_cases h : t.val % 17 = 16
  · skip
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5_C t ((hlast0 t).mpr h)], after0_5]
    rw [show (dats m 0 c).leavesExact 6 t = owns (c : Thread nD τ) (ms0_6 t) fullShare ((dats m 0 c).after 6 t) from by
      unfold Dat.leavesExact; rw [liveAt0_6 t], after0_6]
    iintro ⟨⟨HS0, ⟨%xs, %hxs, HS1⟩, Hg⟩, Ho, ⟨%d0, H0⟩, ⟨%d1, H1⟩, ⟨%d2, H2⟩, ⟨%d3, H3⟩, ⟨%d4, H4⟩, ⟨%d5, H5⟩, ⟨%d6, H6⟩⟩
    have hrun := run_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hlast0 t).mpr h) (iblk m c 0 t) (iblk m c 1 t) (iblk m c 2 t) (iblk m c 3 t) xs
    iapply ((kernelRun0_C c (grid0.coords t) _ _ _ _ _ _ _ _ _ _ _ _ _ _ _ _ _ _ ((hlast0 t).mpr h) (iblk m c 0 t) (iblk m c 1 t) (iblk m c 2 t) (iblk m c 3 t) xs).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%fT0, HS0⟩, ⟨%es1, HS1⟩⟩
    isplitl [HS0 HS1 Hg]
    · isplitl [HS0]
      · iexists _; unfold owns; iexists _; isplitr
        swap; · iexact HS0
        ipureintro; rfl
      isplitl [HS1]
      · iexists (next (grid0.coords t 1).val (iblk m c 1 t) (wtile m c t) xs)
        isplitr
        · ipureintro; exact agrees_step m c t xs hxs
        unfold owns; iexists _; isplitr
        swap; · iexact HS1
        ipureintro
        exact (View.read_writes_eq_canon _ _ _ (scover_C c _ _ _ _ _ _ _ _ _ _ _ _ _ _ _ _ _ _ _ ((hlast0 t).mpr h) _ _ _ _ _)).trans hrun.2.2.1
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro
      exact (View.read_writes_eq_canon _ _ _ (cover4_C c _ _ _ _ _ _ _ _ _ _ _ _ _ _ _ _ _ _ _ ((hlast0 t).mpr h) _ _ _ _ _)).trans hrun.1
    isplitl [H5]
    · unfold owns; iexists _; isplitr
      swap; · iexact H5
      ipureintro
      exact ((View.read_writes_eq_canon _ _ _ (cover5_C c _ _ _ _ _ _ _ _ _ _ _ _ _ _ _ _ _ _ _ ((hlast0 t).mpr h) _ _ _ _ _)).trans hrun.2.2.2).trans
        (lanes_scratch m c t h _ (agrees_step m c t xs hxs))
    unfold owns; iexists _; isplitr
    swap; · iexact H6
    ipureintro
    exact (View.read_writes_eq_canon _ _ _ (cover6_C c _ _ _ _ _ _ _ _ _ _ _ _ _ _ _ _ _ _ _ ((hlast0 t).mpr h) _ _ _ _ _)).trans hrun.2.1
  · skip
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [Dat.leavesExact_idle (dats m 0 c) 5 t (idleAt0_5_B t (fun g => h ((hlast0 t).mp g))) (noFlush0_5_B t (fun g => h ((hlast0 t).mp g)))]
    rw [show (dats m 0 c).leavesExact 6 t = owns (c : Thread nD τ) (ms0_6 t) fullShare ((dats m 0 c).after 6 t) from by
      unfold Dat.leavesExact; rw [liveAt0_6 t], after0_6]
    iintro ⟨⟨HS0, ⟨%xs, %hxs, HS1⟩, Hg⟩, Ho, ⟨%d0, H0⟩, ⟨%d1, H1⟩, ⟨%d2, H2⟩, ⟨%d3, H3⟩, ⟨%d4, H4⟩, ⟨%d5, H5⟩, ⟨%d6, H6⟩⟩
    have hrun := run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun g => h ((hlast0 t).mp g)) (iblk m c 0 t) (iblk m c 1 t) (iblk m c 2 t) (iblk m c 3 t) xs
    iapply ((kernelRun0_B c (grid0.coords t) _ _ _ _ _ _ _ _ _ _ _ _ _ _ _ _ _ _ (fun g => h ((hlast0 t).mp g)) (iblk m c 0 t) (iblk m c 1 t) (iblk m c 2 t) (iblk m c 3 t) xs).2.2.2.2.2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexists _; iexact H6
    isplitl [HS0]; · iexact HS0
    isplitl [HS1]; · iexact HS1
    iintro ⟨H0, H1, H2, H3, ⟨%e4, H4⟩, H5, ⟨%e6, H6⟩, ⟨%fT0, HS0⟩, ⟨%es1, HS1⟩⟩
    isplitl [HS0 HS1 Hg]
    · isplitl [HS0]
      · iexists _; unfold owns; iexists _; isplitr
        swap; · iexact HS0
        ipureintro; rfl
      isplitl [HS1]
      · iexists (next (grid0.coords t 1).val (iblk m c 1 t) (wtile m c t) xs)
        isplitr
        · ipureintro; exact agrees_step m c t xs hxs
        unfold owns; iexists _; isplitr
        swap; · iexact HS1
        ipureintro
        exact (View.read_writes_eq_canon _ _ _ (scover_B c _ _ _ _ _ _ _ _ _ _ _ _ _ _ _ _ _ _ _ (fun g => h ((hlast0 t).mp g)) _ _ _ _ _)).trans hrun.2.2
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro
      exact (View.read_writes_eq_canon _ _ _ (cover4_B c _ _ _ _ _ _ _ _ _ _ _ _ _ _ _ _ _ _ _ (fun g => h ((hlast0 t).mp g)) _ _ _ _ _)).trans hrun.1
    isplitl [H5]; · iexists _; iexact H5
    unfold owns; iexists _; isplitr
    swap; · iexact H6
    ipureintro
    exact (View.read_writes_eq_canon _ _ _ (cover6_B c _ _ _ _ _ _ _ _ _ _ _ _ _ _ _ _ _ _ _ (fun g => h ((hlast0 t).mp g)) _ _ _ _ _)).trans hrun.2.1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point; -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨HS0, ⟨%xs, HS1⟩⟩, Hg⟩
  isplitl [HS0]; · iexact HS0
  isplitl [HS1]
  · iexists xs; isplitr
    · ipureintro; exact True.intro
    iexact HS1
  iexact Hg

/-- and after the last point the scratch contents are forgotten. -/
theorem hout (c : Dev nD) : (dats m 0 c).Φ (Fin.last cfg0.N) ⊢ Pipeline.ΦA spec0 c := by
  rw [show (dats m 0 c).Φ (Fin.last cfg0.N) = PhiS m c cfg0.N le_rfl from rfl, PhiA0_eq]
  unfold PhiS
  iintro ⟨HS0, ⟨%xs, %hxs, HS1⟩, Hg⟩
  isplitl [HS0 HS1]
  · isplitl [HS0]; · iexact HS0
    iexists xs; iexact HS1
  iexact Hg

/-! ## The run and the frame -/

set_option backward.isDefEq.respectTransparency.types false in
/-- Every execution ends with the arrays at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.GateUp.Gen

end
-- ==== Proof.GateUpIdealRun.lean ====
/- The gate_up kernel over the reals: the whole body run once in each of its two cases, the last
   column step of a row block (which also stores the scales window) and the other steps. -/
module

public import proofs.«01_k».proof.Proof.Gen.GateUpIdeal.Frame
public import proofs.«01_k».proof.Proof.Gen.GateUpIdeal.Skeleton
public import proofs.«01_k».proof.Proof.Gen.GateUpIdeal.Points
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases of the body: the last column step, and the others -/

/-- The condition of the body's one branch: it holds at the last column step of a row block. -/
abbrev last0 (i : grid0.Coords) : Prop := k0_cond1 i = 1#1

/-- The last column steps are the points 16, 33 and 50. -/
theorem hlast0 : ∀ t : Fin cfg0.N, last0 (grid0.coords t) ↔ t.val % 17 = 16 :=
  (fun t => by
    have ht : t.val < 51 := Nat.lt_of_lt_of_eq t.isLt N_0
    have e0 : (grid0.coords t 0).val = t.val / 17 % 3 := Pipeline.Grid.coords_val t 0 (by decide) rfl
    have e1 : (grid0.coords t 1).val = t.val / 1 % 17 := Pipeline.Grid.coords_val t 1 (by decide) rfl
    simp only [last0, k0_cond1, e0, e1]
    word_cmp
   : ∀ t : Fin grid0.N, last0 (grid0.coords t) ↔ t.val % 17 = 16)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_6 : ∀ t : Fin cfg0.N, cfg0.idle 6 (grid0.coords t) = false := fun _ => rfl
/-- The scales window is stored at the last column step only; before it, it is idle and not written back. -/
theorem idleAt0_5_B : ∀ t : Fin cfg0.N, ¬last0 (grid0.coords t) → cfg0.idle 5 (grid0.coords t) = true := by decide +kernel
theorem noFlush0_5_B : ∀ t : Fin cfg0.N, ¬last0 (grid0.coords t) → (cfg0.win 5).flush t = false := by decide +kernel
theorem liveAt0_5_C : ∀ t : Fin cfg0.N, last0 (grid0.coords t) → cfg0.idle 5 (grid0.coords t) = false := by decide +kernel

/-! ## The staging and scratch buffers -/

/-- One staging buffer of output window 4, through which its contents are stated (`View.read_writes_of_cover`: the
    choice does not matter). -/
abbrev VO0_4 : View sig .tc .vmem S1280x256 .fp8e4m3 := (Memref.whole cc0_stg4_0 : Memref sig .tc .vmem S1280x256 .fp8e4m3).view
/-- One staging buffer of output window 5, through which its contents are stated (`View.read_writes_of_cover`: the
    choice does not matter). -/
abbrev VO0_5 : View sig .tc .vmem S1280x34 .f32 := (Memref.whole cc0_stg5_0 : Memref sig .tc .vmem S1280x34 .f32).view
/-- One staging buffer of output window 6, through which its contents are stated (`View.read_writes_of_cover`: the
    choice does not matter). -/
abbrev VO0_6 : View sig .tc .vmem S1280x256 .bf16 := (Memref.whole cc0_stg6_0 : Memref sig .tc .vmem S1280x256 .bf16).view
/-- Each window's current staging memref at point `t`, spelled as the pipeline passes it (`bodyAt0`), and its wholeness. -/
abbrev ms0_0 (t : Fin cfg0.N) : Memref sig .tc .smem S40x68 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x5120 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x34 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1280x256 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S5120x512 .bf16 := Memref.whole cc0_scratch0
abbrev scM0_1 : Memref sig .tc .vmem S1280x128 .f32 := Memref.whole cc0_scratch1
/-- The scratch `arg10` the kernel carries between points, as a view: what it holds is stated through it. -/
abbrev VS0_1 : View sig .tc .vmem S1280x128 .f32 := scM0_1.view

/-- The invariant the launch hands over: both scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The runs -/

set_option maxHeartbeats 5048000 in
/-- The body at a step that is not the last: from the inputs, the scales window and the scale scratch at given
    contents and the other buffers at anything, it ends with the pieces `L4` and `L6` written in the two stored
    outputs, `LS1` in the scale scratch, `LT0` in the weight scratch, the scales window untouched. -/
noncomputable def kernelRun0_B (c : Dev nD) (i : grid0.Coords) (arg2 : Memref sig .tc .smem S40x68 .f32) (harg2 : arg2.IsWhole) (arg3 : Memref sig .tc .vmem S1280x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1280x256 .fp8e4m3) (harg6 : arg6.IsWhole) (arg7 : Memref sig .tc .vmem S1280x34 .f32) (harg7 : arg7.IsWhole) (arg8 : Memref sig .tc .vmem S1280x256 .bf16) (harg8 : arg8.IsWhole) (arg9 : Memref sig .tc .vmem S5120x512 .bf16) (harg9 : arg9.IsWhole) (arg10 : Memref sig .tc .vmem S1280x128 .f32) (harg10 : arg10.IsWhole) (hc : ¬last0 i)
    (x0 : Vec F S40x68 .f32) (x1 : Vec F S1280x5120 .bf16) (x2 : Vec F S5120x256 .fp8e4m3) (x3 : Vec F S5120x256 .fp8e4m3) (xs1 : Vec F S1280x128 .f32) :
    Σ' (L4 : List (View.Piece (Elt F) S1280x256 .fp8e4m3)), Σ' (L5 : List (View.Piece (Elt F) S1280x34 .f32)), Σ' (L6 : List (View.Piece (Elt F) S1280x256 .bf16)), Σ' (LS1 : List (View.Piece (Elt F) S1280x128 .f32)), { LT0 : List (View.Piece (Elt F) S5120x512 .bf16) //
      ∀ (xi5 : Vec F S1280x34 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d) ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10) K } := by
  refine ⟨?_, [], ?_, ?_, ?_, fun xi5 E K => ?run⟩
  case run =>
    simp only [cc0_gate_up_eq_skeleton]; unfold cc0_gate_up_skel
    simp only [k0_part54_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg10.eq_unread hfs1
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]; · iexists _; iexact H6
    isplitl [HS0]; · iexists _; iexact HS0
    iexists _; iexact HS1

set_option maxHeartbeats 5060000 in
/-- The body at the last step: as before, and the scales window ends with the pieces `L5` written. -/
noncomputable def kernelRun0_C (c : Dev nD) (i : grid0.Coords) (arg2 : Memref sig .tc .smem S40x68 .f32) (harg2 : arg2.IsWhole) (arg3 : Memref sig .tc .vmem S1280x5120 .bf16) (harg3 : arg3.IsWhole) (arg4 : Memref sig .tc .vmem S5120x256 .fp8e4m3) (harg4 : arg4.IsWhole) (arg5 : Memref sig .tc .vmem S5120x256 .fp8e4m3) (harg5 : arg5.IsWhole) (arg6 : Memref sig .tc .vmem S1280x256 .fp8e4m3) (harg6 : arg6.IsWhole) (arg7 : Memref sig .tc .vmem S1280x34 .f32) (harg7 : arg7.IsWhole) (arg8 : Memref sig .tc .vmem S1280x256 .bf16) (harg8 : arg8.IsWhole) (arg9 : Memref sig .tc .vmem S5120x512 .bf16) (harg9 : arg9.IsWhole) (arg10 : Memref sig .tc .vmem S1280x128 .f32) (harg10 : arg10.IsWhole) (hc : last0 i)
    (x0 : Vec F S40x68 .f32) (x1 : Vec F S1280x5120 .bf16) (x2 : Vec F S5120x256 .fp8e4m3) (x3 : Vec F S5120x256 .fp8e4m3) (xs1 : Vec F S1280x128 .f32) :
    Σ' (L4 : List (View.Piece (Elt F) S1280x256 .fp8e4m3)), Σ' (L5 : List (View.Piece (Elt F) S1280x34 .f32)), Σ' (L6 : List (View.Piece (Elt F) S1280x256 .bf16)), Σ' (LS1 : List (View.Piece (Elt F) S1280x128 .f32)), { LT0 : List (View.Piece (Elt F) S5120x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_gate_up_eq_skeleton]; unfold cc0_gate_up_skel
    simp only [k0_part54_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg10.eq_unread hfs1
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _; iexact HS1

end Cert.GateUpIdeal.Gen

end
-- ==== Proof.GateUpIdealStep.lean ====
/- What one step of the gate_up kernel leaves in its buffers, as functions of the activations `x1` and the widened
   weight tile `W`: two 128-column groups of codes and of activations, and the row scales of the two groups put in
   lanes `2 n` and `2 n + 1` of the scale scratch. -/
module

public import proofs.«01_k».proof.Proof.GateUpIdealRun
public import proofs.«01_k».proof.Proof.Lane
public import Idealize.ShloMosaic.Lib.Pointwise

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first group's row scales, in every lane. -/
def scale0 (X : Vec F S1280x5120 .bf16) (W : Vec F S5120x512 .bf16) : FVec F S1280x128 .f32 :=
  k0_pay222 (k0_pay198 X W) (k0_pay213 (k0_pay202 X W) (Scalar.ofBits .f32 0x4F800000#32))
    (k0_pay214 (k0_pay202 X W) (k0_pay203 X W) (Scalar.ofBits .f32 0x4F800000#32))
    (k0_pay215 (k0_pay202 X W) (Scalar.ofBits .f32 0x4F800000#32)) (k0_pay216 (k0_pay202 X W) (Scalar.ofBits .f32 0x4F800000#32))

/-- The first group's codes. -/
def codes0 (X : Vec F S1280x5120 .bf16) (W : Vec F S5120x512 .bf16) : FVec F S1280x128 .fp8e4m3 :=
  k0_pay219 (k0_pay197 X W) (k0_pay213 (k0_pay202 X W) (Scalar.ofBits .f32 0x4F800000#32))
    (k0_pay214 (k0_pay202 X W) (k0_pay203 X W) (Scalar.ofBits .f32 0x4F800000#32))
    (k0_pay215 (k0_pay202 X W) (Scalar.ofBits .f32 0x4F800000#32)) (k0_pay216 (k0_pay202 X W) (Scalar.ofBits .f32 0x4F800000#32))

/-- The first group's dequantised activations. -/
def acts0 (X : Vec F S1280x5120 .bf16) (W : Vec F S5120x512 .bf16) : FVec F S1280x128 .bf16 :=
  k0_pay220 (k0_pay197 X W) (k0_pay213 (k0_pay202 X W) (Scalar.ofBits .f32 0x4F800000#32))
    (k0_pay214 (k0_pay202 X W) (k0_pay203 X W) (Scalar.ofBits .f32 0x4F800000#32))
    (k0_pay215 (k0_pay202 X W) (Scalar.ofBits .f32 0x4F800000#32)) (k0_pay216 (k0_pay202 X W) (Scalar.ofBits .f32 0x4F800000#32))

/-- The second group's scale before the zero rows are given scale one. -/
def pow1 (X : Vec F S1280x5120 .bf16) (W : Vec F S5120x512 .bf16) : FVec F S1280x1 .f32 :=
  k0_pay237 (k0_pay233 (k0_pay196 X W)) (k0_pay234 (k0_pay196 X W)) (k0_pay235 (k0_pay196 X W))

/-- The second group's values times the inverse scale, before clipping. -/
def scaled1 (X : Vec F S1280x5120 .bf16) (W : Vec F S5120x512 .bf16) : FVec F S1280x128 .f32 :=
  k0_pay239 (k0_pay224 (k0_pay196 X W))
    (k0_pay238 (k0_pay233 (k0_pay196 X W)) (k0_pay234 (k0_pay196 X W)) (k0_pay235 (k0_pay196 X W)))

/-- The second group's codes. -/
def codes1 (X : Vec F S1280x5120 .bf16) (W : Vec F S5120x512 .bf16) : FVec F S1280x128 .fp8e4m3 :=
  k0_pay1 (Scalar.ofBits .f32 0x43E00000#32) (scaled1 X W)

/-- The second group's dequantised activations. -/
def acts1 (X : Vec F S1280x5120 .bf16) (W : Vec F S5120x512 .bf16) : FVec F S1280x128 .bf16 :=
  k0_pay2 (pow1 X W) (Scalar.ofBits .f32 0x43E00000#32) (scaled1 X W)

/-- The step's block of codes. -/
def codes (X : Vec F S1280x5120 .bf16) (W : Vec F S5120x512 .bf16) : Vec F S1280x256 .fp8e4m3 :=
  View.canon [⟨Rect.unit ![0, 128] ![1280, 128] inb_S1280x256_S1280x128_0_128, codes1 X W⟩,
    ⟨Rect.unit ![0, 0] ![1280, 128] inb_S1280x256_S1280x128_0_0, codes0 X W⟩]

/-- The step's block of activations. -/
def acts (X : Vec F S1280x5120 .bf16) (W : Vec F S5120x512 .bf16) : Vec F S1280x256 .bf16 :=
  View.canon [⟨Rect.unit ![0, 128] ![1280, 128] inb_S1280x256_S1280x128_0_128, acts1 X W⟩,
    ⟨Rect.unit ![0, 0] ![1280, 128] inb_S1280x256_S1280x128_0_0, acts0 X W⟩]

/-- The scale scratch after step `n`, from its contents `xs` before. -/
def next (n : ℕ) (X : Vec F S1280x5120 .bf16) (W : Vec F S5120x512 .bf16) (xs : Vec F S1280x128 .f32) :
    FVec F S1280x128 .f32 :=
  k0_pay3 (BitVec.ofNat 32 n) (iota .tc S1280x128 32 [1] iota_S1280x128_d1_w32)
    (k0_pay223 xs (k0_pay221 (BitVec.ofNat 32 n) (iota .tc S1280x128 32 [1] iota_S1280x128_d1_w32)) (scale0 X W))
    (k0_pay225 (k0_pay196 X W)) (pow1 X W)

/-- The first 34 lanes of the scale scratch, which the last step stores in the scales window. -/
def lanes (s : Vec F S1280x128 .f32) : Vec F S1280x34 .f32 :=
  fun j => s ((Rect.unit (s := S1280x128) ![0, 0] ![1280, 34] inb_S1280x128_S1280x34_0_0).toLoadRect.idx j)

/-- The widened weight tile the step stores in its scratch. -/
def weights (c : Dev nD) (i : grid0.Coords) (arg2 : Memref sig .tc .smem S40x68 .f32) (harg2 : arg2.IsWhole)
    (arg4 : Memref sig .tc .vmem S5120x256 .fp8e4m3) (harg4 : arg4.IsWhole)
    (arg5 : Memref sig .tc .vmem S5120x256 .fp8e4m3) (harg5 : arg5.IsWhole)
    (x0 : Vec F S40x68 .f32) (x2 : Vec F S5120x256 .fp8e4m3) (x3 : Vec F S5120x256 .fp8e4m3) : Vec F S5120x512 .bf16 :=
  View.canon (kernelRun0_B.sl.HS0_160 c i arg2 harg2 arg4 harg4 arg5 harg5 x0 x2 x3)

theorem hz0 : (![0, 0] : Fin 2 → ℕ) = fun _ => 0 := funext fun a => by fin_cases a <;> rfl

/-- The stores into the weight scratch cover it. -/
theorem covers_B (c : Dev nD) (i : grid0.Coords) (arg2 : Memref sig .tc .smem S40x68 .f32) (harg2 : arg2.IsWhole)
    (arg4 : Memref sig .tc .vmem S5120x256 .fp8e4m3) (harg4 : arg4.IsWhole)
    (arg5 : Memref sig .tc .vmem S5120x256 .fp8e4m3) (harg5 : arg5.IsWhole)
    (x0 : Vec F S40x68 .f32) (x2 : Vec F S5120x256 .fp8e4m3) (x3 : Vec F S5120x256 .fp8e4m3) (y : S5120x512.Idx) :
    ∃ p ∈ kernelRun0_B.sl.HS0_160 c i arg2 harg2 arg4 harg4 arg5 harg5 x0 x2 x3, y ∈ p.1.set :=
  View.cover_of_tiledL _ ![128, 128] (by sl_kernel_rfl) y

/-- The weight scratch read back is the widened weight tile. -/
theorem read_weights_B (c : Dev nD) (i : grid0.Coords) (arg2 : Memref sig .tc .smem S40x68 .f32) (harg2 : arg2.IsWhole)
    (arg4 : Memref sig .tc .vmem S5120x256 .fp8e4m3) (harg4 : arg4.IsWhole)
    (arg5 : Memref sig .tc .vmem S5120x256 .fp8e4m3) (harg5 : arg5.IsWhole)
    (arg9 : Memref sig .tc .vmem S5120x512 .bf16)
    (x0 : Vec F S40x68 .f32) (x2 : Vec F S5120x256 .fp8e4m3) (x3 : Vec F S5120x256 .fp8e4m3) :
    kernelRun0_B.sl.v1764 c i arg2 harg2 arg4 harg4 arg5 harg5 arg9 x0 x2 x3
      = weights c i arg2 harg2 arg4 harg4 arg5 harg5 x0 x2 x3 := by
  unfold kernelRun0_B.sl.v1764 weights
  rw [View.readCov_eq_canon_ld _ _ _ (covers_B c i arg2 harg2 arg4 harg4 arg5 harg5 x0 x2 x3), View.ld_unit_zero hz0]

/-- What the run leaves in each buffer is the step's. -/
theorem run_B (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : ¬last0 i)
    (x0 : Vec F S40x68 .f32) (x1 : Vec F S1280x5120 .bf16) (x2 : Vec F S5120x256 .fp8e4m3)
    (x3 : Vec F S5120x256 .fp8e4m3) (xs1 : Vec F S1280x128 .f32) :
    View.canon (kernelRun0_B c i arg2 harg2 arg3 harg3 arg4 harg4 arg5 harg5 arg6 harg6 arg7 harg7 arg8 harg8 arg9 harg9 arg10 harg10 hc x0 x1 x2 x3 xs1).1
        = codes x1 (weights c i arg2 harg2 arg4 harg4 arg5 harg5 x0 x2 x3)
    ∧ View.canon (kernelRun0_B c i arg2 harg2 arg3 harg3 arg4 harg4 arg5 harg5 arg6 harg6 arg7 harg7 arg8 harg8 arg9 harg9 arg10 harg10 hc x0 x1 x2 x3 xs1).2.2.1
        = acts x1 (weights c i arg2 harg2 arg4 harg4 arg5 harg5 x0 x2 x3)
    ∧ View.canon (kernelRun0_B c i arg2 harg2 arg3 harg3 arg4 harg4 arg5 harg5 arg6 harg6 arg7 harg7 arg8 harg8 arg9 harg9 arg10 harg10 hc x0 x1 x2 x3 xs1).2.2.2.1
        = next (i 1).val x1 (weights c i arg2 harg2 arg4 harg4 arg5 harg5 x0 x2 x3) xs1 := by
  unfold kernelRun0_B
  dsimp only
  simp only [kernelRun0_B.sl.r_200, kernelRun0_B.sl.r_201, kernelRun0_B.sl.r_202, kernelRun0_B.sl.r_203, kernelRun0_B.sl.r_204, kernelRun0_B.sl.r_205, kernelRun0_B.sl.r_206, kernelRun0_B.sl.r_207, kernelRun0_B.sl.r_208, kernelRun0_B.sl.r_209, kernelRun0_B.sl.r_210, kernelRun0_B.sl.r_211, kernelRun0_B.sl.r_212, kernelRun0_B.sl.r_213, kernelRun0_B.sl.r_214, kernelRun0_B.sl.r_215, kernelRun0_B.sl.r_216, kernelRun0_B.sl.r_217, kernelRun0_B.sl.r_218, kernelRun0_B.sl.r_219, kernelRun0_B.sl.r_220]
  simp only [read_weights_B, View.readAt_eq_ld, Memref.IsWhole.read_unread]
  rw [View.ld_unit_zero hz0, View.ld_unit_zero hz0]
  refine ⟨rfl, rfl, View.canon_unit_zero hz0 _ _⟩

/-- The stores into the weight scratch cover it. -/
theorem covers_C (c : Dev nD) (i : grid0.Coords) (arg2 : Memref sig .tc .smem S40x68 .f32) (harg2 : arg2.IsWhole)
    (arg4 : Memref sig .tc .vmem S5120x256 .fp8e4m3) (harg4 : arg4.IsWhole)
    (arg5 : Memref sig .tc .vmem S5120x256 .fp8e4m3) (harg5 : arg5.IsWhole)
    (x0 : Vec F S40x68 .f32) (x2 : Vec F S5120x256 .fp8e4m3) (x3 : Vec F S5120x256 .fp8e4m3) (y : S5120x512.Idx) :
    ∃ p ∈ kernelRun0_C.sl.HS0_160 c i arg2 harg2 arg4 harg4 arg5 harg5 x0 x2 x3, y ∈ p.1.set :=
  View.cover_of_tiledL _ ![128, 128] (by sl_kernel_rfl) y

/-- The weight scratch read back is the widened weight tile. -/
theorem read_weights_C (c : Dev nD) (i : grid0.Coords) (arg2 : Memref sig .tc .smem S40x68 .f32) (harg2 : arg2.IsWhole)
    (arg4 : Memref sig .tc .vmem S5120x256 .fp8e4m3) (harg4 : arg4.IsWhole)
    (arg5 : Memref sig .tc .vmem S5120x256 .fp8e4m3) (harg5 : arg5.IsWhole)
    (arg9 : Memref sig .tc .vmem S5120x512 .bf16)
    (x0 : Vec F S40x68 .f32) (x2 : Vec F S5120x256 .fp8e4m3) (x3 : Vec F S5120x256 .fp8e4m3) :
    kernelRun0_C.sl.v1764 c i arg2 harg2 arg4 harg4 arg5 harg5 arg9 x0 x2 x3
      = weights c i arg2 harg2 arg4 harg4 arg5 harg5 x0 x2 x3 := by
  unfold kernelRun0_C.sl.v1764 weights
  rw [View.readCov_eq_canon_ld _ _ _ (covers_C c i arg2 harg2 arg4 harg4 arg5 harg5 x0 x2 x3), View.ld_unit_zero hz0]
  rfl
/-- What the run leaves in each buffer is the step's. -/
theorem run_C (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : last0 i)
    (x0 : Vec F S40x68 .f32) (x1 : Vec F S1280x5120 .bf16) (x2 : Vec F S5120x256 .fp8e4m3)
    (x3 : Vec F S5120x256 .fp8e4m3) (xs1 : Vec F S1280x128 .f32) :
    View.canon (kernelRun0_C c i arg2 harg2 arg3 harg3 arg4 harg4 arg5 harg5 arg6 harg6 arg7 harg7 arg8 harg8 arg9 harg9 arg10 harg10 hc x0 x1 x2 x3 xs1).1
        = codes x1 (weights c i arg2 harg2 arg4 harg4 arg5 harg5 x0 x2 x3)
    ∧ View.canon (kernelRun0_C c i arg2 harg2 arg3 harg3 arg4 harg4 arg5 harg5 arg6 harg6 arg7 harg7 arg8 harg8 arg9 harg9 arg10 harg10 hc x0 x1 x2 x3 xs1).2.2.1
        = acts x1 (weights c i arg2 harg2 arg4 harg4 arg5 harg5 x0 x2 x3)
    ∧ View.canon (kernelRun0_C c i arg2 harg2 arg3 harg3 arg4 harg4 arg5 harg5 arg6 harg6 arg7 harg7 arg8 harg8 arg9 harg9 arg10 harg10 hc x0 x1 x2 x3 xs1).2.2.2.1
        = next (i 1).val x1 (weights c i arg2 harg2 arg4 harg4 arg5 harg5 x0 x2 x3) xs1
    ∧ View.canon (kernelRun0_C c i arg2 harg2 arg3 harg3 arg4 harg4 arg5 harg5 arg6 harg6 arg7 harg7 arg8 harg8 arg9 harg9 arg10 harg10 hc x0 x1 x2 x3 xs1).2.1
        = lanes (next (i 1).val x1 (weights c i arg2 harg2 arg4 harg4 arg5 harg5 x0 x2 x3) xs1) := by
  unfold kernelRun0_C
  dsimp only
  simp only [kernelRun0_C.sl.r_200, kernelRun0_C.sl.r_201, kernelRun0_C.sl.r_202, kernelRun0_C.sl.r_203, kernelRun0_C.sl.r_204, kernelRun0_C.sl.r_205, kernelRun0_C.sl.r_206, kernelRun0_C.sl.r_207, kernelRun0_C.sl.r_208, kernelRun0_C.sl.r_209, kernelRun0_C.sl.r_210, kernelRun0_C.sl.r_211, kernelRun0_C.sl.r_212, kernelRun0_C.sl.r_213, kernelRun0_C.sl.r_214, kernelRun0_C.sl.r_215, kernelRun0_C.sl.r_216, kernelRun0_C.sl.r_217, kernelRun0_C.sl.r_218, kernelRun0_C.sl.r_219, kernelRun0_C.sl.r_220, kernelRun0_C.sl.v1999, kernelRun0_C.sl.HS1_1]
  simp only [read_weights_C, View.readAt_eq_ld, Memref.IsWhole.read_unread]
  rw [View.ld_unit_zero hz0, View.ld_unit_zero hz0]
  refine ⟨rfl, rfl, View.canon_unit_zero hz0 _ _, (View.canon_unit_zero hz0 _ _).trans
    ((View.readCov_eq_canon' _ _ _).trans (funext fun j => congrFun (View.canon_unit_zero hz0 _ _) _))⟩

/-- The second group's row scale. -/
def scale1 (X : Vec F S1280x5120 .bf16) (W : Vec F S5120x512 .bf16) : FVec F S1280x1 .f32 :=
  select (cmpf .oeq (k0_pay225 (k0_pay196 X W)) (broadcast S1280x1 (Scalar.ofBits .f32 0x00000000#32)))
    (broadcast S1280x1 (Scalar.ofBits .f32 0x3F800000#32)) (pow1 X W)

/-- Step `n` writes lanes `2 n` and `2 n + 1` and keeps the others. -/
theorem next_apply (n : ℕ) (hn : n < 17) (X : Vec F S1280x5120 .bf16) (W : Vec F S5120x512 .bf16)
    (xs : Vec F S1280x128 .f32) (r : Fin 1280) (l : Fin 128) :
    next n X W xs (ix2 r l) = if l.val = 2 * n + 1 then scale1 X W (ix2 r 0)
      else if l.val = 2 * n then scale0 X W (ix2 r l) else xs (ix2 r l) := by
  unfold next
  have h1 := fun (x y : F .f32) => Cert.Layer.lane_select l.val n 1 l.isLt (by omega) (by decide) x y
  have h0 := fun (x y : F .f32) => Cert.Layer.lane_select l.val n 0 l.isLt (by omega) (by decide) x y
  pointwise [k0_pay3, k0_pay223, k0_pay221, scale1]
  exact (h1 _ _).trans (if_congr Iff.rfl rfl (h0 _ _))

/-- A lane of the stored scales window is that lane of the scratch. -/
theorem lanes_apply (s : Vec F S1280x128 .f32) (r : Fin 1280) (l : Fin 34) :
    lanes s (ix2 r l) = s (ix2 r ⟨l.val, by omega⟩) := by
  refine congrArg s (funext fun a => Fin.ext ?_)
  match a with
  | ⟨0, _⟩ => show 0 + 1 * r.val = r.val; omega
  | ⟨1, _⟩ => show 0 + 1 * l.val = l.val; omega

end Cert.GateUpIdeal.Gen

end
-- ==== Proof.GateUpIdealFrame.lean ====
/- The gate_up kernel over the reals from launch to end. Its scale scratch is carried from step to step and starts at
   unknown contents: step `n` of a row block writes lanes `2 n` and `2 n + 1`, and only the last step's first 34 lanes
   are stored. So the invariant says which lanes are known: the scratch agrees, on the lanes written so far in the
   row block, with the scratch of a run started at a fixed content (`scratch`). -/
module

public import proofs.«01_k».proof.Proof.GateUpIdealStep

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover the buffers -/

theorem cover4_B (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : ¬last0 i)
    (x0 : Vec F S40x68 .f32) (x1 : Vec F S1280x5120 .bf16) (x2 : Vec F S5120x256 .fp8e4m3)
    (x3 : Vec F S5120x256 .fp8e4m3) (xs1 : Vec F S1280x128 .f32) (y : S1280x256.Idx) :
    ∃ pc ∈ (kernelRun0_B c i arg2 harg2 arg3 harg3 arg4 harg4 arg5 harg5 arg6 harg6 arg7 harg7 arg8 harg8
      arg9 harg9 arg10 harg10 hc x0 x1 x2 x3 xs1).1, y ∈ pc.1.set :=
  View.cover_of_tiledL (kernelRun0_B c i arg2 harg2 arg3 harg3 arg4 harg4 arg5 harg5 arg6 harg6 arg7 harg7 arg8 harg8
      arg9 harg9 arg10 harg10 hc x0 x1 x2 x3 xs1).1 S1280x128.size (by sl_kernel_rfl) y

theorem cover6_B (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : ¬last0 i)
    (x0 : Vec F S40x68 .f32) (x1 : Vec F S1280x5120 .bf16) (x2 : Vec F S5120x256 .fp8e4m3)
    (x3 : Vec F S5120x256 .fp8e4m3) (xs1 : Vec F S1280x128 .f32) (y : S1280x256.Idx) :
    ∃ pc ∈ (kernelRun0_B c i arg2 harg2 arg3 harg3 arg4 harg4 arg5 harg5 arg6 harg6 arg7 harg7 arg8 harg8
      arg9 harg9 arg10 harg10 hc x0 x1 x2 x3 xs1).2.2.1, y ∈ pc.1.set :=
  View.cover_of_tiledL (kernelRun0_B c i arg2 harg2 arg3 harg3 arg4 harg4 arg5 harg5 arg6 harg6 arg7 harg7 arg8 harg8
      arg9 harg9 arg10 harg10 hc x0 x1 x2 x3 xs1).2.2.1 S1280x128.size (by sl_kernel_rfl) y

theorem scover_B (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : ¬last0 i)
    (x0 : Vec F S40x68 .f32) (x1 : Vec F S1280x5120 .bf16) (x2 : Vec F S5120x256 .fp8e4m3)
    (x3 : Vec F S5120x256 .fp8e4m3) (xs1 : Vec F S1280x128 .f32) (y : S1280x128.Idx) :
    ∃ pc ∈ (kernelRun0_B c i arg2 harg2 arg3 harg3 arg4 harg4 arg5 harg5 arg6 harg6 arg7 harg7 arg8 harg8
      arg9 harg9 arg10 harg10 hc x0 x1 x2 x3 xs1).2.2.2.1, y ∈ pc.1.set :=
  View.cover_of_tiledL (kernelRun0_B c i arg2 harg2 arg3 harg3 arg4 harg4 arg5 harg5 arg6 harg6 arg7 harg7 arg8 harg8
      arg9 harg9 arg10 harg10 hc x0 x1 x2 x3 xs1).2.2.2.1 S1280x128.size (by sl_kernel_rfl) y

theorem cover4_C (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : last0 i)
    (x0 : Vec F S40x68 .f32) (x1 : Vec F S1280x5120 .bf16) (x2 : Vec F S5120x256 .fp8e4m3)
    (x3 : Vec F S5120x256 .fp8e4m3) (xs1 : Vec F S1280x128 .f32) (y : S1280x256.Idx) :
    ∃ pc ∈ (kernelRun0_C c i arg2 harg2 arg3 harg3 arg4 harg4 arg5 harg5 arg6 harg6 arg7 harg7 arg8 harg8
      arg9 harg9 arg10 harg10 hc x0 x1 x2 x3 xs1).1, y ∈ pc.1.set :=
  View.cover_of_tiledL (kernelRun0_C c i arg2 harg2 arg3 harg3 arg4 harg4 arg5 harg5 arg6 harg6 arg7 harg7 arg8 harg8
      arg9 harg9 arg10 harg10 hc x0 x1 x2 x3 xs1).1 S1280x128.size (by sl_kernel_rfl) y

theorem cover5_C (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : last0 i)
    (x0 : Vec F S40x68 .f32) (x1 : Vec F S1280x5120 .bf16) (x2 : Vec F S5120x256 .fp8e4m3)
    (x3 : Vec F S5120x256 .fp8e4m3) (xs1 : Vec F S1280x128 .f32) (y : S1280x34.Idx) :
    ∃ pc ∈ (kernelRun0_C c i arg2 harg2 arg3 harg3 arg4 harg4 arg5 harg5 arg6 harg6 arg7 harg7 arg8 harg8
      arg9 harg9 arg10 harg10 hc x0 x1 x2 x3 xs1).2.1, y ∈ pc.1.set :=
  View.cover_of_tiledL (kernelRun0_C c i arg2 harg2 arg3 harg3 arg4 harg4 arg5 harg5 arg6 harg6 arg7 harg7 arg8 harg8
      arg9 harg9 arg10 harg10 hc x0 x1 x2 x3 xs1).2.1 S1280x34.size (by sl_kernel_rfl) y

theorem cover6_C (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : last0 i)
    (x0 : Vec F S40x68 .f32) (x1 : Vec F S1280x5120 .bf16) (x2 : Vec F S5120x256 .fp8e4m3)
    (x3 : Vec F S5120x256 .fp8e4m3) (xs1 : Vec F S1280x128 .f32) (y : S1280x256.Idx) :
    ∃ pc ∈ (kernelRun0_C c i arg2 harg2 arg3 harg3 arg4 harg4 arg5 harg5 arg6 harg6 arg7 harg7 arg8 harg8
      arg9 harg9 arg10 harg10 hc x0 x1 x2 x3 xs1).2.2.1, y ∈ pc.1.set :=
  View.cover_of_tiledL (kernelRun0_C c i arg2 harg2 arg3 harg3 arg4 harg4 arg5 harg5 arg6 harg6 arg7 harg7 arg8 harg8
      arg9 harg9 arg10 harg10 hc x0 x1 x2 x3 xs1).2.2.1 S1280x128.size (by sl_kernel_rfl) y

theorem scover_C (c : Dev nD) (i : grid0.Coords) (arg2 : Memref sig .tc .smem S40x68 .f32) (harg2 : arg2.IsWhole)
    (arg3 : Memref sig .tc .vmem S1280x5120 .bf16) (harg3 : arg3.IsWhole)
    (arg4 : Memref sig .tc .vmem S5120x256 .fp8e4m3) (harg4 : arg4.IsWhole)
    (arg5 : Memref sig .tc .vmem S5120x256 .fp8e4m3) (harg5 : arg5.IsWhole)
    (arg6 : Memref sig .tc .vmem S1280x256 .fp8e4m3) (harg6 : arg6.IsWhole)
    (arg7 : Memref sig .tc .vmem S1280x34 .f32) (harg7 : arg7.IsWhole)
    (arg8 : Memref sig .tc .vmem S1280x256 .bf16) (harg8 : arg8.IsWhole)
    (arg9 : Memref sig .tc .vmem S5120x512 .bf16) (harg9 : arg9.IsWhole)
    (arg10 : Memref sig .tc .vmem S1280x128 .f32) (harg10 : arg10.IsWhole) (hc : last0 i)
    (x0 : Vec F S40x68 .f32) (x1 : Vec F S1280x5120 .bf16) (x2 : Vec F S5120x256 .fp8e4m3)
    (x3 : Vec F S5120x256 .fp8e4m3) (xs1 : Vec F S1280x128 .f32) (y : S1280x128.Idx) :
    ∃ pc ∈ (kernelRun0_C c i arg2 harg2 arg3 harg3 arg4 harg4 arg5 harg5 arg6 harg6 arg7 harg7 arg8 harg8
      arg9 harg9 arg10 harg10 hc x0 x1 x2 x3 xs1).2.2.2.1, y ∈ pc.1.set :=
  View.cover_of_tiledL (kernelRun0_C c i arg2 harg2 arg3 harg3 arg4 harg4 arg5 harg5 arg6 harg6 arg7 harg7 arg8 harg8
      arg9 harg9 arg10 harg10 hc x0 x1 x2 x3 xs1).2.2.2.1 S1280x128.size (by sl_kernel_rfl) y

/-! ## The scale scratch -/

/-- The widened weight tile of point `t`. -/
def wtile (c : Dev nD) (t : Fin cfg0.N) : Vec F S5120x512 .bf16 :=
  weights c (grid0.coords t) (ms0_0 t) (hs0_0 t) (ms0_2 t) (hs0_2 t) (ms0_3 t) (hs0_3 t) (iblk m c 0 t) (iblk m c 2 t) (iblk m c 3 t)

/-- The scale scratch after point `n` of a run started at a fixed content. -/
def scratch (c : Dev nD) : (n : ℕ) → n < cfg0.N → Vec F S1280x128 .f32
  | 0, hn => next (grid0.coords ⟨0, hn⟩ 1).val (iblk m c 1 ⟨0, hn⟩) (wtile m c ⟨0, hn⟩) (fun _ => Scalar.ofBits .f32 0x00000000#32)
  | n + 1, hn => next (grid0.coords ⟨n + 1, hn⟩ 1).val (iblk m c 1 ⟨n + 1, hn⟩) (wtile m c ⟨n + 1, hn⟩)
      (scratch c n (Nat.lt_of_succ_lt hn))

/-- A point's column step. -/
theorem step_val (t : Fin cfg0.N) : (grid0.coords t 1).val = t.val % 17 :=
  (fun t => by
    have e1 : (grid0.coords t 1).val = t.val / 1 % 17 := Pipeline.Grid.coords_val t 1 (by decide) rfl
    rw [e1, Nat.div_one]
   : ∀ t : Fin grid0.N, (grid0.coords t 1).val = t.val % 17) t

/-- The contents `xs` agree with `scratch` on the lanes written before point `n` in its row block. -/
def Agrees (c : Dev nD) : (n : ℕ) → n ≤ cfg0.N → Vec F S1280x128 .f32 → Prop
  | 0, _, _ => True
  | n + 1, hn, xs => ∀ (r : Fin 1280) (l : Fin 128), l.val < 2 * (n % 17) + 2 → xs (ix2 r l) = scratch m c n hn (ix2 r l)

/-- One step keeps the agreement. -/
theorem agrees_step (c : Dev nD) (t : Fin cfg0.N) (xs : Vec F S1280x128 .f32)
    (h : Agrees m c t.val (Nat.le_of_lt t.isLt) xs) :
    Agrees m c (t.val + 1) t.isLt (next (grid0.coords t 1).val (iblk m c 1 t) (wtile m c t) xs) := by
  obtain ⟨n, hn⟩ := t
  have hs : (grid0.coords ⟨n, hn⟩ 1).val = n % 17 := step_val ⟨n, hn⟩
  have hm : n % 17 < 17 := Nat.mod_lt _ (by decide)
  intro r l hl
  have hl : l.val < 2 * (n % 17) + 2 := hl
  cases n with
  | zero =>
    show next _ _ _ _ (ix2 r l) = next _ _ _ _ (ix2 r l)
    rw [next_apply _ (hs ▸ hm), next_apply _ (hs ▸ hm), hs]
    split_ifs with h1 h0
    · rfl
    · rfl
    · omega
  | succ n =>
    show next _ _ _ _ (ix2 r l) = next _ _ _ _ (ix2 r l)
    rw [next_apply _ (hs ▸ hm), next_apply _ (hs ▸ hm), hs]
    split_ifs with h1 h0
    · rfl
    · rfl
    · exact h r l (by omega)

/-- At the last step every stored lane is known. -/
theorem lanes_scratch (c : Dev nD) (t : Fin cfg0.N) (hl : t.val % 17 = 16) (xs : Vec F S1280x128 .f32)
    (h : Agrees m c (t.val + 1) t.isLt xs) : lanes xs = lanes (scratch m c t.val t.isLt) := by
  funext y
  obtain ⟨r, l, rfl⟩ : ∃ r l, y = ix2 r l := ⟨y 0, y 1, eq_ix2 y⟩
  rw [lanes_apply, lanes_apply]
  exact h r _ (by have := l.isLt; dsimp only; omega)

/-! ## The pipeline's proof data -/

/-- The invariant before point `n`: the weight scratch at anything, the scale scratch at contents that agree. -/
def PhiS (c : Dev nD) (n : ℕ) (hn : n ≤ cfg0.N) : sProp 𝕄 :=
  iprop((∃ d, owns (c : Thread nD τ) scM0_0 fullShare d)
    ∗ (∃ xs, ⌜Agrees m c n hn xs⌝ ∗ owns (c : Thread nD τ) scM0_1 fullShare xs) ∗ (∃ r, prngReg c r))

/-- After the body at point `t` each input's buffer holds its block and each output's the step's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codes (iblk m c 1 t) (wtile m c t)
    | ⟨5, _⟩ => lanes (scratch m c t.val t.isLt)
    | ⟨6, _⟩ => acts (iblk m c 1 t) (wtile m c t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codes (iblk m c 1 t) (wtile m c t) := by dsimp only [dats]
theorem after0_5 (c : Dev nD) (t : Fin cfg0.N) : (dats m 0 c).after 5 t = lanes (scratch m c t.val t.isLt) := by dsimp only [dats]
theorem after0_6 (c : Dev nD) (t : Fin cfg0.N) : (dats m 0 c).after 6 t = acts (iblk m c 1 t) (wtile m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_castSucc m c t]
  unfold PhiS
  by_cases h : t.val % 17 = 16
  · skip
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5_C t ((hlast0 t).mpr h)], after0_5]
    rw [show (dats m 0 c).leavesExact 6 t = owns (c : Thread nD τ) (ms0_6 t) fullShare ((dats m 0 c).after 6 t) from by
      unfold Dat.leavesExact; rw [liveAt0_6 t], after0_6]
    iintro ⟨⟨HS0, ⟨%xs, %hxs, HS1⟩, Hg⟩, Ho, ⟨%d0, H0⟩, ⟨%d1, H1⟩, ⟨%d2, H2⟩, ⟨%d3, H3⟩, ⟨%d4, H4⟩, ⟨%d5, H5⟩, ⟨%d6, H6⟩⟩
    have hrun := run_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hlast0 t).mpr h) (iblk m c 0 t) (iblk m c 1 t) (iblk m c 2 t) (iblk m c 3 t) xs
    iapply ((kernelRun0_C c (grid0.coords t) _ _ _ _ _ _ _ _ _ _ _ _ _ _ _ _ _ _ ((hlast0 t).mpr h) (iblk m c 0 t) (iblk m c 1 t) (iblk m c 2 t) (iblk m c 3 t) xs).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%fT0, HS0⟩, ⟨%es1, HS1⟩⟩
    isplitl [HS0 HS1 Hg]
    · isplitl [HS0]
      · iexists _; unfold owns; iexists _; isplitr
        swap; · iexact HS0
        ipureintro; rfl
      isplitl [HS1]
      · iexists (next (grid0.coords t 1).val (iblk m c 1 t) (wtile m c t) xs)
        isplitr
        · ipureintro; exact agrees_step m c t xs hxs
        unfold owns; iexists _; isplitr
        swap; · iexact HS1
        ipureintro
        exact (View.read_writes_eq_canon _ _ _ (scover_C c _ _ _ _ _ _ _ _ _ _ _ _ _ _ _ _ _ _ _ ((hlast0 t).mpr h) _ _ _ _ _)).trans hrun.2.2.1
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro
      exact (View.read_writes_eq_canon _ _ _ (cover4_C c _ _ _ _ _ _ _ _ _ _ _ _ _ _ _ _ _ _ _ ((hlast0 t).mpr h) _ _ _ _ _)).trans hrun.1
    isplitl [H5]
    · unfold owns; iexists _; isplitr
      swap; · iexact H5
      ipureintro
      exact ((View.read_writes_eq_canon _ _ _ (cover5_C c _ _ _ _ _ _ _ _ _ _ _ _ _ _ _ _ _ _ _ ((hlast0 t).mpr h) _ _ _ _ _)).trans hrun.2.2.2).trans
        (lanes_scratch m c t h _ (agrees_step m c t xs hxs))
    unfold owns; iexists _; isplitr
    swap; · iexact H6
    ipureintro
    exact (View.read_writes_eq_canon _ _ _ (cover6_C c _ _ _ _ _ _ _ _ _ _ _ _ _ _ _ _ _ _ _ ((hlast0 t).mpr h) _ _ _ _ _)).trans hrun.2.1
  · skip
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [Dat.leavesExact_idle (dats m 0 c) 5 t (idleAt0_5_B t (fun g => h ((hlast0 t).mp g))) (noFlush0_5_B t (fun g => h ((hlast0 t).mp g)))]
    rw [show (dats m 0 c).leavesExact 6 t = owns (c : Thread nD τ) (ms0_6 t) fullShare ((dats m 0 c).after 6 t) from by
      unfold Dat.leavesExact; rw [liveAt0_6 t], after0_6]
    iintro ⟨⟨HS0, ⟨%xs, %hxs, HS1⟩, Hg⟩, Ho, ⟨%d0, H0⟩, ⟨%d1, H1⟩, ⟨%d2, H2⟩, ⟨%d3, H3⟩, ⟨%d4, H4⟩, ⟨%d5, H5⟩, ⟨%d6, H6⟩⟩
    have hrun := run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun g => h ((hlast0 t).mp g)) (iblk m c 0 t) (iblk m c 1 t) (iblk m c 2 t) (iblk m c 3 t) xs
    iapply ((kernelRun0_B c (grid0.coords t) _ _ _ _ _ _ _ _ _ _ _ _ _ _ _ _ _ _ (fun g => h ((hlast0 t).mp g)) (iblk m c 0 t) (iblk m c 1 t) (iblk m c 2 t) (iblk m c 3 t) xs).2.2.2.2.2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexists _; iexact H6
    isplitl [HS0]; · iexact HS0
    isplitl [HS1]; · iexact HS1
    iintro ⟨H0, H1, H2, H3, ⟨%e4, H4⟩, H5, ⟨%e6, H6⟩, ⟨%fT0, HS0⟩, ⟨%es1, HS1⟩⟩
    isplitl [HS0 HS1 Hg]
    · isplitl [HS0]
      · iexists _; unfold owns; iexists _; isplitr
        swap; · iexact HS0
        ipureintro; rfl
      isplitl [HS1]
      · iexists (next (grid0.coords t 1).val (iblk m c 1 t) (wtile m c t) xs)
        isplitr
        · ipureintro; exact agrees_step m c t xs hxs
        unfold owns; iexists _; isplitr
        swap; · iexact HS1
        ipureintro
        exact (View.read_writes_eq_canon _ _ _ (scover_B c _ _ _ _ _ _ _ _ _ _ _ _ _ _ _ _ _ _ _ (fun g => h ((hlast0 t).mp g)) _ _ _ _ _)).trans hrun.2.2
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro
      exact (View.read_writes_eq_canon _ _ _ (cover4_B c _ _ _ _ _ _ _ _ _ _ _ _ _ _ _ _ _ _ _ (fun g => h ((hlast0 t).mp g)) _ _ _ _ _)).trans hrun.1
    isplitl [H5]; · iexists _; iexact H5
    unfold owns; iexists _; isplitr
    swap; · iexact H6
    ipureintro
    exact (View.read_writes_eq_canon _ _ _ (cover6_B c _ _ _ _ _ _ _ _ _ _ _ _ _ _ _ _ _ _ _ (fun g => h ((hlast0 t).mp g)) _ _ _ _ _)).trans hrun.2.1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point; -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨HS0, ⟨%xs, HS1⟩⟩, Hg⟩
  isplitl [HS0]; · iexact HS0
  isplitl [HS1]
  · iexists xs; isplitr
    · ipureintro; exact True.intro
    iexact HS1
  iexact Hg

/-- and after the last point the scratch contents are forgotten. -/
theorem hout (c : Dev nD) : (dats m 0 c).Φ (Fin.last cfg0.N) ⊢ Pipeline.ΦA spec0 c := by
  rw [show (dats m 0 c).Φ (Fin.last cfg0.N) = PhiS m c cfg0.N le_rfl from rfl, PhiA0_eq]
  unfold PhiS
  iintro ⟨HS0, ⟨%xs, %hxs, HS1⟩, Hg⟩
  isplitl [HS0 HS1]
  · isplitl [HS0]; · iexact HS0
    iexists xs; iexact HS1
  iexact Hg

/-! ## The run and the frame -/

set_option backward.isDefEq.respectTransparency.types false in
/-- Every execution ends with the arrays at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.GateUpIdeal.Gen

end
-- ==== Proof.Quant.lean ====
/- The block quantiser's scale over the reals: the power of two that the integer search of the
   kernel finds is the least one of the table above the block's maximum over 448. -/
module

public import Idealize.ShloMosaic.PureOps.Ideal.Laws
public import Idealize.ShloMosaic.Lib.IdealHost

@[expose] public section

noncomputable section

namespace Cert.Layer

open Idealize.ShloMosaic

/-- The `f32` word with exponent field `n` and no fraction is the power `2 ^ (n - 127)`. -/
theorem ofBits_pow (n : ℕ) (h0 : 0 < n) (h : n < 255) :
    Ideal.ofBits .f32 (BitVec.ofNat 32 (n * 8388608)) = (((2 : ℝ) ^ ((n : ℤ) - 127) : ℝ) : EReal) := by
  have hN : (BitVec.ofNat 32 (n * 8388608)).toNat = n * 8388608 := by
    rw [BitVec.toNat_ofNat]; exact Nat.mod_eq_of_lt (by omega)
  have e1 : ((BitVec.ofNat 32 (n * 8388608)).extractLsb' 31 1 == 1#1) = false := by
    rw [beq_eq_false_iff_ne]
    intro hh
    have := congrArg BitVec.toNat hh
    rw [BitVec.extractLsb'_toNat, hN, Nat.shiftRight_eq_div_pow] at this
    norm_num at this
    omega
  have e2 : ((BitVec.ofNat 32 (n * 8388608)).extractLsb' 23 8).toNat = n := by
    rw [BitVec.extractLsb'_toNat, hN, Nat.shiftRight_eq_div_pow]; norm_num; omega
  have e3 : ((BitVec.ofNat 32 (n * 8388608)).extractLsb' 0 23).toNat = 0 := by
    rw [BitVec.extractLsb'_toNat, hN, Nat.shiftRight_eq_div_pow]; norm_num
  show Ideal.ieee 8 23 (BitVec.ofNat 32 (n * 8388608)) = _
  unfold Ideal.ieee
  simp only [e1, e2, e3]
  rw [if_neg (by omega), if_neg (by omega)]
  congr 1
  have : (2 : ℝ) ^ ((n : ℤ) - (2 ^ (8 - 1) - 1) - (23 : ℕ)) = (2 : ℝ) ^ ((n : ℤ) - 127) * ((2 : ℝ) ^ 23)⁻¹ := by
    rw [← zpow_natCast, ← zpow_neg, ← zpow_add₀ (by norm_num)]; congr 1
  rw [this]
  norm_num
  ring

/-- `2 ^ k` as an extended real. -/
def two (k : ℤ) : EReal := (((2 : ℝ) ^ k : ℝ) : EReal)

theorem two_pos (k : ℤ) : 0 < two k := by
  unfold two; exact_mod_cast zpow_pos (by norm_num : (0 : ℝ) < 2) k

theorem two_mono {a b : ℤ} (h : a ≤ b) : two a ≤ two b := by
  unfold two; exact EReal.coe_le_coe_iff.2 (zpow_le_zpow_right₀ (by norm_num) h)

theorem two_add (a b : ℤ) : two a * two b = two (a + b) := by
  unfold two; rw [← EReal.coe_mul, zpow_add₀ (by norm_num)]

/-- Multiplying both sides by a power of two keeps the comparison, infinities included. -/
theorem two_le_mul (j k : ℤ) (y : EReal) (hy : 0 ≤ y) : two j ≤ y * two k ↔ two (j - k) ≤ y := by
  have hk := two_pos k
  have hk' : (0 : ℝ) < (2 : ℝ) ^ k := zpow_pos (by norm_num) k
  induction y with
  | bot => exact absurd hy (by simp)
  | top => simp only [two] at hk ⊢; rw [EReal.top_mul_coe_of_pos hk']; simp
  | coe r =>
    unfold two
    rw [← EReal.coe_mul, EReal.coe_le_coe_iff, EReal.coe_le_coe_iff, zpow_sub₀ (by norm_num), div_le_iff₀ hk']

/-- The comparison `y ≥ c`. -/
def ge (c : BitVec 32) (y : Ideal .f32) : BitVec 1 := FloatOps.cmpf .oge y (FloatOps.ofBits .f32 c)

/-- One step of the search: `y` scaled down by `c'` where it is at least `c`. -/
def redY (c c' : BitVec 32) (y : Ideal .f32) : Ideal .f32 :=
  Scalar.select (ge c y) (FloatOps.mulf y (FloatOps.ofBits .f32 c')) y

/-- The same step on the exponent word. -/
def redE (c d : BitVec 32) (y : Ideal .f32) (e : BitVec 32) : BitVec 32 :=
  Scalar.select (ge c y) (IntOp.addi e d) e

/-- Where the search starts: values below one are scaled up. -/
def startY (x : Ideal .f32) : Ideal .f32 :=
  Scalar.select (FloatOps.cmpf .olt x (FloatOps.ofBits .f32 0x3F800000#32))
    (FloatOps.mulf x (FloatOps.ofBits .f32 0x7E800000#32)) x

def startE (x : Ideal .f32) : BitVec 32 :=
  Scalar.select (FloatOps.cmpf .olt x (FloatOps.ofBits .f32 0x3F800000#32)) 0#32 1056964608#32

def y1 (x : Ideal .f32) := redY 0x5F800000#32 0x1F800000#32 (startY x)
def y2 (x : Ideal .f32) := redY 0x4F800000#32 0x2F800000#32 (y1 x)
def y3 (x : Ideal .f32) := redY 0x47800000#32 0x37800000#32 (y2 x)
def y4 (x : Ideal .f32) := redY 0x43800000#32 0x3B800000#32 (y3 x)
def y5 (x : Ideal .f32) := redY 0x41800000#32 0x3D800000#32 (y4 x)
def y6 (x : Ideal .f32) := redY 0x40800000#32 0x3E800000#32 (y5 x)
def y7 (x : Ideal .f32) := redY 0x40000000#32 0x3F000000#32 (y6 x)
def e1 (x : Ideal .f32) := redE 0x5F800000#32 536870912#32 (startY x) (startE x)
def e2 (x : Ideal .f32) := redE 0x4F800000#32 268435456#32 (y1 x) (e1 x)
def e3 (x : Ideal .f32) := redE 0x47800000#32 134217728#32 (y2 x) (e2 x)
def e4 (x : Ideal .f32) := redE 0x43800000#32 67108864#32 (y3 x) (e3 x)
def e5 (x : Ideal .f32) := redE 0x41800000#32 33554432#32 (y4 x) (e4 x)
def e6 (x : Ideal .f32) := redE 0x40800000#32 16777216#32 (y5 x) (e5 x)
def e7 (x : Ideal .f32) := redE 0x40000000#32 8388608#32 (y6 x) (e6 x)

/-- The word of the scale the search gives. -/
def word (x : Ideal .f32) : BitVec 32 :=
  IntOp.addi (IntOp.minsi (Scalar.select (ge 0x3F800000#32 (y7 x)) (IntOp.addi (e7 x) 8388608#32) 0#32) 2063597568#32)
    8388608#32

/-- The state of the search with `w` candidates left above `s`: `Q i` says that the value reaches the
    `i`-th power of the table, `n` is the exponent found so far. -/
def Found (Q : ℕ → Prop) (s w : ℕ) (y : EReal) (e : BitVec 32) : Prop :=
  ∃ n, e = BitVec.ofNat 32 (n * 8388608) ∧ n + w ≤ s + 128 ∧ 0 ≤ y ∧ (∀ j : ℕ, two j ≤ y ↔ Q (j + n))
    ∧ (n = s ∨ Q n) ∧ ¬(Q (n + w) ∧ n + w < 254)

theorem ge_eq (b : ℕ) (hb : b < 128) (y : Ideal .f32) :
    ge (BitVec.ofNat 32 ((b + 127) * 8388608)) y = BitVec.ofBool (decide (two b ≤ y)) := by
  show BitVec.ofBool (decide (Ideal.ofBits .f32 _ ≤ y)) = _
  rw [ofBits_pow _ (by omega) (by omega)]
  have : ((b + 127 : ℕ) : ℤ) - 127 = b := by push_cast; ring
  rw [this]; rfl

theorem select_ofBool {α : Type} (p : Prop) [Decidable p] (a b : α) :
    Scalar.select (BitVec.ofBool (decide p)) a b = if p then a else b := by
  unfold Scalar.select; by_cases h : p <;> simp [h]

theorem found_step (Q : ℕ → Prop) (s b : ℕ) (hs : s ≤ 126) (hb : 0 < b) (hb' : b < 127) (y : Ideal .f32) (e : BitVec 32)
    (h : Found Q s (2 * b) y e) :
    Found Q s b (redY (BitVec.ofNat 32 ((b + 127) * 8388608)) (BitVec.ofNat 32 ((127 - b) * 8388608)) y)
      (redE (BitVec.ofNat 32 ((b + 127) * 8388608)) (BitVec.ofNat 32 (b * 8388608)) y e) := by
  obtain ⟨n, he, hw, hy, hQ, hn, hnot⟩ := h
  unfold redY redE
  rw [ge_eq b (by omega), select_ofBool, select_ofBool]
  by_cases hc : two b ≤ y
  · rw [if_pos hc, if_pos hc]
    have hm : FloatOps.mulf y (FloatOps.ofBits (F := Ideal) .f32 (BitVec.ofNat 32 ((127 - b) * 8388608))) = (y : EReal) * two (-b) := by
      show y * Ideal.ofBits .f32 _ = _
      rw [ofBits_pow _ (by omega) (by omega)]
      have : ((127 - b : ℕ) : ℤ) - 127 = -b := by omega
      rw [this]; rfl
    rw [hm]
    refine ⟨n + b, ?_, by omega, mul_nonneg hy (two_pos _).le, fun j => ?_, Or.inr ?_, ?_⟩
    · show e + _ = _
      rw [he, ← BitVec.ofNat_add]; exact congrArg (BitVec.ofNat 32) (by ring)
    · rw [two_le_mul _ _ _ hy]
      have := hQ (j + b)
      push_cast at this
      rw [sub_neg_eq_add, this, show j + b + n = j + (n + b) by ring]
    · have := (hQ b).1 hc; rwa [add_comm] at this
    · rw [show n + b + b = n + 2 * b by ring]; exact hnot
  · rw [if_neg hc, if_neg hc]
    refine ⟨n, he, by omega, hy, hQ, hn, fun h => hc ((hQ b).2 ?_)⟩
    rw [add_comm]; exact h.1

/-- What `x` reaches of the table's powers. -/
def reaches (x : EReal) (i : ℕ) : Prop := two ((i : ℤ) - 126) ≤ x

theorem reaches_mono {x : EReal} {i j : ℕ} (h : i ≤ j) (hj : reaches x j) : reaches x i :=
  (two_mono (by omega)).trans hj

theorem lt_one_eq (x : Ideal .f32) :
    FloatOps.cmpf .olt x (FloatOps.ofBits (F := Ideal) .f32 0x3F800000#32) = BitVec.ofBool (decide (x < two 0)) := by
  show BitVec.ofBool (decide (x < Ideal.ofBits .f32 (BitVec.ofNat 32 (127 * 8388608)))) = _
  rw [ofBits_pow _ (by omega) (by omega)]; rfl

theorem found_start (x : Ideal .f32) (hx : (0 : EReal) ≤ x) :
    ∃ s, (s = 0 ∨ (s = 126 ∧ reaches x 126)) ∧ Found (reaches x) s 128 (startY x) (startE x) := by
  unfold startY startE
  rw [lt_one_eq, select_ofBool, select_ofBool]
  by_cases hc : x < two 0
  · rw [if_pos hc, if_pos hc]
    have hm : FloatOps.mulf x (FloatOps.ofBits (F := Ideal) .f32 0x7E800000#32) = (x : EReal) * two 126 := by
      show x * Ideal.ofBits .f32 (BitVec.ofNat 32 (253 * 8388608)) = _
      rw [ofBits_pow _ (by omega) (by omega)]; rfl
    rw [hm]
    refine ⟨0, Or.inl rfl, 0, rfl, by omega, mul_nonneg hx (two_pos _).le, fun j => ?_, Or.inl rfl, fun h => ?_⟩
    · rw [two_le_mul _ _ _ hx]; rfl
    · exact absurd ((two_mono (by norm_num)).trans h.1) (not_le.2 hc)
  · rw [if_neg hc, if_neg hc]
    have h1 : reaches x 126 := by
      unfold reaches; exact not_lt.1 hc
    refine ⟨126, Or.inr ⟨rfl, h1⟩, 126, rfl, by omega, hx, fun j => ?_, Or.inl rfl, fun h => by omega⟩
    unfold reaches
    have : ((j + 126 : ℕ) : ℤ) - 126 = j := by push_cast; ring
    rw [this]

/-- The search's word is the scale's: with `k` the count of table powers reached, at most 246. -/
theorem word_eq (x : Ideal .f32) (hx : (0 : EReal) ≤ x) :
    ∃ k ≤ 246, word x = BitVec.ofNat 32 ((k + 1) * 8388608) ∧ (∀ i < k, reaches x i) ∧ (k < 246 → ¬reaches x k) := by
  obtain ⟨s, hs, h0⟩ := found_start x hx
  have hs' : s ≤ 126 := by omega
  have h1 : Found (reaches x) s 64 (y1 x) (e1 x) := found_step _ s 64 hs' (by omega) (by omega) _ _ h0
  have h2 : Found (reaches x) s 32 (y2 x) (e2 x) := found_step _ s 32 hs' (by omega) (by omega) _ _ h1
  have h3 : Found (reaches x) s 16 (y3 x) (e3 x) := found_step _ s 16 hs' (by omega) (by omega) _ _ h2
  have h4 : Found (reaches x) s 8 (y4 x) (e4 x) := found_step _ s 8 hs' (by omega) (by omega) _ _ h3
  have h5 : Found (reaches x) s 4 (y5 x) (e5 x) := found_step _ s 4 hs' (by omega) (by omega) _ _ h4
  have h6 : Found (reaches x) s 2 (y6 x) (e6 x) := found_step _ s 2 hs' (by omega) (by omega) _ _ h5
  have h7 : Found (reaches x) s 1 (y7 x) (e7 x) := found_step _ s 1 hs' (by omega) (by omega) _ _ h6
  obtain ⟨n, he, hw, -, hQ, hn, hnot⟩ := h7
  have hg : ge 0x3F800000#32 (y7 x) = BitVec.ofBool (decide (two (0 : ℕ) ≤ y7 x)) := ge_eq 0 (by omega) _
  unfold word
  rw [hg, select_ofBool, he]
  have hmin : ∀ m : ℕ, m ≤ 254 → IntOp.minsi (BitVec.ofNat 32 (m * 8388608)) 2063597568#32
      = BitVec.ofNat 32 (min m 246 * 8388608) := by decide
  by_cases hc : two (0 : ℕ) ≤ y7 x
  · have hr : reaches x n := by have := (hQ 0).1 hc; rwa [zero_add] at this
    rw [if_pos hc, show IntOp.addi (BitVec.ofNat 32 (n * 8388608)) 8388608#32 = BitVec.ofNat 32 ((n + 1) * 8388608) by
      show _ + BitVec.ofNat 32 8388608 = _
      rw [← BitVec.ofNat_add]; exact congrArg (BitVec.ofNat 32) (by ring), hmin _ (by omega)]
    refine ⟨min (n + 1) 246, by omega, ?_, fun i hi => reaches_mono (by omega) hr, fun hk => ?_⟩
    · show _ + BitVec.ofNat 32 8388608 = _
      rw [← BitVec.ofNat_add]; exact congrArg (BitVec.ofNat 32) (by ring)
    · have hk' : min (n + 1) 246 = n + 1 := by omega
      rw [hk']; intro hh; exact hnot ⟨hh, by omega⟩
  · have hr : ¬reaches x n := by
      intro hh; apply hc; rw [hQ 0, zero_add]; exact hh
    rw [if_neg hc]
    have hn0 : n = 0 := by
      rcases hn with h | h
      · rcases hs with h' | ⟨h', h''⟩
        · omega
        · subst h; subst h'; exact absurd h'' hr
      · exact absurd h hr
    subst hn0
    exact ⟨0, by omega, rfl, fun i hi => by omega, fun _ => hr⟩

/-- The table's least power above `x`, or its last one. -/
def least (x : EReal) : EReal :=
  (Finset.univ : Finset (Fin 247)).fold min ⊤ fun k => if x < two ((k.val : ℤ) - 126) then two ((k.val : ℤ) - 126) else two 120

theorem least_eq (x : EReal) (k : ℕ) (hk : k ≤ 246) (h1 : ∀ i < k, reaches x i) (h2 : k < 246 → ¬reaches x k) :
    least x = two ((k : ℤ) - 126) := by
  unfold least
  apply le_antisymm
  · rw [Finset.fold_min_le]
    refine Or.inr ⟨⟨k, by omega⟩, Finset.mem_univ _, ?_⟩
    by_cases hk' : k < 246
    · rw [if_pos (not_le.1 (h2 hk'))]
    · have : k = 246 := by omega
      subst this
      split <;> exact two_mono (by norm_num)
  · rw [Finset.le_fold_min]
    refine ⟨le_top, fun i _ => ?_⟩
    by_cases hi : x < two ((i.val : ℤ) - 126)
    · rw [if_pos hi]
      refine two_mono ?_
      by_contra hlt
      exact absurd (h1 i.val (by omega)) (not_le.2 hi)
    · rw [if_neg hi]; exact two_mono (by omega)

/-- The scale's bits read as the table's least power above `x`. -/
theorem pow_eq (x : Ideal .f32) (hx : (0 : EReal) ≤ x) : Ideal.ofBits .f32 (word x) = least x := by
  obtain ⟨k, hk, hw, h1, h2⟩ := word_eq x hx
  rw [hw, ofBits_pow _ (by omega) (by omega), least_eq x k hk h1 h2]
  rw [show ((k + 1 : ℕ) : ℤ) - 127 = (k : ℤ) - 126 by omega]; rfl

/-- The inverse's bits read as its reciprocal. -/
theorem inv_eq (x : Ideal .f32) (hx : (0 : EReal) ≤ x) :
    Ideal.ofBits .f32 (IntOp.subi 2130706432#32 (word x)) = Ideal.div 1 (least x) := by
  obtain ⟨k, hk, hw, h1, h2⟩ := word_eq x hx
  have hsub : ∀ m : ℕ, m ≤ 254 → IntOp.subi 2130706432#32 (BitVec.ofNat 32 (m * 8388608))
      = BitVec.ofNat 32 ((254 - m) * 8388608) := by decide
  rw [hw, hsub _ (by omega), ofBits_pow _ (by omega) (by omega), least_eq x k hk h1 h2]
  unfold Ideal.div
  rw [if_neg (two_pos _).ne', one_mul]
  unfold two
  rw [← EReal.coe_inv, ← zpow_neg]
  congr 2
  omega

/-! ## The quantiser of a block of 128 values -/

/-- The scale of a block whose largest magnitude is `a`: the least table power above `a / 448`, or one where the block is zero. -/
def scaleOf (a : EReal) : EReal := if a = 0 then 1 else least (a * Ideal.ofBits .f32 0x3B124925#32)

/-- The code of a value of the block. -/
def codeOf (v a : EReal) : EReal :=
  min (Ideal.ofBits .f32 0x43E00000#32) (max (Ideal.ofBits .f32 0xC3E00000#32) (v * Ideal.div 1 (scaleOf a)))

/-- The value as the next product reads it: the code times the scale. -/
def actOf (v a : EReal) : EReal := codeOf v a * scaleOf a

/-- The largest magnitude of a block. -/
def peakOf (f : Fin 128 → EReal) : EReal :=
  Finset.fold max (Ideal.ofBits .f32 0xFF800000#32) (fun j => FloatOps.absf (F := Ideal) (φ := .f32) (f j)) Finset.univ

theorem abs_nonneg (x : EReal) : (0 : EReal) ≤ max x (-x) := by
  rcases le_total 0 x with h | h
  · exact le_max_of_le_left h
  · exact le_max_of_le_right (EReal.neg_nonneg.2 h)

theorem abs_le_peak (f : Fin 128 → EReal) (j : Fin 128) : max (f j) (-f j) ≤ peakOf f := by
  unfold peakOf
  rw [Finset.le_fold_max]
  exact Or.inr ⟨j, Finset.mem_univ _, le_rfl⟩

theorem peak_nonneg (f : Fin 128 → EReal) : 0 ≤ peakOf f := (abs_nonneg _).trans (abs_le_peak f 0)

theorem zero_of_peak (f : Fin 128 → EReal) (h : peakOf f = 0) (j : Fin 128) : f j = 0 := by
  have := abs_le_peak f j
  rw [h, max_le_iff] at this
  exact le_antisymm this.1 (EReal.neg_le_neg_iff.1 (this.2.trans_eq neg_zero.symm))

theorem step_nonneg : (0 : EReal) ≤ Ideal.ofBits .f32 0x3B124925#32 := by
  simp [Ideal.ofBits, Ideal.ieee, -EReal.coe_mul]

theorem clip_zero : min (Ideal.ofBits .f32 0x43E00000#32) (max (Ideal.ofBits .f32 0xC3E00000#32) 0) = 0 := by
  have h1 : (0 : EReal) ≤ Ideal.ofBits .f32 0x43E00000#32 := by
    simp [Ideal.ofBits, Ideal.ieee, -EReal.coe_mul]
  have h2 : Ideal.ofBits .f32 0xC3E00000#32 ≤ (0 : EReal) := by
    simp [Ideal.ofBits, Ideal.ieee, -EReal.coe_mul]
  rw [max_eq_right h2, min_eq_right h1]

/-- The kernel's scale. -/
theorem scale_bits (f : Fin 128 → EReal) :
    (if peakOf f = 0 then 1 else Ideal.ofBits .f32 (word (peakOf f * Ideal.ofBits .f32 0x3B124925#32))) = scaleOf (peakOf f) := by
  rw [pow_eq _ (mul_nonneg (peak_nonneg f) step_nonneg)]; rfl

/-- The kernel's code: the value times the inverse's bits, clipped. -/
theorem code_bits (f : Fin 128 → EReal) (j : Fin 128) :
    min (Ideal.ofBits .f32 0x43E00000#32) (max (Ideal.ofBits .f32 0xC3E00000#32)
      (f j * Ideal.ofBits .f32 (IntOp.subi 2130706432#32 (word (peakOf f * Ideal.ofBits .f32 0x3B124925#32)))))
      = codeOf (f j) (peakOf f) := by
  rw [inv_eq _ (mul_nonneg (peak_nonneg f) step_nonneg)]
  unfold codeOf scaleOf
  by_cases h : peakOf f = 0
  · rw [zero_of_peak f h j, zero_mul, zero_mul]
  · rw [if_neg h]

/-- The kernel's dequantised value: a zero block's code is zero, whatever the scale. -/
theorem act_bits (f : Fin 128 → EReal) (j : Fin 128) :
    codeOf (f j) (peakOf f) * Ideal.ofBits .f32 (word (peakOf f * Ideal.ofBits .f32 0x3B124925#32)) = actOf (f j) (peakOf f) := by
  rw [pow_eq _ (mul_nonneg (peak_nonneg f) step_nonneg)]
  unfold actOf
  by_cases h : peakOf f = 0
  · have hc : codeOf (f j) (peakOf f) = 0 := by
      unfold codeOf; rw [zero_of_peak f h j, zero_mul]; exact clip_zero
    rw [hc, zero_mul, zero_mul]
  · unfold scaleOf; rw [if_neg h]

end Cert.Layer

end
-- ==== Proof.GateUpPay.lean ====
/- The gate_up kernel's vector operations over the reals, element by element. -/
module

public import proofs.«01_k».proof.Proof.GateUpIdealStep
public import proofs.«01_k».proof.Proof.Quant

@[expose] public section

set_option maxRecDepth 16384

noncomputable section

namespace Cert.GateUpIdeal.Gen

open Idealize.ShloMosaic Idealize.ShloMosaic.TcCoe Idealize.ShloMosaic.Tactic Cert.Layer

variable (X : Vec Ideal S1280x5120 .bf16) (W : Vec Ideal S5120x512 .bf16)

/-- The first group's scale word is the search's, at the row's maximum over 448. -/
theorem word0_eq (i : S1280x1.Idx) :
    k0_pay217 (k0_pay213 (k0_pay202 X W) (Scalar.ofBits .f32 0x4F800000#32))
    (k0_pay214 (k0_pay202 X W) (k0_pay203 X W) (Scalar.ofBits .f32 0x4F800000#32))
    (k0_pay215 (k0_pay202 X W) (Scalar.ofBits .f32 0x4F800000#32)) (k0_pay216 (k0_pay202 X W) (Scalar.ofBits .f32 0x4F800000#32)) i
    = word (FloatOps.mulf (k0_pay198 X W i) (FloatOps.ofBits .f32 0x3B124925#32)) := rfl

/-- The second group's likewise. -/
theorem word1_eq (M : FVec Ideal S1280x256 .f32) (i : S1280x1.Idx) :
    k0_pay236 (k0_pay233 M) (k0_pay234 M) (k0_pay235 M) i
    = word (FloatOps.mulf (k0_pay225 M i) (FloatOps.ofBits .f32 0x3B124925#32)) := rfl

theorem p219 (A : FVec Ideal S1280x128 .f32) (y : FVec Ideal S1280x1 .f32) (e : IVec S1280x1 32) (c : IVec S1280x1 1)
    (z : FVec Ideal S1280x1 .f32) (r : Fin 1280) (j : Fin 128) :
    k0_pay219 A y e c z (ix2 r j) = min (Ideal.ofBits .f32 1138753536#32) (max (Ideal.ofBits .f32 3286237184#32)
      (A (ix2 r j) * Ideal.ofBits .f32 (IntOp.subi 2130706432#32 (k0_pay217 y e c z (ix2 r 0))))) := by
  pointwise [k0_pay219]

theorem deq (P : FVec Ideal S1280x128 .fp8e4m3) (q : FVec Ideal S1280x1 .f32) (r : Fin 1280) (j : Fin 128) :
    mulf (extf .bf16 P bitsLt_fp8e4m3_bf16) (broadcastTo S1280x128 (truncf .bf16 q bitsLt_bf16_f32) broadcasts_S1280x1_S1280x128) (ix2 r j)
      = (P (ix2 r j) : EReal) * q (ix2 r 0) := by
  pointwise

theorem p218 (y : FVec Ideal S1280x1 .f32) (e : IVec S1280x1 32) (c : IVec S1280x1 1)
    (z : FVec Ideal S1280x1 .f32) (i : S1280x1.Idx) : k0_pay218 y e c z i = Ideal.ofBits .f32 (k0_pay217 y e c z i) := rfl

theorem p220 (A : FVec Ideal S1280x128 .f32) (y : FVec Ideal S1280x1 .f32) (e : IVec S1280x1 32) (c : IVec S1280x1 1)
    (z : FVec Ideal S1280x1 .f32) (r : Fin 1280) (j : Fin 128) :
    k0_pay220 A y e c z (ix2 r j) = (k0_pay219 A y e c z (ix2 r j) : EReal) * k0_pay218 y e c z (ix2 r 0) := by
  unfold k0_pay220
  exact deq _ _ r j

theorem p222 (A y : FVec Ideal S1280x1 .f32) (e : IVec S1280x1 32) (c : IVec S1280x1 1)
    (z : FVec Ideal S1280x1 .f32) (r : Fin 1280) (j : Fin 128) :
    k0_pay222 A y e c z (ix2 r j) = if A (ix2 r 0) = (0 : EReal) then 1 else Ideal.ofBits .f32 (k0_pay217 y e c z (ix2 r 0)) := by
  pointwise [k0_pay222, k0_pay218]

theorem p1 (z : FVec Ideal S1280x128 .f32) (r : Fin 1280) (j : Fin 128) :
   k0_pay1 (Scalar.ofBits .f32 0x43E00000#32) z (ix2 r j) = min (Ideal.ofBits .f32 1138753536#32) (z (ix2 r j)) := by
  pointwise [k0_pay1]
theorem p2 (p : FVec Ideal S1280x1 .f32) (z : FVec Ideal S1280x128 .f32) (r : Fin 1280) (j : Fin 128) :
   k0_pay2 p (Scalar.ofBits .f32 0x43E00000#32) z (ix2 r j) = (k0_pay1 (Scalar.ofBits .f32 0x43E00000#32) z (ix2 r j) : EReal) * p (ix2 r 0) := by
  pointwise [k0_pay2]
theorem p239 (A : FVec Ideal S1280x128 .f32) (w : IVec S1280x1 32) (r : Fin 1280) (j : Fin 128) :
   k0_pay239 A w (ix2 r j) = max (Ideal.ofBits .f32 3286237184#32) ((A (ix2 r j) : EReal) * Ideal.ofBits .f32 (w (ix2 r 0))) := by
  pointwise [k0_pay239]
theorem p198 (r : Fin 1280) : k0_pay198 X W (ix2 r 0) =
   Finset.fold max (Ideal.ofBits FTy.f32 4286578688#32) (fun x => FloatOps.absf (k0_pay197 X W (ix2 r x))) Finset.univ := by
  pointwise [k0_pay198]
theorem p225 (M : FVec Ideal S1280x256 .f32) (r : Fin 1280) : k0_pay225 M (ix2 r 0) =
   Finset.fold max (Ideal.ofBits FTy.f32 4286578688#32) (fun x => FloatOps.absf (M (ix2 r ⟨128 + x.val, by omega⟩))) (Finset.univ : Finset (Fin 128)) := by
  pointwise [k0_pay225, k0_pay224]
theorem p224 (M : FVec Ideal S1280x256 .f32) (r : Fin 1280) (j : Fin 128) : k0_pay224 M (ix2 r j) = M (ix2 r ⟨128 + j.val, by omega⟩) := by
  pointwise [k0_pay224]
theorem p197 (r : Fin 1280) (j : Fin 128) : k0_pay197 X W (ix2 r j) = k0_pay196 X W (ix2 r ⟨j.val, by omega⟩) := by
  pointwise [k0_pay197]
theorem p196 (r : Fin 1280) (j : Fin 256) : k0_pay196 X W (ix2 r j) =
   (∑ x, X (ix2 r x) * W (ix2 x ⟨j.val, by omega⟩)) * Ideal.logistic (∑ x, X (ix2 r x) * W (ix2 x ⟨j.val, by omega⟩)) *
      ∑ x, (X (ix2 r x) : EReal) * W (ix2 x ⟨256 + j.val, by omega⟩) := by
  pointwise [k0_pay196]

/-- The first group of a row of the product. -/
def row0 (r : Fin 1280) (j : Fin 128) : EReal := k0_pay196 X W (ix2 r ⟨j.val, by omega⟩)

/-- The second group. -/
def row1 (r : Fin 1280) (j : Fin 128) : EReal := k0_pay196 X W (ix2 r ⟨128 + j.val, by omega⟩)

theorem peak0 (r : Fin 1280) : k0_pay198 X W (ix2 r 0) = peakOf (row0 X W r) :=
  (p198 X W r).trans (congrArg (fun f => Finset.fold max _ f Finset.univ) (funext fun j => congrArg FloatOps.absf (p197 X W r j)))

theorem peak1 (r : Fin 1280) : k0_pay225 (k0_pay196 X W) (ix2 r 0) = peakOf (row1 X W r) := p225 _ r

theorem word0 (r : Fin 1280) :
    k0_pay217 (k0_pay213 (k0_pay202 X W) (Scalar.ofBits .f32 0x4F800000#32))
    (k0_pay214 (k0_pay202 X W) (k0_pay203 X W) (Scalar.ofBits .f32 0x4F800000#32))
    (k0_pay215 (k0_pay202 X W) (Scalar.ofBits .f32 0x4F800000#32)) (k0_pay216 (k0_pay202 X W) (Scalar.ofBits .f32 0x4F800000#32)) (ix2 r 0)
    = word (peakOf (row0 X W r) * Ideal.ofBits .f32 0x3B124925#32) := by
  rw [word0_eq, peak0]; rfl

theorem word1 (r : Fin 1280) :
    k0_pay236 (k0_pay233 (k0_pay196 X W)) (k0_pay234 (k0_pay196 X W)) (k0_pay235 (k0_pay196 X W)) (ix2 r 0)
    = word (peakOf (row1 X W r) * Ideal.ofBits .f32 0x3B124925#32) := by
  rw [word1_eq, peak1]; rfl

/-- The first group's codes, activations and scale are the quantiser's. -/
theorem codes0_eq (r : Fin 1280) (j : Fin 128) : codes0 X W (ix2 r j) = codeOf (row0 X W r j) (peakOf (row0 X W r)) := by
  unfold codes0
  rw [p219, word0, p197]
  exact code_bits (row0 X W r) j

theorem acts0_eq (r : Fin 1280) (j : Fin 128) : acts0 X W (ix2 r j) = actOf (row0 X W r j) (peakOf (row0 X W r)) := by
  have h := codes0_eq X W r j
  unfold codes0 at h
  unfold acts0
  rw [p220, h, p218, word0]
  exact act_bits (row0 X W r) j

theorem scale0_eq (r : Fin 1280) (j : Fin 128) : scale0 X W (ix2 r j) = scaleOf (peakOf (row0 X W r)) := by
  unfold scale0
  rw [p222, word0, peak0]
  exact scale_bits (row0 X W r)

theorem pow1_eq (r : Fin 1280) : pow1 X W (ix2 r 0) = Ideal.ofBits .f32 (word (peakOf (row1 X W r) * Ideal.ofBits .f32 0x3B124925#32)) := by
  rw [← word1]; rfl

/-- The second group's likewise. -/
theorem codes1_eq (r : Fin 1280) (j : Fin 128) : codes1 X W (ix2 r j) = codeOf (row1 X W r j) (peakOf (row1 X W r)) := by
  have hw : k0_pay238 (k0_pay233 (k0_pay196 X W)) (k0_pay234 (k0_pay196 X W)) (k0_pay235 (k0_pay196 X W)) (ix2 r 0)
      = IntOp.subi 2130706432#32 (k0_pay236 (k0_pay233 (k0_pay196 X W)) (k0_pay234 (k0_pay196 X W)) (k0_pay235 (k0_pay196 X W)) (ix2 r 0)) := rfl
  unfold codes1 scaled1
  rw [p1, p239, p224, hw, word1]
  exact code_bits (row1 X W r) j

theorem acts1_eq (r : Fin 1280) (j : Fin 128) : acts1 X W (ix2 r j) = actOf (row1 X W r j) (peakOf (row1 X W r)) := by
  have h := codes1_eq X W r j
  unfold codes1 at h
  unfold acts1
  rw [p2, h, pow1_eq]
  exact act_bits (row1 X W r) j

theorem scale1_eq (r : Fin 1280) : scale1 X W (ix2 r 0) = scaleOf (peakOf (row1 X W r)) := by
  have h : scale1 X W (ix2 r 0) = if (k0_pay225 (k0_pay196 X W) (ix2 r 0) : EReal) = 0 then 1 else pow1 X W (ix2 r 0) := by
    pointwise [scale1]
  rw [h, peak1, pow1_eq]
  exact scale_bits (row1 X W r)

end Cert.GateUpIdeal.Gen

end
-- ==== Proof.GateUpWide.lean ====
/- The widened weight block of the gate_up kernel: at each grid step, 256 columns of the gate half beside 256 columns of
   the up half, every code times the scale of its tile. -/
module

public import proofs.«01_k».proof.Proof.GateUpIdealStep
public import proofs.«01_k».proof.Proof.Widen

@[expose] public section

set_option maxRecDepth 16384

noncomputable section

namespace Cert.GateUpIdeal.Gen

open Idealize.ShloMosaic Idealize.ShloMosaic.TcCoe Idealize.ShloMosaic.Tactic Cert.Layer

theorem hK : ∀ k < 5120, k / 128 < 40 := by omega

theorem hG (i : grid0.Coords) : ∀ c < 256, (i 1).val * 2 + c / 128 < 68 := by
  have h : (i 1).val < 17 := (i 1).isLt
  omega

theorem hU (i : grid0.Coords) : ∀ c < 256, (34 + (i 1).val * 2) + c / 128 < 68 := by
  have h : (i 1).val < 17 := (i 1).isLt
  omega

/-- The two widened column blocks side by side. -/
def wide2 (i : grid0.Coords) (s : Vec Ideal S40x68 .f32) (g u : Vec Ideal S5120x256 .fp8e4m3) : FVec Ideal S5120x512 .bf16 :=
  fun y => if h : (y 1).val < 256 then wide ((i 1).val * 2) hK (hG i) s g (ix2 (y 0) ⟨(y 1).val, h⟩)
    else wide (34 + (i 1).val * 2) hK (hU i) s u (ix2 (y 0) ⟨(y 1).val - 256, by
      have : (y 1).val < 512 := (y 1).isLt
      omega⟩)

/-- The word arithmetic of a column of the up half. -/
theorem col_toNat_up (n j : ℕ) (hn : n < 256) (hj : j < 256) :
    (Scalar.indexCast (Scalar.addi (Scalar.addi 34#32 (Scalar.muli (BitVec.ofNat 32 n) 2#32)) (BitVec.ofNat 32 j))).toNat
      = (34 + n * 2) + j := by
  show ((34#32 + BitVec.ofNat 32 n * 2#32 + BitVec.ofNat 32 j : BitVec 32)).toNat = _
  simp only [BitVec.toNat_add, BitVec.toNat_mul, BitVec.toNat_ofNat]
  omega

theorem emb_eq (o : Fin 2 → ℕ) (C : ℕ) (inb) (x : (Rect.unit (s := ⟨2, ![5120, C]⟩) o ![128, 128] inb).shape.Idx) (a) :
    ((Rect.unit (s := ⟨2, ![5120, C]⟩) o ![128, 128] inb).emb x a).val = o a + x a := Rect.idx_unit_val _ _ _ _ _

/-- A tile of the gate block stands at the same place of the pair. -/
theorem left (i : grid0.Coords) (s : Vec Ideal S40x68 .f32) (g u : Vec Ideal S5120x256 .fp8e4m3) (o o' : Fin 2 → ℕ)
    (inb) (inb') (h0 : o' 0 = o 0) (h1 : o' 1 = o 1) (hlt : o 1 + 128 ≤ 256)
    (x : (Rect.unit (s := S5120x256) o ![128, 128] inb).shape.Idx) :
    wide ((i 1).val * 2) hK (hG i) s g ((Rect.unit (s := S5120x256) o ![128, 128] inb).emb x)
      = wide2 i s g u ((Rect.unit (s := S5120x512) o' ![128, 128] inb').emb x) := by
  have hx1 : (x 1).val < 128 := (x 1).isLt
  have h : ((Rect.unit (s := S5120x512) o' ![128, 128] inb').emb x 1).val < 256 := by
    rw [emb_eq o' 512]; omega
  unfold wide2
  rw [dif_pos h]
  refine congrArg _ (funext fun a => Fin.ext ?_)
  rw [emb_eq o 256]
  match a with
  | ⟨0, _⟩ => exact ((emb_eq o' 512 inb' x 0).trans (by rw [h0]; rfl)).symm
  | ⟨1, _⟩ => exact ((emb_eq o' 512 inb' x 1).trans (by rw [h1]; rfl)).symm

/-- A tile of the up block stands 256 columns further. -/
theorem right (i : grid0.Coords) (s : Vec Ideal S40x68 .f32) (g u : Vec Ideal S5120x256 .fp8e4m3) (o o' : Fin 2 → ℕ)
    (inb) (inb') (h0 : o' 0 = o 0) (h1 : o' 1 = 256 + o 1)
    (x : (Rect.unit (s := S5120x256) o ![128, 128] inb).shape.Idx) :
    wide (34 + (i 1).val * 2) hK (hU i) s u ((Rect.unit (s := S5120x256) o ![128, 128] inb).emb x)
      = wide2 i s g u ((Rect.unit (s := S5120x512) o' ![128, 128] inb').emb x) := by
  have h : ¬((Rect.unit (s := S5120x512) o' ![128, 128] inb').emb x 1).val < 256 := by
    rw [emb_eq o' 512]; omega
  unfold wide2
  rw [dif_neg h]
  refine congrArg _ (funext fun a => Fin.ext ?_)
  rw [emb_eq o 256]
  match a with
  | ⟨0, _⟩ => exact ((emb_eq o' 512 inb' x 0).trans (by rw [h0]; rfl)).symm
  | ⟨1, _⟩ =>
    show o 1 + (x 1).val = ((Rect.unit (s := S5120x512) o' ![128, 128] inb').emb x 1).val - 256
    rw [emb_eq o' 512]; omega

set_option maxHeartbeats 8000000 in
/-- Each of the body's 160 stores into the scratch array is a tile of the pair. -/
theorem pieces (c : Dev nD) (i : grid0.Coords) (arg2 : Memref sig .tc .smem S40x68 .f32) (harg2 : arg2.IsWhole)
    (arg4 : Memref sig .tc .vmem S5120x256 .fp8e4m3) (harg4 : arg4.IsWhole)
    (arg5 : Memref sig .tc .vmem S5120x256 .fp8e4m3) (harg5 : arg5.IsWhole)
    (x0 : Vec Ideal S40x68 .f32) (x2 : Vec Ideal S5120x256 .fp8e4m3) (x3 : Vec Ideal S5120x256 .fp8e4m3) :
    ∀ p ∈ kernelRun0_B.sl.HS0_160 c i arg2 harg2 arg4 harg4 arg5 harg5 x0 x2 x3, ∀ x,
      p.2 x = wide2 i x0 x2 x3 (p.1.emb x) := by
  have hi : (i 1).val < 256 := lt_trans (i 1).isLt (by decide)
  unfold kernelRun0_B.sl.HS0_160
  iterate 80 refine List.forall_mem_cons.2 ⟨fun x => ((tile_apply _ _ _ _ _ x).trans (tile_piece _ hK (hU i) arg2 harg2 arg5
    harg5 x0 x3 _ _ _ _ _ _ _ rfl (col_toNat_up (i 1).val _ hi (by decide)) rfl rfl x)).trans (right i x0 x2 x3 _ _ _ (by decide) (by rfl) (by rfl) x), ?_⟩
  iterate 80 refine List.forall_mem_cons.2 ⟨fun x => ((tile_apply _ _ _ _ _ x).trans (tile_piece _ hK (hG i) arg2 harg2 arg4
    harg4 x0 x2 _ _ _ _ _ _ _ rfl (col_toNat (i 1).val 2 _ hi (by decide) (by decide)) rfl rfl x)).trans
      (left i x0 x2 x3 _ _ _ (by decide) (by rfl) (by rfl) (by decide) x), ?_⟩
  exact fun _ h => absurd h List.not_mem_nil

/-- So the scratch array holds the pair. -/
theorem weights_eq (c : Dev nD) (i : grid0.Coords) (arg2 : Memref sig .tc .smem S40x68 .f32) (harg2 : arg2.IsWhole)
    (arg4 : Memref sig .tc .vmem S5120x256 .fp8e4m3) (harg4 : arg4.IsWhole)
    (arg5 : Memref sig .tc .vmem S5120x256 .fp8e4m3) (harg5 : arg5.IsWhole)
    (x0 : Vec Ideal S40x68 .f32) (x2 : Vec Ideal S5120x256 .fp8e4m3) (x3 : Vec Ideal S5120x256 .fp8e4m3) :
    weights c i arg2 harg2 arg4 harg4 arg5 harg5 x0 x2 x3 = wide2 i x0 x2 x3 :=
  funext fun y => View.canon_apply_of_pieces _ _ (pieces c i arg2 harg2 arg4 harg4 arg5 harg5 x0 x2 x3) y
    (covers_B c i arg2 harg2 arg4 harg4 arg5 harg5 x0 x2 x3 y)

end Cert.GateUpIdeal.Gen

end
-- ==== Proof.GateUpValue.lean ====
/- What the gate_up kernel computes: one grid point's blocks, the scales gathered over a row block's 17 steps, and the
   three result arrays its 51 points fill. -/
module

public import proofs.«01_k».proof.Proof.GateUpPay
public import proofs.«01_k».proof.Proof.GateUpWide
public import proofs.«01_k».proof.Proof.GateUpIdealFrame

@[expose] public section

set_option maxRecDepth 16384

noncomputable section

namespace Cert.GateUpIdeal.Gen

open Idealize.ShloMosaic Idealize.ShloMosaic.TcCoe Idealize.ShloMosaic.Tactic Cert.Layer
open Idealize.SL.Sem
open Idealize.ShloMosaic.Pipeline (Dat)

theorem hC0 : ∀ c < 8704, 0 + c / 128 < 68 := by omega

/-! ## The layer's mathematics -/

section
variable (a0 : Vec Ideal S3840x5120 .bf16) (a1 : Vec Ideal S5120x8704 .fp8e4m3) (a2 : Vec Ideal S40x68 .f32)

/-- The gated product: the gate half through silu, times the up half. -/
def mid (r : Fin 3840) (c : Fin 4352) : EReal :=
  linear hK hC0 a0 a2 a1 r ⟨c.val, by omega⟩ * Ideal.logistic (linear hK hC0 a0 a2 a1 r ⟨c.val, by omega⟩)
    * linear hK hC0 a0 a2 a1 r ⟨4352 + c.val, by omega⟩

/-- A group of 128 columns of a row. -/
def group (r : Fin 3840) (g : Fin 34) (j : Fin 128) : EReal := mid a0 a1 a2 r ⟨g.val * 128 + j.val, by omega⟩

/-- The codes. -/
def resCodes : Vec Ideal S3840x4352 .fp8e4m3 := fun y =>
  codeOf (mid a0 a1 a2 (y 0) (y 1)) (peakOf (group a0 a1 a2 (y 0) ⟨(y 1).val / 128, by
    have : (y 1).val < 4352 := (y 1).isLt
    omega⟩))

/-- The scales. -/
def resScales : Vec Ideal S3840x34 .f32 := fun y => scaleOf (peakOf (group a0 a1 a2 (y 0) (y 1)))

/-- The activations the next product reads. -/
def resActs : Vec Ideal S3840x4352 .bf16 := fun y =>
  actOf (mid a0 a1 a2 (y 0) (y 1)) (peakOf (group a0 a1 a2 (y 0) ⟨(y 1).val / 128, by
    have : (y 1).val < 4352 := (y 1).isLt
    omega⟩))

end

/-! ## The blocks a grid point reads -/

variable (m : (ℓ : Loc nD τ sig) → Buf (Elt Ideal) ℓ) (ρ : Dev nD → PrngReg)

/-- The windows' block indices at each grid point. -/
theorem idx : ∀ t : Fin cfg0.N, (win0_0.index t 0 = 0 ∧ win0_0.index t 1 = 0)
    ∧ (win0_1.index t 0 = (grid0.coords t 0).val ∧ win0_1.index t 1 = 0)
    ∧ (win0_2.index t 0 = 0 ∧ win0_2.index t 1 = (grid0.coords t 1).val)
    ∧ (win0_3.index t 0 = 0 ∧ win0_3.index t 1 = 17 + (grid0.coords t 1).val)
    ∧ (win0_4.index t 0 = (grid0.coords t 0).val ∧ win0_4.index t 1 = (grid0.coords t 1).val)
    ∧ (win0_5.index t 0 = (grid0.coords t 0).val ∧ win0_5.index t 1 = 0)
    ∧ (win0_6.index t 0 = (grid0.coords t 0).val ∧ win0_6.index t 1 = (grid0.coords t 1).val) :=
  (by decide +kernel : ∀ t : Fin grid0.N, _)

theorem rows_val : ∀ t : Fin cfg0.N, (grid0.coords t 0).val = t.val / 17 :=
  (by decide +kernel : ∀ t : Fin grid0.N, _)

theorem row_lt (i : grid0.Coords) (r : Fin 1280) : (i 0).val * 1280 + r.val < 3840 := by
  have h : (i 0).val < 3 := (i 0).isLt
  omega

theorem col_lt (i : grid0.Coords) (k : Fin 256) : (i 1).val * 256 + k.val < 4352 := by
  have h : (i 1).val < 17 := (i 1).isLt
  omega

theorem blk0 (c : Dev nD) (t : Fin cfg0.N) (r : Fin 40) (k : Fin 68) :
    (iblk m c 0 t : Vec Ideal S40x68 .f32) (ix2 r k) = m ((c : Thread nD τ).loc main_arg2) (ix2 r k) := by
  obtain ⟨⟨h0, h1⟩, -⟩ := idx t
  refine read_rect_apply main_arg2 (m ((c : Thread nD τ).loc main_arg2)) _ _ _ _ _ fun a => ?_
  match a with
  | ⟨0, _⟩ => show r.val = win0_0.index t 0 * 40 + r.val; rw [h0]; omega
  | ⟨1, _⟩ => show k.val = win0_0.index t 1 * 68 + k.val; rw [h1]; omega

theorem blk1 (c : Dev nD) (t : Fin cfg0.N) (r : Fin 1280) (k : Fin 5120) :
    (iblk m c 1 t : Vec Ideal S1280x5120 .bf16) (ix2 r k)
      = m ((c : Thread nD τ).loc main_arg0) (ix2 ⟨_, row_lt (grid0.coords t) r⟩ k) := by
  obtain ⟨-, ⟨h0, h1⟩, -⟩ := idx t
  refine read_rect_apply main_arg0 (m ((c : Thread nD τ).loc main_arg0)) _ _ _ _ _ fun a => ?_
  match a with
  | ⟨0, _⟩ => show _ = win0_1.index t 0 * 1280 + r.val; rw [h0]; rfl
  | ⟨1, _⟩ => show k.val = win0_1.index t 1 * 5120 + k.val; rw [h1]; omega

theorem blk2 (c : Dev nD) (t : Fin cfg0.N) (k : Fin 5120) (r : Fin 256) :
    (iblk m c 2 t : Vec Ideal S5120x256 .fp8e4m3) (ix2 k r)
      = m ((c : Thread nD τ).loc main_arg1) (ix2 k ⟨(grid0.coords t 1).val * 256 + r.val, by
          have := col_lt (grid0.coords t) r
          omega⟩) := by
  obtain ⟨-, -, ⟨h0, h1⟩, -⟩ := idx t
  refine read_rect_apply main_arg1 (m ((c : Thread nD τ).loc main_arg1)) _ _ _ _ _ fun a => ?_
  match a with
  | ⟨0, _⟩ => show k.val = win0_2.index t 0 * 5120 + k.val; rw [h0]; omega
  | ⟨1, _⟩ => show _ = win0_2.index t 1 * 256 + r.val; rw [h1]; rfl

theorem blk3 (c : Dev nD) (t : Fin cfg0.N) (k : Fin 5120) (r : Fin 256) :
    (iblk m c 3 t : Vec Ideal S5120x256 .fp8e4m3) (ix2 k r)
      = m ((c : Thread nD τ).loc main_arg1) (ix2 k ⟨4352 + ((grid0.coords t 1).val * 256 + r.val), by
          have := col_lt (grid0.coords t) r
          omega⟩) := by
  obtain ⟨-, -, -, ⟨h0, h1⟩, -⟩ := idx t
  refine read_rect_apply main_arg1 (m ((c : Thread nD τ).loc main_arg1)) _ _ _ _ _ fun a => ?_
  match a with
  | ⟨0, _⟩ => show k.val = win0_3.index t 0 * 5120 + k.val; rw [h0]; omega
  | ⟨1, _⟩ =>
    show 4352 + ((grid0.coords t 1).val * 256 + r.val) = win0_3.index t 1 * 256 + r.val
    rw [h1]; omega

/-- The widened pair's left half is the widened weight's gate columns. -/
theorem wtile_left (c : Dev nD) (t : Fin cfg0.N) (k : Fin 5120) (r : Fin 256) :
    wtile m c t (ix2 k ⟨r.val, by omega⟩)
      = wide 0 hK hC0 (m ((c : Thread nD τ).loc main_arg2)) (m ((c : Thread nD τ).loc main_arg1))
          (ix2 k ⟨(grid0.coords t 1).val * 256 + r.val, by
            have := col_lt (grid0.coords t) r
            omega⟩) := by
  unfold wtile
  rw [weights_eq]
  unfold wide2
  rw [dif_pos (show ((ix2 k (⟨r.val, by omega⟩ : Fin 512)) 1 : ℕ) < 256 from r.isLt)]
  unfold wide
  refine congr (congrArg _ (blk2 m c t k r)) ((blk0 m c t _ _).trans (congrArg _ (congrArg _ (Fin.ext ?_))))
  show (grid0.coords t 1).val * 2 + r.val / 128 = 0 + ((grid0.coords t 1).val * 256 + r.val) / 128
  omega

/-- The right half is its up columns. -/
theorem wtile_right (c : Dev nD) (t : Fin cfg0.N) (k : Fin 5120) (r : Fin 256) :
    wtile m c t (ix2 k ⟨256 + r.val, by omega⟩)
      = wide 0 hK hC0 (m ((c : Thread nD τ).loc main_arg2)) (m ((c : Thread nD τ).loc main_arg1))
          (ix2 k ⟨4352 + ((grid0.coords t 1).val * 256 + r.val), by
            have := col_lt (grid0.coords t) r
            omega⟩) := by
  unfold wtile
  rw [weights_eq]
  unfold wide2
  rw [dif_neg (show ¬((ix2 k (⟨256 + r.val, by omega⟩ : Fin 512)) 1 : ℕ) < 256 from by
    show ¬(256 + r.val < 256)
    omega)]
  unfold wide
  have hr : (⟨256 + r.val - 256, by omega⟩ : Fin 256) = r := Fin.ext (by dsimp only; omega)
  refine congr (congrArg _ ((congrArg (fun q : Fin 256 => (iblk m c 3 t : Vec Ideal S5120x256 .fp8e4m3) (ix2 k q)) hr).trans (blk3 m c t k r)))
    ((blk0 m c t _ _).trans (congrArg _ (congrArg _ (Fin.ext ?_))))
  show (34 + (grid0.coords t 1).val * 2) + (256 + r.val - 256) / 128 = 0 + (4352 + ((grid0.coords t 1).val * 256 + r.val)) / 128
  omega

/-- A block of the gated product from rows of the activations and columns of the widened weight. -/
theorem mid_of (X : Vec Ideal S1280x5120 .bf16) (W : Vec Ideal S5120x512 .bf16) (a0 : Vec Ideal S3840x5120 .bf16)
    (a1 : Vec Ideal S5120x8704 .fp8e4m3) (a2 : Vec Ideal S40x68 .f32) (r : Fin 1280) (k : Fin 256) (R : Fin 3840) (C : Fin 4352)
    (hX : ∀ x : Fin 5120, X (ix2 r x) = a0 (ix2 R x))
    (hL : ∀ x : Fin 5120, W (ix2 x ⟨k.val, by omega⟩) = wide 0 hK hC0 a2 a1 (ix2 x ⟨C.val, by omega⟩))
    (hR : ∀ x : Fin 5120, W (ix2 x ⟨256 + k.val, by omega⟩) = wide 0 hK hC0 a2 a1 (ix2 x ⟨4352 + C.val, by omega⟩)) :
    k0_pay196 X W (ix2 r k) = mid a0 a1 a2 R C := by
  rw [p196]
  have hg : (∑ x : Fin 5120, (X (ix2 r x) : EReal) * W (ix2 x ⟨k.val, by omega⟩))
      = linear hK hC0 a0 a2 a1 R ⟨C.val, by omega⟩ :=
    Finset.sum_congr rfl fun x _ => congrArg₂ (fun a b : EReal => a * b) (hX x) (hL x)
  have hu : (∑ x : Fin 5120, (X (ix2 r x) : EReal) * W (ix2 x ⟨256 + k.val, by omega⟩))
      = linear hK hC0 a0 a2 a1 R ⟨4352 + C.val, by omega⟩ :=
    Finset.sum_congr rfl fun x _ => congrArg₂ (fun a b : EReal => a * b) (hX x) (hR x)
  unfold mid
  exact congrArg₂ (fun a b : EReal => a * b) (congrArg (fun a : EReal => a * Ideal.logistic a) hg) hu

/-- A grid point's block of the gated product is the layer's. -/
theorem mid_blk (c : Dev nD) (t : Fin cfg0.N) (r : Fin 1280) (k : Fin 256) :
    k0_pay196 (iblk m c 1 t) (wtile m c t) (ix2 r k)
      = mid (m ((c : Thread nD τ).loc main_arg0)) (m ((c : Thread nD τ).loc main_arg1)) (m ((c : Thread nD τ).loc main_arg2))
          ⟨_, row_lt (grid0.coords t) r⟩ ⟨_, col_lt (grid0.coords t) k⟩ :=
  mid_of _ _ _ _ _ _ _ _ _ (blk1 m c t r) (fun x => wtile_left m c t x k) (fun x => wtile_right m c t x k)

theorem grp_lt (i : grid0.Coords) (b : Fin 2) : (i 1).val * 2 + b.val < 34 := by
  have h : (i 1).val < 17 := (i 1).isLt
  omega

/-- Its two groups are the layer's groups `2 n` and `2 n + 1`. -/
theorem row0_eq (c : Dev nD) (t : Fin cfg0.N) (r : Fin 1280) :
    row0 (iblk m c 1 t) (wtile m c t) r
      = group (m ((c : Thread nD τ).loc main_arg0)) (m ((c : Thread nD τ).loc main_arg1)) (m ((c : Thread nD τ).loc main_arg2))
          ⟨_, row_lt (grid0.coords t) r⟩ ⟨_, grp_lt (grid0.coords t) 0⟩ := by
  funext j
  refine (mid_blk m c t r _).trans (congrArg _ (Fin.ext ?_))
  show (grid0.coords t 1).val * 256 + j.val = ((grid0.coords t 1).val * 2 + 0) * 128 + j.val
  omega

theorem row1_eq (c : Dev nD) (t : Fin cfg0.N) (r : Fin 1280) :
    row1 (iblk m c 1 t) (wtile m c t) r
      = group (m ((c : Thread nD τ).loc main_arg0)) (m ((c : Thread nD τ).loc main_arg1)) (m ((c : Thread nD τ).loc main_arg2))
          ⟨_, row_lt (grid0.coords t) r⟩ ⟨_, grp_lt (grid0.coords t) 1⟩ := by
  funext j
  refine (mid_blk m c t r _).trans (congrArg _ (Fin.ext ?_))
  show (grid0.coords t 1).val * 256 + (128 + j.val) = ((grid0.coords t 1).val * 2 + 1) * 128 + j.val
  omega

/-! ## The blocks a grid point writes -/

theorem emb_out (o : Fin 2 → ℕ) (inb) (x : (Rect.unit (s := S1280x256) o ![1280, 128] inb).shape.Idx) (a) :
    ((Rect.unit (s := S1280x256) o ![1280, 128] inb).emb x a).val = o a + x a := Rect.idx_unit_val _ _ _ _ _

/-- A value of group `2 n + b` and its peak, found at the block's column `128 b + j`. -/
theorem at_col (f : EReal → EReal → EReal) (a0 : Vec Ideal S3840x5120 .bf16) (a1 : Vec Ideal S5120x8704 .fp8e4m3)
    (a2 : Vec Ideal S40x68 .f32) (i : grid0.Coords) (b : Fin 2) (r r' : Fin 1280) (j : Fin 128) (q : Fin 256)
    (hr : r'.val = r.val) (h : q.val = b.val * 128 + j.val) :
    f (group a0 a1 a2 ⟨_, row_lt i r⟩ ⟨_, grp_lt i b⟩ j) (peakOf (group a0 a1 a2 ⟨_, row_lt i r⟩ ⟨_, grp_lt i b⟩))
      = f (mid a0 a1 a2 ⟨_, row_lt i r'⟩ ⟨_, col_lt i q⟩) (peakOf (group a0 a1 a2 ⟨_, row_lt i r'⟩
          ⟨((i 1).val * 256 + q.val) / 128, by
            have := col_lt i q
            omega⟩)) := by
  obtain rfl : r' = r := Fin.ext hr
  have hj := j.isLt
  have hb := b.isLt
  have e1 : group a0 a1 a2 ⟨_, row_lt i r'⟩ ⟨_, grp_lt i b⟩ j = mid a0 a1 a2 ⟨_, row_lt i r'⟩ ⟨_, col_lt i q⟩ := by
    unfold group
    exact congrArg (mid a0 a1 a2 _) (Fin.ext (by dsimp only; omega))
  have e2 : (⟨_, grp_lt i b⟩ : Fin 34) = ⟨((i 1).val * 256 + q.val) / 128, by
      have := col_lt i q
      omega⟩ := Fin.ext (by dsimp only; omega)
  rw [e1, e2]

/-- The block of codes a grid point writes is the layer's. -/
theorem codes_blk (c : Dev nD) (t : Fin cfg0.N) (y : S1280x256.Idx) :
    codes (iblk m c 1 t) (wtile m c t) y
      = resCodes (m ((c : Thread nD τ).loc main_arg0)) (m ((c : Thread nD τ).loc main_arg1)) (m ((c : Thread nD τ).loc main_arg2))
          (ix2 ⟨_, row_lt (grid0.coords t) (y 0)⟩ ⟨_, col_lt (grid0.coords t) (y 1)⟩) := by
  refine View.canon_apply_of_pieces (fun y : S1280x256.Idx => resCodes (m ((c : Thread nD τ).loc main_arg0))
    (m ((c : Thread nD τ).loc main_arg1)) (m ((c : Thread nD τ).loc main_arg2))
    (ix2 ⟨_, row_lt (grid0.coords t) (y 0)⟩ ⟨_, col_lt (grid0.coords t) (y 1)⟩)) _ ?_ y ?_
  · refine List.forall_mem_cons.2 ⟨fun x => ?_, List.forall_mem_cons.2 ⟨fun x => ?_, fun _ h => absurd h List.not_mem_nil⟩⟩
    · obtain ⟨r, j, rfl⟩ : ∃ (r : Fin 1280) (j : Fin 128), x = ix2 r j := ⟨x 0, x 1, eq_ix2 x⟩
      refine (codes1_eq _ _ r j).trans ?_
      rw [row1_eq]
      refine at_col codeOf _ _ _ _ 1 r _ j _ ?_ ?_
      · exact (emb_out ![0, 128] inb_S1280x256_S1280x128_0_128 (ix2 r j) 0).trans (Nat.zero_add _)
      · exact emb_out ![0, 128] inb_S1280x256_S1280x128_0_128 (ix2 r j) 1
    · obtain ⟨r, j, rfl⟩ : ∃ (r : Fin 1280) (j : Fin 128), x = ix2 r j := ⟨x 0, x 1, eq_ix2 x⟩
      refine (codes0_eq _ _ r j).trans ?_
      rw [row0_eq]
      refine at_col codeOf _ _ _ _ 0 r _ j _ ?_ ?_
      · exact (emb_out ![0, 0] inb_S1280x256_S1280x128_0_0 (ix2 r j) 0).trans (Nat.zero_add _)
      · exact emb_out ![0, 0] inb_S1280x256_S1280x128_0_0 (ix2 r j) 1
  · exact View.cover_of_tiledL [⟨Rect.unit ![0, 128] ![1280, 128] inb_S1280x256_S1280x128_0_128, _⟩,
      ⟨Rect.unit ![0, 0] ![1280, 128] inb_S1280x256_S1280x128_0_0, _⟩] ![1280, 128] (by sl_kernel_rfl) y

/-- The block of activations likewise. -/
theorem acts_blk (c : Dev nD) (t : Fin cfg0.N) (y : S1280x256.Idx) :
    acts (iblk m c 1 t) (wtile m c t) y
      = resActs (m ((c : Thread nD τ).loc main_arg0)) (m ((c : Thread nD τ).loc main_arg1)) (m ((c : Thread nD τ).loc main_arg2))
          (ix2 ⟨_, row_lt (grid0.coords t) (y 0)⟩ ⟨_, col_lt (grid0.coords t) (y 1)⟩) := by
  refine View.canon_apply_of_pieces (fun y : S1280x256.Idx => resActs (m ((c : Thread nD τ).loc main_arg0))
    (m ((c : Thread nD τ).loc main_arg1)) (m ((c : Thread nD τ).loc main_arg2))
    (ix2 ⟨_, row_lt (grid0.coords t) (y 0)⟩ ⟨_, col_lt (grid0.coords t) (y 1)⟩)) _ ?_ y ?_
  · refine List.forall_mem_cons.2 ⟨fun x => ?_, List.forall_mem_cons.2 ⟨fun x => ?_, fun _ h => absurd h List.not_mem_nil⟩⟩
    · obtain ⟨r, j, rfl⟩ : ∃ (r : Fin 1280) (j : Fin 128), x = ix2 r j := ⟨x 0, x 1, eq_ix2 x⟩
      refine (acts1_eq _ _ r j).trans ?_
      rw [row1_eq]
      refine at_col actOf _ _ _ _ 1 r _ j _ ?_ ?_
      · exact (emb_out ![0, 128] inb_S1280x256_S1280x128_0_128 (ix2 r j) 0).trans (Nat.zero_add _)
      · exact emb_out ![0, 128] inb_S1280x256_S1280x128_0_128 (ix2 r j) 1
    · obtain ⟨r, j, rfl⟩ : ∃ (r : Fin 1280) (j : Fin 128), x = ix2 r j := ⟨x 0, x 1, eq_ix2 x⟩
      refine (acts0_eq _ _ r j).trans ?_
      rw [row0_eq]
      refine at_col actOf _ _ _ _ 0 r _ j _ ?_ ?_
      · exact (emb_out ![0, 0] inb_S1280x256_S1280x128_0_0 (ix2 r j) 0).trans (Nat.zero_add _)
      · exact emb_out ![0, 0] inb_S1280x256_S1280x128_0_0 (ix2 r j) 1
  · exact View.cover_of_tiledL [⟨Rect.unit ![0, 128] ![1280, 128] inb_S1280x256_S1280x128_0_128, _⟩,
      ⟨Rect.unit ![0, 0] ![1280, 128] inb_S1280x256_S1280x128_0_0, _⟩] ![1280, 128] (by sl_kernel_rfl) y

/-- After point `n` the scratch holds, in its lanes up to this step's two, the scales of the row block. -/
theorem scratch_apply (c : Dev nD) : ∀ (n : ℕ) (hn : n < cfg0.N) (r : Fin 1280) (l : Fin 128) (hl : l.val < 34)
    (hr : n / 17 * 1280 + r.val < 3840), l.val < 2 * (n % 17) + 2 →
    scratch m c n hn (ix2 r l)
      = scaleOf (peakOf (group (m ((c : Thread nD τ).loc main_arg0)) (m ((c : Thread nD τ).loc main_arg1))
          (m ((c : Thread nD τ).loc main_arg2)) ⟨_, hr⟩ ⟨l.val, hl⟩)) := by
  have step : ∀ (n : ℕ) (hn : n < cfg0.N) (xs : Vec Ideal S1280x128 .f32) (r : Fin 1280) (l : Fin 128) (hl : l.val < 34)
      (hr : n / 17 * 1280 + r.val < 3840),
      (l.val < 2 * (n % 17) → xs (ix2 r l) = scaleOf (peakOf (group (m ((c : Thread nD τ).loc main_arg0))
        (m ((c : Thread nD τ).loc main_arg1)) (m ((c : Thread nD τ).loc main_arg2)) ⟨_, hr⟩ ⟨l.val, hl⟩))) →
      l.val < 2 * (n % 17) + 2 →
      next (grid0.coords ⟨n, hn⟩ 1).val (iblk m c 1 ⟨n, hn⟩) (wtile m c ⟨n, hn⟩) xs (ix2 r l)
        = scaleOf (peakOf (group (m ((c : Thread nD τ).loc main_arg0)) (m ((c : Thread nD τ).loc main_arg1))
          (m ((c : Thread nD τ).loc main_arg2)) ⟨_, hr⟩ ⟨l.val, hl⟩)) := by
    intro n hn xs r l hl hr hx hlt
    have h1 : (grid0.coords ⟨n, hn⟩ 1).val = n % 17 := step_val ⟨n, hn⟩
    have h0 : (grid0.coords ⟨n, hn⟩ 0).val = n / 17 := rows_val ⟨n, hn⟩
    rw [next_apply _ (by omega)]
    split
    · next h =>
      rw [scale1_eq, row1_eq]
      refine congrArg scaleOf (congrArg peakOf (congrArg₂ _ (Fin.ext ?_) (Fin.ext ?_)))
      · show (grid0.coords ⟨n, hn⟩ 0).val * 1280 + r.val = n / 17 * 1280 + r.val
        rw [h0]
      · show (grid0.coords ⟨n, hn⟩ 1).val * 2 + 1 = l.val
        omega
    · split
      · next h =>
        rw [scale0_eq, row0_eq]
        refine congrArg scaleOf (congrArg peakOf (congrArg₂ _ (Fin.ext ?_) (Fin.ext ?_)))
        · show (grid0.coords ⟨n, hn⟩ 0).val * 1280 + r.val = n / 17 * 1280 + r.val
          rw [h0]
        · show (grid0.coords ⟨n, hn⟩ 1).val * 2 + 0 = l.val
          omega
      · exact hx (by omega)
  intro n
  induction n with
  | zero =>
    intro hn r l hl hr hlt
    exact step 0 hn _ r l hl hr (fun h => absurd h (by omega)) hlt
  | succ n ih =>
    intro hn r l hl hr hlt
    refine step (n + 1) hn _ r l hl hr (fun h => ?_) hlt
    have hq : (n + 1) / 17 = n / 17 := by omega
    refine (ih (Nat.lt_of_succ_lt hn) r l hl (by rw [← hq]; exact hr) (by omega)).trans ?_
    exact congrArg scaleOf (congrArg peakOf (congrArg (fun q => group _ _ _ q _) (Fin.ext (by dsimp only; rw [hq]))))

/-- So the block of scales written at a row block's last step is the layer's. -/
theorem scales_blk (c : Dev nD) (t : Fin cfg0.N) (ht : t.val % 17 = 16) (r : Fin 1280) (l : Fin 34) :
    lanes (scratch m c t.val t.isLt) (ix2 r l)
      = resScales (m ((c : Thread nD τ).loc main_arg0)) (m ((c : Thread nD τ).loc main_arg1)) (m ((c : Thread nD τ).loc main_arg2))
          (ix2 ⟨_, row_lt (grid0.coords t) r⟩ l) := by
  have hrow := row_lt (grid0.coords t) r
  rw [rows_val t] at hrow
  rw [lanes_apply, scratch_apply m c t.val t.isLt r ⟨l.val, by omega⟩ l.isLt hrow (by dsimp only; omega)]
  exact congrArg scaleOf (congrArg peakOf (congrArg (fun q => group _ _ _ q _) (Fin.ext (by
    show t.val / 17 * 1280 + r.val = (grid0.coords t 0).val * 1280 + r.val
    rw [rows_val t]))))

/-! ## The result arrays -/

theorem flushed4_eq (c : Dev nD) (t : Fin cfg0.N) :
    (dats m 0 c).flushed 4 t = ((cfg0.win 4).blk t).view.read (Elt Ideal)
      (resCodes (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  obtain ⟨-, -, -, -, ⟨h0, h1⟩, -⟩ := idx t
  funext y
  obtain ⟨r, k, rfl⟩ : ∃ (r : Fin 1280) (k : Fin 256), y = ix2 r k := ⟨y 0, y 1, eq_ix2 y⟩
  refine Eq.trans ?_ (read_rect_apply main_v0_0 _ _ _ _ (ix2 r k)
    (ix2 ⟨_, row_lt (grid0.coords t) r⟩ ⟨_, col_lt (grid0.coords t) k⟩) fun a => ?_).symm
  · exact codes_blk m c t (ix2 r k)
  · match a with
    | ⟨0, _⟩ => show _ = win0_4.index t 0 * 1280 + r.val; rw [h0]; rfl
    | ⟨1, _⟩ => show _ = win0_4.index t 1 * 256 + k.val; rw [h1]; rfl

theorem flushed5_eq (c : Dev nD) (t : Fin cfg0.N) (ht : (cfg0.win 5).flush t = true) :
    (dats m 0 c).flushed 5 t = ((cfg0.win 5).blk t).view.read (Elt Ideal)
      (resScales (m ((c : Thread nD τ).loc main_arg0)) (m ((c : Thread nD τ).loc main_arg1)) (m ((c : Thread nD τ).loc main_arg2))) := by
  have hl : t.val % 17 = 16 := (by decide +kernel : ∀ t : Fin grid0.N, win0_5.flush t = true → t.val % 17 = 16) t ht
  show (cfg0.win 5).cut (grid0.coords t) ((dats m 0 c).after 5 t) = _
  rw [after0_5]
  obtain ⟨-, -, -, -, -, ⟨h0, h1⟩, -⟩ := idx t
  funext y
  obtain ⟨r, k, rfl⟩ : ∃ (r : Fin 1280) (k : Fin 34), y = ix2 r k := ⟨y 0, y 1, eq_ix2 y⟩
  refine Eq.trans ?_ (read_rect_apply main_v0_1 _ _ _ _ (ix2 r k)
    (ix2 ⟨_, row_lt (grid0.coords t) r⟩ k) fun a => ?_).symm
  · exact scales_blk m c t hl r k
  · match a with
    | ⟨0, _⟩ => show _ = win0_5.index t 0 * 1280 + r.val; rw [h0]; rfl
    | ⟨1, _⟩ => show k.val = win0_5.index t 1 * 34 + k.val; rw [h1]; omega

theorem flushed6_eq (c : Dev nD) (t : Fin cfg0.N) :
    (dats m 0 c).flushed 6 t = ((cfg0.win 6).blk t).view.read (Elt Ideal)
      (resActs (m ((c : Thread nD τ).loc main_arg0)) (m ((c : Thread nD τ).loc main_arg1)) (m ((c : Thread nD τ).loc main_arg2))) := by
  show (cfg0.win 6).cut (grid0.coords t) ((dats m 0 c).after 6 t) = _
  rw [after0_6]
  obtain ⟨-, -, -, -, -, -, ⟨h0, h1⟩⟩ := idx t
  funext y
  obtain ⟨r, k, rfl⟩ : ∃ (r : Fin 1280) (k : Fin 256), y = ix2 r k := ⟨y 0, y 1, eq_ix2 y⟩
  refine Eq.trans ?_ (read_rect_apply main_v0_2 _ _ _ _ (ix2 r k)
    (ix2 ⟨_, row_lt (grid0.coords t) r⟩ ⟨_, col_lt (grid0.coords t) k⟩) fun a => ?_).symm
  · exact acts_blk m c t (ix2 r k)
  · match a with
    | ⟨0, _⟩ => show _ = win0_6.index t 0 * 1280 + r.val; rw [h0]; rfl
    | ⟨1, _⟩ => show _ = win0_6.index t 1 * 256 + k.val; rw [h1]; rfl

/-- Every index of each result lies in some written block. -/
theorem cover4 (y : S3840x4352.Idx) :
    ∃ t : Fin cfg0.N, (cfg0.win 4).flush t = true ∧ y ∈ ((cfg0.win 4).blk t).view.set := by
  have hy0 : (y 0).val < 3840 := (y 0).isLt
  have hy1 : (y 1).val < 4352 := (y 1).isLt
  obtain ⟨t, hf, ht0, ht1⟩ : ∃ t : Fin cfg0.N, (cfg0.win 4).flush t = true
      ∧ win0_4.index t 0 = (y 0).val / 1280 ∧ win0_4.index t 1 = (y 1).val / 256 :=
    (by decide +kernel : ∀ (a : Fin 3) (b : Fin 17), ∃ t : Fin grid0.N, win0_4.flush t = true
      ∧ win0_4.index t 0 = a.val ∧ win0_4.index t 1 = b.val) ⟨(y 0).val / 1280, by omega⟩ ⟨(y 1).val / 256, by omega⟩
  refine ⟨t, hf, ?_⟩
  show y ∈ ((View.whole main_v0_0).slice (win0_4.rect t)).set
  rw [View.set_slice_whole, Rect.mem_set_unit]
  intro a
  match a with
  | ⟨0, _⟩ =>
    show win0_4.index t 0 * 1280 ≤ (y 0).val ∧ (y 0).val < win0_4.index t 0 * 1280 + 1280
    rw [ht0]; omega
  | ⟨1, _⟩ =>
    show win0_4.index t 1 * 256 ≤ (y 1).val ∧ (y 1).val < win0_4.index t 1 * 256 + 256
    rw [ht1]; omega

theorem cover6 (y : S3840x4352.Idx) :
    ∃ t : Fin cfg0.N, (cfg0.win 6).flush t = true ∧ y ∈ ((cfg0.win 6).blk t).view.set := by
  have hy0 : (y 0).val < 3840 := (y 0).isLt
  have hy1 : (y 1).val < 4352 := (y 1).isLt
  obtain ⟨t, hf, ht0, ht1⟩ : ∃ t : Fin cfg0.N, (cfg0.win 6).flush t = true
      ∧ win0_6.index t 0 = (y 0).val / 1280 ∧ win0_6.index t 1 = (y 1).val / 256 :=
    (by decide +kernel : ∀ (a : Fin 3) (b : Fin 17), ∃ t : Fin grid0.N, win0_6.flush t = true
      ∧ win0_6.index t 0 = a.val ∧ win0_6.index t 1 = b.val) ⟨(y 0).val / 1280, by omega⟩ ⟨(y 1).val / 256, by omega⟩
  refine ⟨t, hf, ?_⟩
  show y ∈ ((View.whole main_v0_2).slice (win0_6.rect t)).set
  rw [View.set_slice_whole, Rect.mem_set_unit]
  intro a
  match a with
  | ⟨0, _⟩ =>
    show win0_6.index t 0 * 1280 ≤ (y 0).val ∧ (y 0).val < win0_6.index t 0 * 1280 + 1280
    rw [ht0]; omega
  | ⟨1, _⟩ =>
    show win0_6.index t 1 * 256 ≤ (y 1).val ∧ (y 1).val < win0_6.index t 1 * 256 + 256
    rw [ht1]; omega

theorem cover5 (y : S3840x34.Idx) :
    ∃ t : Fin cfg0.N, (cfg0.win 5).flush t = true ∧ y ∈ ((cfg0.win 5).blk t).view.set := by
  have hy0 : (y 0).val < 3840 := (y 0).isLt
  have hy1 : (y 1).val < 34 := (y 1).isLt
  obtain ⟨t, hf, ht0, ht1⟩ : ∃ t : Fin cfg0.N, (cfg0.win 5).flush t = true
      ∧ win0_5.index t 0 = (y 0).val / 1280 ∧ win0_5.index t 1 = 0 :=
    (by decide +kernel : ∀ (a : Fin 3), ∃ t : Fin grid0.N, win0_5.flush t = true
      ∧ win0_5.index t 0 = a.val ∧ win0_5.index t 1 = 0) ⟨(y 0).val / 1280, by omega⟩
  refine ⟨t, hf, ?_⟩
  show y ∈ ((View.whole main_v0_1).slice (win0_5.rect t)).set
  rw [View.set_slice_whole, Rect.mem_set_unit]
  intro a
  match a with
  | ⟨0, _⟩ =>
    show win0_5.index t 0 * 1280 ≤ (y 0).val ∧ (y 0).val < win0_5.index t 0 * 1280 + 1280
    rw [ht0]; omega
  | ⟨1, _⟩ =>
    show win0_5.index t 1 * 34 ≤ (y 1).val ∧ (y 1).val < win0_5.index t 1 * 34 + 34
    rw [ht1]; omega

/-- The run ends with the layer's codes, scales and activations, the arguments unchanged. -/
theorem run_value : θ_run defs (onTc (τ := τ) (main (F := Ideal))) ⟨m, fun _ => 0, ρ⟩ fun r => ∀ c : Dev nD,
      r.2.mem ((c : Thread nD τ).loc main_v0_0) = resCodes (m ((c : Thread nD τ).loc main_arg0))
        (m ((c : Thread nD τ).loc main_arg1)) (m ((c : Thread nD τ).loc main_arg2))
      ∧ r.2.mem ((c : Thread nD τ).loc main_v0_1) = resScales (m ((c : Thread nD τ).loc main_arg0))
        (m ((c : Thread nD τ).loc main_arg1)) (m ((c : Thread nD τ).loc main_arg2))
      ∧ r.2.mem ((c : Thread nD τ).loc main_v0_2) = resActs (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 4).trans ((dats m 0 c).arrAt_eq_of_cover 4 _ (fun t _ => flushed4_eq m c t) cover4),
      ((h c).1 5).trans ((dats m 0 c).arrAt_eq_of_cover 5 _ (fun t ht => flushed5_eq m c t ht) cover5),
      ((h c).1 6).trans ((dats m 0 c).arrAt_eq_of_cover 6 _ (fun t _ => flushed6_eq m c t) cover6),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 0).trans (((dats m 0 c).arrAt_in 0 rfl _).trans ((A_eq m c 0).trans (V_main_arg2 m c)))⟩)
    (run_main m ρ)

end Cert.GateUpIdeal.Gen

end
-- ==== Proof.GateUpEq.lean ====
/- The gate_up claim: what the kernel's run leaves is what the reference computes. -/
module

public import proofs.«01_k».proof.Defs
public import proofs.«01_k».proof.Proof.GateUpValue
public import proofs.«01_k».proof.Proof.Gen.GateUpRefIdeal.Value

@[expose] public section

set_option maxRecDepth 16384
noncomputable section

namespace Cert.GateUpEq

open Idealize.ShloMosaic Idealize.ShloMosaic.TcCoe Idealize.ShloMosaic.Tactic Cert.Layer Cert.GateUpRefIdeal Cert.GateUpRefIdeal.Gen

/-- The reference's gated product, cut in groups. -/
theorem pay5 (a0 : Vec Ideal S3840x5120 .bf16) (a1 : Vec Ideal S5120x8704 .fp8e4m3) (a2 : Vec Ideal S40x68 .f32) (r : Fin 3840) (g : Fin 34) (j : Fin 128) :
    k0_pay5 a0 a1 a2 (ix3 r g j) = Cert.GateUpIdeal.Gen.group a0 a1 a2 r g j := by
  unfold Cert.GateUpIdeal.Gen.group Cert.GateUpIdeal.Gen.mid linear wide
  pointwise [k0_pay5]

theorem hz : (![0, 0] : Fin 2 → ℕ) = fun _ => 0 := by
  funext a
  match a with
  | ⟨0, _⟩ => rfl
  | ⟨1, _⟩ => rfl

theorem recip_apply (s : FVec Ideal S3840x34x1 .f32) (r : Fin 3840) (g : Fin 34) :
    divf (broadcast S3840x34x1 (Scalar.ofBits .f32 0x3F800000#32)) s (ix3 r g 0) = Ideal.div 1 (s (ix3 r g 0)) := by
  pointwise

/-! ## The reference -/

/-- The peaks of the groups. -/
def peaks (V : FVec Ideal S3840x34x128 .f32) : FVec Ideal S3840x34x1 .f32 :=
  shapeCast S3840x34x1 (multiReduction .maximumf [2] S3840x34 (absf V) 0xFF800000#32 reduces_S3840x34x128_S3840x34 (.inl rfl) rfl) shapeCasts_S3840x34_S3840x34x1

/-- The powers of two a scale is chosen from. -/
def powers : FVec Ideal S1x1x247 .f32 :=
  exp2 (subf (sitofp .f32 (iota .tc S1x1x247 32 [2] iota_S1x1x247_d2_w32)) (broadcast S1x1x247 (Scalar.ofBits .f32 0x42FC0000#32)))

/-- Each power above a group's peak over 448, or the last one. -/
def choices (A : FVec Ideal S3840x34x1 .f32) (T : FVec Ideal S1x1x247 .f32) : FVec Ideal S3840x34x247 .f32 :=
  select (cmpf .ogt (broadcastTo S3840x34x247 T broadcasts_S1x1x247_S3840x34x247)
      (broadcastTo S3840x34x247 (mulf A (broadcast S3840x34x1 (Scalar.ofBits .f32 0x3B124925#32))) broadcasts_S3840x34x1_S3840x34x247))
    (broadcastTo S3840x34x247 (shapeCast S1x1x247 T shapeCasts_S1x1x247_S1x1x247) broadcasts_S1x1x247_S3840x34x247)
    (broadcast S3840x34x247 (Scalar.ofBits .f32 0x7B800000#32))

/-- The least of them. -/
def minima (C : FVec Ideal S3840x34x247 .f32) : FVec Ideal S3840x34x1 .f32 :=
  shapeCast S3840x34x1 (multiReduction .minimumf [2] S3840x34 C 0x7F800000#32 reduces_S3840x34x247_S3840x34 (.inl rfl) rfl) shapeCasts_S3840x34_S3840x34x1

/-- The scale: 1 where the peak is zero. -/
def chosen (A M : FVec Ideal S3840x34x1 .f32) : FVec Ideal S3840x34x1 .f32 :=
  select (cmpf .oeq A (broadcast S3840x34x1 (Scalar.ofBits .f32 0x00000000#32))) (broadcast S3840x34x1 (Scalar.ofBits .f32 0x3F800000#32)) M

theorem pay6_eq (a0 : Vec Ideal S3840x5120 .bf16) (a1 : Vec Ideal S5120x8704 .fp8e4m3) (a2 : Vec Ideal S40x68 .f32) :
    k0_pay6 a0 a1 a2 = chosen (peaks (k0_pay5 a0 a1 a2)) (minima (choices (peaks (k0_pay5 a0 a1 a2)) powers)) := rfl

theorem peaks_apply (V : FVec Ideal S3840x34x128 .f32) (r : Fin 3840) (g : Fin 34) :
    peaks V (ix3 r g 0) = peakOf fun j => V (ix3 r g j) := by
  unfold peakOf
  pointwise [peaks]

theorem powers_apply (k : Fin 247) : powers (ix3 0 0 k) =
    FloatOps.exp2 (F := Ideal) (FloatOps.sitofp FTy.f32 (BitVec.ofNat 32 k.val) - Ideal.ofBits FTy.f32 1123811328#32) := by
  pointwise [powers]

theorem choices_apply (A : FVec Ideal S3840x34x1 .f32) (T : FVec Ideal S1x1x247 .f32) (r : Fin 3840) (g : Fin 34) (k : Fin 247) :
    choices A T (ix3 r g k) = if A (ix3 r g 0) * Ideal.ofBits .f32 0x3B124925#32 < T (ix3 0 0 k) then T (ix3 0 0 k) else Ideal.ofBits .f32 0x7B800000#32 := by
  pointwise [choices]

theorem minima_apply (C : FVec Ideal S3840x34x247 .f32) (r : Fin 3840) (g : Fin 34) :
    minima C (ix3 r g 0) = (Finset.univ : Finset (Fin 247)).fold min (Ideal.ofBits .f32 0x7F800000#32) fun k => C (ix3 r g k) := by
  pointwise [minima]

theorem chosen_apply (A M : FVec Ideal S3840x34x1 .f32) (r : Fin 3840) (g : Fin 34) :
    chosen A M (ix3 r g 0) = if A (ix3 r g 0) = (0 : EReal) then 1 else M (ix3 r g 0) := by
  pointwise [chosen]

theorem top_eq : Ideal.ofBits .f32 0x7F800000#32 = ⊤ := by
  show Ideal.ieee 8 23 0x7F800000#32 = ⊤
  unfold Ideal.ieee
  rw [if_pos (by decide), if_pos (by decide)]
  rfl

theorem last_eq : Ideal.ofBits .f32 0x7B800000#32 = two 120 := by
  have := ofBits_pow 247 (by omega) (by omega)
  exact this

theorem power_eq (k : Fin 247) :
    FloatOps.exp2 (F := Ideal) (FloatOps.sitofp FTy.f32 (BitVec.ofNat 32 k.val) - Ideal.ofBits FTy.f32 1123811328#32) = two ((k.val : ℤ) - 126) := by
  have h1 : (FloatOps.sitofp FTy.f32 (BitVec.ofNat 32 k.val) : Ideal .f32) = ((k.val : ℝ) : EReal) := by
    have hk : ∀ k : Fin 247, (BitVec.ofNat 32 k.val).toInt = k.val := by decide
    show (((BitVec.ofNat 32 k.val).toInt : ℝ) : EReal) = _
    rw [hk]; push_cast; rfl
  have h2 : Ideal.ofBits FTy.f32 1123811328#32 = ((126 : ℝ) : EReal) := by
    show Ideal.ieee 8 23 1123811328#32 = _
    have e1 : ((1123811328#32).extractLsb' (8 + 23) 1 == 1#1) = false := by decide
    have e2 : ((1123811328#32).extractLsb' 23 8).toNat = 133 := by decide
    have e3 : ((1123811328#32).extractLsb' 0 23).toNat = 8126464 := by decide
    unfold Ideal.ieee
    simp only [e1, e2, e3]
    rw [if_neg (by decide), if_neg (by decide)]
    refine congrArg _ ?_
    norm_num
  rw [h1, h2, ← EReal.coe_sub]
  refine (Ideal.exp2_coe _).trans ?_
  unfold two
  refine congrArg _ ?_
  rw [← Real.rpow_intCast]
  refine congrArg _ ?_
  push_cast
  ring

/-- A code of the reference, from the gated product and the inverse scales. -/
theorem pay1 (V : FVec Ideal S3840x34x128 .f32) (s : FVec Ideal S3840x34x1 .f32) (r : Fin 3840) (c : Fin 4352)  :
    k0_pay2 V s (ix2 r c) = min (Ideal.ofBits .f32 0x43E00000#32) (max (Ideal.ofBits .f32 0xC3E00000#32) ((V (ix3 r ⟨c.val / 128, by omega⟩ ⟨c.val % 128, by omega⟩) : EReal) * s (ix3 r ⟨c.val / 128, by omega⟩ 0))) := by
  pointwise [k0_pay2, k0_pay1]
/-- The reference stores its scales. -/
theorem pay3 (s : FVec Ideal S3840x34x1 .f32) (r : Fin 3840) (c : Fin 34)  :
    k0_pay3 s (ix2 r c) = s (ix3 r c 0) := by
  pointwise [k0_pay3]
/-- An activation of the reference is its code times its scale. -/
theorem pay4 (V : FVec Ideal S3840x34x128 .f32) (s s' : FVec Ideal S3840x34x1 .f32) (r : Fin 3840) (c : Fin 4352)  :
    k0_pay4 V s s' (ix2 r c) = (k0_pay2 V s' (ix2 r c) : EReal) * s (ix3 r ⟨c.val / 128, by omega⟩ 0) := by
  pointwise [k0_pay4, k0_pay2, k0_pay1]

section
variable (a0 : Vec Ideal S3840x5120 .bf16) (a1 : Vec Ideal S5120x8704 .fp8e4m3) (a2 : Vec Ideal S40x68 .f32)

/-- The reference's scale is the layer's. -/
theorem scale_eq (r : Fin 3840) (g : Fin 34) :
    k0_pay6 a0 a1 a2 (ix3 r g 0) = scaleOf (peakOf (Cert.GateUpIdeal.Gen.group a0 a1 a2 r g)) := by
  rw [pay6_eq, chosen_apply, minima_apply, peaks_apply]
  simp only [choices_apply, peaks_apply, powers_apply, power_eq, top_eq, last_eq, pay5]
  rfl

/-- The reference's inverse scale is the scale's reciprocal. -/
theorem inverse_eq (r : Fin 3840) (g : Fin 34) :
    k0_pay7 a0 a1 a2 (ix3 r g 0) = Ideal.div 1 (scaleOf (peakOf (Cert.GateUpIdeal.Gen.group a0 a1 a2 r g))) :=
  (recip_apply (k0_pay6 a0 a1 a2) r g).trans (congrArg (Ideal.div 1) (scale_eq a0 a1 a2 r g))

theorem mid_eq (r : Fin 3840) (c : Fin 4352) :
    k0_pay5 a0 a1 a2 (ix3 r ⟨c.val / 128, by omega⟩ ⟨c.val % 128, by omega⟩) = Cert.GateUpIdeal.Gen.mid a0 a1 a2 r c := by
  rw [pay5]
  unfold Cert.GateUpIdeal.Gen.group
  exact congrArg _ (Fin.ext (by dsimp only; omega))

theorem code_eq (r : Fin 3840) (c : Fin 4352) :
    k0_pay2 (k0_pay5 a0 a1 a2) (k0_pay7 a0 a1 a2) (ix2 r c) = Cert.GateUpIdeal.Gen.resCodes a0 a1 a2 (ix2 r c) := by
  refine (pay1 (k0_pay5 a0 a1 a2) (k0_pay7 a0 a1 a2) r c).trans ?_
  unfold Cert.GateUpIdeal.Gen.resCodes codeOf
  exact congrArg (fun v : EReal => min (Ideal.ofBits .f32 0x43E00000#32) (max (Ideal.ofBits .f32 0xC3E00000#32) v))
    (congrArg₂ (fun a b : EReal => a * b) (mid_eq a0 a1 a2 r c) (inverse_eq a0 a1 a2 r ⟨c.val / 128, by omega⟩))

theorem pay8_eq : k0_pay8 a0 a1 a2 = k0_pay5 a0 a1 a2 := by
  unfold k0_pay8
  rw [View.ld_unit_zero hz, View.ld_unit_zero hz, View.ld_unit_zero hz]

theorem pay9_eq : k0_pay9 a0 a1 a2 = k0_pay6 a0 a1 a2 := by
  unfold k0_pay9
  rw [View.ld_unit_zero hz, View.ld_unit_zero hz, View.ld_unit_zero hz]

theorem pay10_eq : k0_pay10 a0 a1 a2 = k0_pay7 a0 a1 a2 := by
  unfold k0_pay10
  rw [View.ld_unit_zero hz, View.ld_unit_zero hz, View.ld_unit_zero hz]

theorem codes_eq : Cert.GateUpRefIdeal.Value.G3 a0 a1 a2 = Cert.GateUpIdeal.Gen.resCodes a0 a1 a2 := by
  funext y
  obtain ⟨r, k, rfl⟩ : ∃ (r : Fin 3840) (k : Fin 4352), y = ix2 r k := ⟨y 0, y 1, eq_ix2 y⟩
  unfold Cert.GateUpRefIdeal.Value.G3
  rw [pay8_eq, pay10_eq]
  exact code_eq a0 a1 a2 r k

theorem scales_eq : Cert.GateUpRefIdeal.Value.G4 a0 a1 a2 = Cert.GateUpIdeal.Gen.resScales a0 a1 a2 := by
  funext y
  obtain ⟨r, k, rfl⟩ : ∃ (r : Fin 3840) (k : Fin 34), y = ix2 r k := ⟨y 0, y 1, eq_ix2 y⟩
  unfold Cert.GateUpRefIdeal.Value.G4
  rw [pay9_eq]
  exact (pay3 (k0_pay6 a0 a1 a2) r k).trans (scale_eq a0 a1 a2 r k)

theorem acts_eq : Cert.GateUpRefIdeal.Value.G5 a0 a1 a2 = Cert.GateUpIdeal.Gen.resActs a0 a1 a2 := by
  funext y
  obtain ⟨r, k, rfl⟩ : ∃ (r : Fin 3840) (k : Fin 4352), y = ix2 r k := ⟨y 0, y 1, eq_ix2 y⟩
  unfold Cert.GateUpRefIdeal.Value.G5
  rw [pay8_eq, pay9_eq, pay10_eq]
  refine (pay4 (k0_pay5 a0 a1 a2) (k0_pay6 a0 a1 a2) (k0_pay7 a0 a1 a2) r k).trans ?_
  unfold Cert.GateUpIdeal.Gen.resActs actOf
  exact congrArg₂ (fun a b : EReal => a * b) (code_eq a0 a1 a2 r k) (scale_eq a0 a1 a2 r ⟨k.val / 128, by omega⟩)

end

/-- The claim: both runs end, with equal results, the arguments unchanged. -/
theorem algebraic : Cert.algebraic_GateUpIdeal_GateUpRefIdeal := by
  intro m ρ m' ρ' _ hag
  refine ⟨fun c => Cert.GateUpIdeal.Gen.resCodes (m ((c : Thread Cert.GateUpIdeal.nD Cert.GateUpIdeal.τ).loc Cert.GateUpIdeal.main_arg0))
      (m ((c : Thread Cert.GateUpIdeal.nD Cert.GateUpIdeal.τ).loc Cert.GateUpIdeal.main_arg1))
      (m ((c : Thread Cert.GateUpIdeal.nD Cert.GateUpIdeal.τ).loc Cert.GateUpIdeal.main_arg2)),
    fun c => Cert.GateUpIdeal.Gen.resScales (m ((c : Thread Cert.GateUpIdeal.nD Cert.GateUpIdeal.τ).loc Cert.GateUpIdeal.main_arg0))
      (m ((c : Thread Cert.GateUpIdeal.nD Cert.GateUpIdeal.τ).loc Cert.GateUpIdeal.main_arg1))
      (m ((c : Thread Cert.GateUpIdeal.nD Cert.GateUpIdeal.τ).loc Cert.GateUpIdeal.main_arg2)),
    fun c => Cert.GateUpIdeal.Gen.resActs (m ((c : Thread Cert.GateUpIdeal.nD Cert.GateUpIdeal.τ).loc Cert.GateUpIdeal.main_arg0))
      (m ((c : Thread Cert.GateUpIdeal.nD Cert.GateUpIdeal.τ).loc Cert.GateUpIdeal.main_arg1))
      (m ((c : Thread Cert.GateUpIdeal.nD Cert.GateUpIdeal.τ).loc Cert.GateUpIdeal.main_arg2)), ?_, ?_⟩
  · exact Cert.GateUpIdeal.Gen.run_value m ρ
  · exact (θ_run _ _ _).mono (fun _ h c => by
      obtain ⟨h0, h1, h2⟩ := hag c
      obtain ⟨e0, e1, e2, e3⟩ := h c
      rw [h0, h1, h2] at e0 e1 e2
      exact ⟨e0.trans (codes_eq _ _ _), e1.trans (scales_eq _ _ _), e2.trans (acts_eq _ _ _), e3⟩)
      (Cert.GateUpRefIdeal.Value.run m' ρ')

end Cert.GateUpEq
end
-- ==== Proof.QkvRun.lean ====
/- The qkv kernel: the whole body run once in each of its two cases, a head step
   (which stores the query and gate windows) and the last step of a row block (which stores the key and value windows). -/
module

public import proofs.«01_k».proof.Proof.Gen.Qkv.Frame
public import proofs.«01_k».proof.Proof.Gen.Qkv.Skeleton
public import proofs.«01_k».proof.Proof.Gen.Qkv.Points
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases of the body: a head step, and the last step -/

/-- The condition of the body's first branch: the step computes one head's queries and gates. -/
abbrev head0 (i : grid0.Coords) : Prop := k0_cond1 i = 1#1

/-- The condition of the body's second branch: the step computes the keys and values. -/
abbrev last0 (i : grid0.Coords) : Prop := k0_cond2 i = 1#1

/-- The head steps are the first six of each row block. -/
theorem hhead0 : ∀ t : Fin cfg0.N, head0 (grid0.coords t) ↔ t.val % 7 ≤ 5 :=
  (by decide +kernel : ∀ t : Fin grid0.N, head0 (grid0.coords t) ↔ t.val % 7 ≤ 5)

/-- The last step is the seventh of each row block. -/
theorem hlast0 : ∀ t : Fin cfg0.N, last0 (grid0.coords t) ↔ t.val % 7 = 6 :=
  (by decide +kernel : ∀ t : Fin grid0.N, last0 (grid0.coords t) ↔ t.val % 7 = 6)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
/-- The query and gate windows are stored at the head steps; at the last step they are idle and hold the last head. -/
theorem liveAt0_13_A : ∀ t : Fin cfg0.N, head0 (grid0.coords t) → cfg0.idle 13 (grid0.coords t) = false := by decide +kernel
theorem liveAt0_14_A : ∀ t : Fin cfg0.N, head0 (grid0.coords t) → cfg0.idle 14 (grid0.coords t) = false := by decide +kernel
theorem idleAt0_13_B : ∀ t : Fin cfg0.N, last0 (grid0.coords t) → cfg0.idle 13 (grid0.coords t) = true := by decide +kernel
theorem idleAt0_14_B : ∀ t : Fin cfg0.N, last0 (grid0.coords t) → cfg0.idle 14 (grid0.coords t) = true := by decide +kernel
theorem flushes0_13_B : ∀ t : Fin cfg0.N, last0 (grid0.coords t) → (cfg0.win 13).flush t = true := by decide +kernel
theorem flushes0_14_B : ∀ t : Fin cfg0.N, last0 (grid0.coords t) → (cfg0.win 14).flush t = true := by decide +kernel
/-- The key and value windows are stored at the last step; before it, they are idle and not written back. -/
theorem idleAt0_15_A : ∀ t : Fin cfg0.N, head0 (grid0.coords t) → cfg0.idle 15 (grid0.coords t) = true := by decide +kernel
theorem noFlush0_15_A : ∀ t : Fin cfg0.N, head0 (grid0.coords t) → (cfg0.win 15).flush t = false := by decide +kernel
theorem liveAt0_15_B : ∀ t : Fin cfg0.N, last0 (grid0.coords t) → cfg0.idle 15 (grid0.coords t) = false := by decide +kernel
theorem idleAt0_16_A : ∀ t : Fin cfg0.N, head0 (grid0.coords t) → cfg0.idle 16 (grid0.coords t) = true := by decide +kernel
theorem noFlush0_16_A : ∀ t : Fin cfg0.N, head0 (grid0.coords t) → (cfg0.win 16).flush t = false := by decide +kernel
theorem liveAt0_16_B : ∀ t : Fin cfg0.N, last0 (grid0.coords t) → cfg0.idle 16 (grid0.coords t) = false := by decide +kernel

/-! ## The staging and scratch buffers -/

/-- One staging buffer of output window 13, through which its contents are stated (`View.read_writes_of_cover`: the
    choice does not matter). -/
abbrev VO0_13 : View sig .tc .vmem S768x256 .bf16 := (Memref.whole cc0_stg13_0 : Memref sig .tc .vmem S768x256 .bf16).view
/-- One staging buffer of output window 14, through which its contents are stated (`View.read_writes_of_cover`: the
    choice does not matter). -/
abbrev VO0_14 : View sig .tc .vmem S768x256 .f32 := (Memref.whole cc0_stg14_0 : Memref sig .tc .vmem S768x256 .f32).view
/-- One staging buffer of output window 15, through which its contents are stated (`View.read_writes_of_cover`: the
    choice does not matter). -/
abbrev VO0_15 : View sig .tc .vmem S768x256 .fp8e4m3 := (Memref.whole cc0_stg15_0 : Memref sig .tc .vmem S768x256 .fp8e4m3).view
/-- One staging buffer of output window 16, through which its contents are stated (`View.read_writes_of_cover`: the
    choice does not matter). -/
abbrev VO0_16 : View sig .tc .vmem S768x256 .fp8e4m3 := (Memref.whole cc0_stg16_0 : Memref sig .tc .vmem S768x256 .fp8e4m3).view
/-- Each window's current staging memref at point `t`, spelled as the pipeline passes it (`bodyAt0`), and its wholeness. -/
abbrev ms0_0 (t : Fin cfg0.N) : Memref sig .tc .smem S40x24 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S40x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S40x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x5120 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5120x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S5120x256 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S5120x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S768x32 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S768x32 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S768x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S768x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S768x256 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S768x256 .fp8e4m3 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S5120x512 .bf16 := Memref.whole cc0_scratch0

/-- The invariant the launch hands over: the scratch buffer at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The runs -/

set_option maxHeartbeats 4980000 in
/-- The body at a head step: from the inputs and the key and value windows at given contents and the other buffers
    at anything, it ends with the pieces `L13` and `L14` written in the query and gate windows, `LT0` in the weight
    scratch, the key and value windows untouched. -/
noncomputable def kernelRun0_A (c : Dev nD) (i : grid0.Coords) (arg2 : Memref sig .tc .smem S40x24 .f32) (harg2 : arg2.IsWhole) (arg3 : Memref sig .tc .smem S40x2 .f32) (harg3 : arg3.IsWhole) (arg4 : Memref sig .tc .smem S40x2 .f32) (harg4 : arg4.IsWhole) (arg5 : Memref sig .tc .smem S1 .f32) (harg5 : arg5.IsWhole) (arg6 : Memref sig .tc .smem S1 .f32) (harg6 : arg6.IsWhole) (arg7 : Memref sig .tc .vmem S768x5120 .bf16) (harg7 : arg7.IsWhole) (arg8 : Memref sig .tc .vmem S5120x512 .fp8e4m3) (harg8 : arg8.IsWhole) (arg9 : Memref sig .tc .vmem S5120x256 .fp8e4m3) (harg9 : arg9.IsWhole) (arg10 : Memref sig .tc .vmem S5120x256 .fp8e4m3) (harg10 : arg10.IsWhole) (arg11 : Memref sig .tc .vmem S1x256 .f32) (harg11 : arg11.IsWhole) (arg12 : Memref sig .tc .vmem S1x256 .f32) (harg12 : arg12.IsWhole) (arg13 : Memref sig .tc .vmem S768x32 .f32) (harg13 : arg13.IsWhole) (arg14 : Memref sig .tc .vmem S768x32 .f32) (harg14 : arg14.IsWhole) (arg15 : Memref sig .tc .vmem S768x256 .bf16) (harg15 : arg15.IsWhole) (arg16 : Memref sig .tc .vmem S768x256 .f32) (harg16 : arg16.IsWhole) (arg17 : Memref sig .tc .vmem S768x256 .fp8e4m3) (harg17 : arg17.IsWhole) (arg18 : Memref sig .tc .vmem S768x256 .fp8e4m3) (harg18 : arg18.IsWhole) (arg19 : Memref sig .tc .vmem S5120x512 .bf16) (harg19 : arg19.IsWhole) (hc0 : head0 i) (hc1 : ¬last0 i)
    (x0 : Vec F S40x24 .f32) (x1 : Vec F S40x2 .f32) (x2 : Vec F S40x2 .f32) (x3 : Vec F S1 .f32) (x4 : Vec F S1 .f32) (x5 : Vec F S768x5120 .bf16) (x6 : Vec F S5120x512 .fp8e4m3) (x7 : Vec F S5120x256 .fp8e4m3) (x8 : Vec F S5120x256 .fp8e4m3) (x9 : Vec F S1x256 .f32) (x10 : Vec F S1x256 .f32) (x11 : Vec F S768x32 .f32) (x12 : Vec F S768x32 .f32) :
    Σ' (L13 : List (View.Piece (Elt F) S768x256 .bf16)), Σ' (L14 : List (View.Piece (Elt F) S768x256 .f32)), Σ' (L15 : List (View.Piece (Elt F) S768x256 .fp8e4m3)), Σ' (L16 : List (View.Piece (Elt F) S768x256 .fp8e4m3)), { LT0 : List (View.Piece (Elt F) S5120x512 .bf16) //
      ∀ (xi15 : Vec F S768x256 .fp8e4m3) (xi16 : Vec F S768x256 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ owns (c : Thread nD τ) arg17 fullShare xi15 ∗ owns (c : Thread nD τ) arg18 fullShare xi16 ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ owns (c : Thread nD τ) arg17 fullShare xi15 ∗ owns (c : Thread nD τ) arg18 fullShare xi16 ∗ (∃ f, arg19.view.loc (c : Thread nD τ) ↦[arg19.view.set]{fullShare} arg19.view.writes (Elt F) f LT0)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, [], [], ?_, fun xi15 xi16 E K => ?run⟩
  case run =>
    simp only [cc0_qkv_eq_skeleton]; unfold cc0_qkv_skel
    simp only [k0_part50_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg17.eq_unread hf15; obtain rfl := harg18.eq_unread hf16
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]
    · iexists _; isplitr; · ipureintro; exact harg17.read_unread _
      iexact H15
    isplitl [H16]
    · iexists _; isplitr; · ipureintro; exact harg18.read_unread _
      iexact H16
    iexists _; iexact HS0

set_option maxHeartbeats 3680000 in
/-- The body at the last step: it ends with the pieces `L15` and `L16` written in the key and value windows, the
    query and gate windows untouched. -/
noncomputable def kernelRun0_B (c : Dev nD) (i : grid0.Coords) (arg2 : Memref sig .tc .smem S40x24 .f32) (harg2 : arg2.IsWhole) (arg3 : Memref sig .tc .smem S40x2 .f32) (harg3 : arg3.IsWhole) (arg4 : Memref sig .tc .smem S40x2 .f32) (harg4 : arg4.IsWhole) (arg5 : Memref sig .tc .smem S1 .f32) (harg5 : arg5.IsWhole) (arg6 : Memref sig .tc .smem S1 .f32) (harg6 : arg6.IsWhole) (arg7 : Memref sig .tc .vmem S768x5120 .bf16) (harg7 : arg7.IsWhole) (arg8 : Memref sig .tc .vmem S5120x512 .fp8e4m3) (harg8 : arg8.IsWhole) (arg9 : Memref sig .tc .vmem S5120x256 .fp8e4m3) (harg9 : arg9.IsWhole) (arg10 : Memref sig .tc .vmem S5120x256 .fp8e4m3) (harg10 : arg10.IsWhole) (arg11 : Memref sig .tc .vmem S1x256 .f32) (harg11 : arg11.IsWhole) (arg12 : Memref sig .tc .vmem S1x256 .f32) (harg12 : arg12.IsWhole) (arg13 : Memref sig .tc .vmem S768x32 .f32) (harg13 : arg13.IsWhole) (arg14 : Memref sig .tc .vmem S768x32 .f32) (harg14 : arg14.IsWhole) (arg15 : Memref sig .tc .vmem S768x256 .bf16) (harg15 : arg15.IsWhole) (arg16 : Memref sig .tc .vmem S768x256 .f32) (harg16 : arg16.IsWhole) (arg17 : Memref sig .tc .vmem S768x256 .fp8e4m3) (harg17 : arg17.IsWhole) (arg18 : Memref sig .tc .vmem S768x256 .fp8e4m3) (harg18 : arg18.IsWhole) (arg19 : Memref sig .tc .vmem S5120x512 .bf16) (harg19 : arg19.IsWhole) (hc0 : ¬head0 i) (hc1 : last0 i)
    (x0 : Vec F S40x24 .f32) (x1 : Vec F S40x2 .f32) (x2 : Vec F S40x2 .f32) (x3 : Vec F S1 .f32) (x4 : Vec F S1 .f32) (x5 : Vec F S768x5120 .bf16) (x6 : Vec F S5120x512 .fp8e4m3) (x7 : Vec F S5120x256 .fp8e4m3) (x8 : Vec F S5120x256 .fp8e4m3) (x9 : Vec F S1x256 .f32) (x10 : Vec F S1x256 .f32) (x11 : Vec F S768x32 .f32) (x12 : Vec F S768x32 .f32) :
    Σ' (L13 : List (View.Piece (Elt F) S768x256 .bf16)), Σ' (L14 : List (View.Piece (Elt F) S768x256 .f32)), Σ' (L15 : List (View.Piece (Elt F) S768x256 .fp8e4m3)), Σ' (L16 : List (View.Piece (Elt F) S768x256 .fp8e4m3)), { LT0 : List (View.Piece (Elt F) S5120x512 .bf16) //
      ∀ (xi13 : Vec F S768x256 .bf16) (xi14 : Vec F S768x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xi13 ∗ owns (c : Thread nD τ) arg16 fullShare xi14 ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xi13 ∗ owns (c : Thread nD τ) arg16 fullShare xi14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LT0)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], [], ?_, ?_, ?_, fun xi13 xi14 E K => ?run⟩
  case run =>
    simp only [cc0_qkv_eq_skeleton]; unfold cc0_qkv_skel
    simp only [k0_part95_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    iexists _; iexact HS0

end Cert.Qkv.Gen

end
-- ==== Proof.QkvStep.lean ====
/- What one step of the qkv kernel leaves in its windows, as functions of the block of activations, the widened weight
   block and the small tables: a head step one head's queries and gates, the last step of a row block the codes of its
   keys and values. -/
module

public import proofs.«01_k».proof.Proof.QkvRun
public import Idealize.ShloMosaic.Lib.Pointwise

@[expose] public section

set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One step's results -/

/-- A head step's queries. -/
def query (X : Vec F S768x5120 .bf16) (W : Vec F S5120x512 .bf16) (w : Vec F S1x256 .f32) (cs sn : Vec F S768x32 .f32) :
    Vec F S768x256 .bf16 :=
  k0_pay202 (k0_pay195 X W w) (k0_pay196 X W w) (iota .tc S768x128 32 [1] iota_S768x128_d1_w32) (k0_pay198 cs) (k0_pay199 sn)
    (k0_pay200 X W w) k0_pay201

/-- A head step's gates. -/
def gate (X : Vec F S768x5120 .bf16) (W : Vec F S5120x512 .bf16) : Vec F S768x256 .f32 := k0_pay1 (k0_pay194 X W)

/-- The last step's codes of the keys. -/
def keys (X : Vec F S768x5120 .bf16) (W : Vec F S5120x512 .bf16) (w : Vec F S1x256 .f32) (cs sn : Vec F S768x32 .f32)
    (s : Vec F S1 .f32) : Vec F S768x256 .fp8e4m3 :=
  k0_pay398 (k0_pay396 X W) w (k0_pay397 X W) (Scalar.ofBits .f32 0x358637BD#32) cs sn (s (ix1 0))

/-- The last step's codes of the values. -/
def vals (X : Vec F S768x5120 .bf16) (W : Vec F S5120x512 .bf16) (s : Vec F S1 .f32) : Vec F S768x256 .fp8e4m3 :=
  k0_pay399 (k0_pay395 X W) (s (ix1 0))

theorem hz0 : (![0, 0] : Fin 2 → ℕ) = fun _ => 0 := funext fun a => by fin_cases a <;> rfl

theorem hz1 : (![0] : Fin 1 → ℕ) = fun _ => 0 := funext fun a => by fin_cases a; rfl

/-! ## A head step -/

/-- The widened weight block of a head step. -/
def weightsA (c : Dev nD) (i : grid0.Coords) (arg2 : Memref sig .tc .smem S40x24 .f32) (harg2 : arg2.IsWhole)
    (arg8 : Memref sig .tc .vmem S5120x512 .fp8e4m3) (harg8 : arg8.IsWhole)
    (hc0 : head0 i) (x0 : Vec F S40x24 .f32) (x6 : Vec F S5120x512 .fp8e4m3) : Vec F S5120x512 .bf16 :=
  View.canon (kernelRun0_A.sl.HS0_160 c i arg2 harg2 arg8 harg8 hc0 x0 x6)

/-- The stores into the weight scratch cover it. -/
theorem covers_A (c : Dev nD) (i : grid0.Coords) (arg2 : Memref sig .tc .smem S40x24 .f32) (harg2 : arg2.IsWhole)
    (arg8 : Memref sig .tc .vmem S5120x512 .fp8e4m3) (harg8 : arg8.IsWhole)
    (hc0 : head0 i) (x0 : Vec F S40x24 .f32) (x6 : Vec F S5120x512 .fp8e4m3) (y : S5120x512.Idx) :
    ∃ p ∈ kernelRun0_A.sl.HS0_160 c i arg2 harg2 arg8 harg8 hc0 x0 x6, y ∈ p.1.set :=
  View.cover_of_tiledL _ ![128, 128] (by sl_kernel_rfl) y

/-- The weight scratch read back is the widened block. -/
theorem read_weights_A (c : Dev nD) (i : grid0.Coords) (arg2 : Memref sig .tc .smem S40x24 .f32) (harg2 : arg2.IsWhole)
    (arg8 : Memref sig .tc .vmem S5120x512 .fp8e4m3) (harg8 : arg8.IsWhole)
    (arg19 : Memref sig .tc .vmem S5120x512 .bf16) (hc0 : head0 i) (x0 : Vec F S40x24 .f32) (x6 : Vec F S5120x512 .fp8e4m3) :
    kernelRun0_A.sl.v1768 c i arg2 harg2 arg8 harg8 arg19 hc0 x0 x6 = weightsA c i arg2 harg2 arg8 harg8 hc0 x0 x6 := by
  unfold kernelRun0_A.sl.v1768 weightsA
  rw [View.readCov_eq_canon_ld _ _ _ (covers_A c i arg2 harg2 arg8 harg8 hc0 x0 x6), View.ld_unit_zero hz0]

/-- What a head step leaves in its two windows. -/
theorem run_A (c : Dev nD) (i : grid0.Coords) (arg2 : Memref sig .tc .smem S40x24 .f32) (harg2 : arg2.IsWhole)
    (arg3 : Memref sig .tc .smem S40x2 .f32) (harg3 : arg3.IsWhole)
    (arg4 : Memref sig .tc .smem S40x2 .f32) (harg4 : arg4.IsWhole)
    (arg5 : Memref sig .tc .smem S1 .f32) (harg5 : arg5.IsWhole)
    (arg6 : Memref sig .tc .smem S1 .f32) (harg6 : arg6.IsWhole)
    (arg7 : Memref sig .tc .vmem S768x5120 .bf16) (harg7 : arg7.IsWhole)
    (arg8 : Memref sig .tc .vmem S5120x512 .fp8e4m3) (harg8 : arg8.IsWhole)
    (arg9 : Memref sig .tc .vmem S5120x256 .fp8e4m3) (harg9 : arg9.IsWhole)
    (arg10 : Memref sig .tc .vmem S5120x256 .fp8e4m3) (harg10 : arg10.IsWhole)
    (arg11 : Memref sig .tc .vmem S1x256 .f32) (harg11 : arg11.IsWhole)
    (arg12 : Memref sig .tc .vmem S1x256 .f32) (harg12 : arg12.IsWhole)
    (arg13 : Memref sig .tc .vmem S768x32 .f32) (harg13 : arg13.IsWhole)
    (arg14 : Memref sig .tc .vmem S768x32 .f32) (harg14 : arg14.IsWhole)
    (arg15 : Memref sig .tc .vmem S768x256 .bf16) (harg15 : arg15.IsWhole)
    (arg16 : Memref sig .tc .vmem S768x256 .f32) (harg16 : arg16.IsWhole)
    (arg17 : Memref sig .tc .vmem S768x256 .fp8e4m3) (harg17 : arg17.IsWhole)
    (arg18 : Memref sig .tc .vmem S768x256 .fp8e4m3) (harg18 : arg18.IsWhole)
    (arg19 : Memref sig .tc .vmem S5120x512 .bf16) (harg19 : arg19.IsWhole)
    (hc0 : head0 i) (hc1 : ¬last0 i)
    (x0 : Vec F S40x24 .f32) (x1 : Vec F S40x2 .f32) (x2 : Vec F S40x2 .f32) (x3 : Vec F S1 .f32) (x4 : Vec F S1 .f32) (x5 : Vec F S768x5120 .bf16) (x6 : Vec F S5120x512 .fp8e4m3) (x7 : Vec F S5120x256 .fp8e4m3) (x8 : Vec F S5120x256 .fp8e4m3) (x9 : Vec F S1x256 .f32) (x10 : Vec F S1x256 .f32) (x11 : Vec F S768x32 .f32) (x12 : Vec F S768x32 .f32) :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).1
        = query x5 (weightsA c i arg2 harg2 arg8 harg8 hc0 x0 x6) x9 x11 x12
    ∧ View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.1
        = gate x5 (weightsA c i arg2 harg2 arg8 harg8 hc0 x0 x6) := by
  unfold kernelRun0_A
  dsimp only
  simp only [kernelRun0_A.sl.r_208, kernelRun0_A.sl.r_209, kernelRun0_A.sl.r_210, kernelRun0_A.sl.r_211, kernelRun0_A.sl.r_212, kernelRun0_A.sl.r_213, kernelRun0_A.sl.r_214, kernelRun0_A.sl.v1791]
  simp only [read_weights_A, View.readAt_eq_ld, Memref.IsWhole.read_unread]
  rw [View.ld_unit_zero hz0, View.ld_unit_zero hz0, View.ld_unit_zero hz0, View.ld_unit_zero hz0]
  exact ⟨View.canon_unit_zero hz0 _ _, View.canon_unit_zero hz0 _ _⟩

/-! ## The last step -/

/-- The widened weight block of the last step: the keys' columns beside the values'. -/
def weightsB (c : Dev nD) (arg3 : Memref sig .tc .smem S40x2 .f32) (harg3 : arg3.IsWhole)
    (arg4 : Memref sig .tc .smem S40x2 .f32) (harg4 : arg4.IsWhole)
    (arg9 : Memref sig .tc .vmem S5120x256 .fp8e4m3) (harg9 : arg9.IsWhole)
    (arg10 : Memref sig .tc .vmem S5120x256 .fp8e4m3) (harg10 : arg10.IsWhole)
    (x1 : Vec F S40x2 .f32) (x2 : Vec F S40x2 .f32) (x7 : Vec F S5120x256 .fp8e4m3) (x8 : Vec F S5120x256 .fp8e4m3) : Vec F S5120x512 .bf16 :=
  View.canon (kernelRun0_B.sl.HS0_160 c arg3 harg3 arg4 harg4 arg9 harg9 arg10 harg10 x1 x2 x7 x8)

/-- The stores into the weight scratch cover it. -/
theorem covers_B (c : Dev nD) (arg3 : Memref sig .tc .smem S40x2 .f32) (harg3 : arg3.IsWhole)
    (arg4 : Memref sig .tc .smem S40x2 .f32) (harg4 : arg4.IsWhole)
    (arg9 : Memref sig .tc .vmem S5120x256 .fp8e4m3) (harg9 : arg9.IsWhole)
    (arg10 : Memref sig .tc .vmem S5120x256 .fp8e4m3) (harg10 : arg10.IsWhole)
    (x1 : Vec F S40x2 .f32) (x2 : Vec F S40x2 .f32) (x7 : Vec F S5120x256 .fp8e4m3) (x8 : Vec F S5120x256 .fp8e4m3) (y : S5120x512.Idx) :
    ∃ p ∈ kernelRun0_B.sl.HS0_160 c arg3 harg3 arg4 harg4 arg9 harg9 arg10 harg10 x1 x2 x7 x8, y ∈ p.1.set :=
  View.cover_of_tiledL _ ![128, 128] (by sl_kernel_rfl) y

/-- The weight scratch read back is the widened block. -/
theorem read_weights_B (c : Dev nD) (arg3 : Memref sig .tc .smem S40x2 .f32) (harg3 : arg3.IsWhole)
    (arg4 : Memref sig .tc .smem S40x2 .f32) (harg4 : arg4.IsWhole)
    (arg9 : Memref sig .tc .vmem S5120x256 .fp8e4m3) (harg9 : arg9.IsWhole)
    (arg10 : Memref sig .tc .vmem S5120x256 .fp8e4m3) (harg10 : arg10.IsWhole)
    (arg19 : Memref sig .tc .vmem S5120x512 .bf16) (x1 : Vec F S40x2 .f32) (x2 : Vec F S40x2 .f32) (x7 : Vec F S5120x256 .fp8e4m3) (x8 : Vec F S5120x256 .fp8e4m3) :
    kernelRun0_B.sl.v1447 c arg3 harg3 arg4 harg4 arg9 harg9 arg10 harg10 arg19 x1 x2 x7 x8 = weightsB c arg3 harg3 arg4 harg4 arg9 harg9 arg10 harg10 x1 x2 x7 x8 := by
  unfold kernelRun0_B.sl.v1447 weightsB
  rw [View.readCov_eq_canon_ld _ _ _ (covers_B c arg3 harg3 arg4 harg4 arg9 harg9 arg10 harg10 x1 x2 x7 x8), View.ld_unit_zero hz0]

/-- What the last step leaves in its two windows. -/
theorem run_B (c : Dev nD) (i : grid0.Coords) (arg2 : Memref sig .tc .smem S40x24 .f32) (harg2 : arg2.IsWhole)
    (arg3 : Memref sig .tc .smem S40x2 .f32) (harg3 : arg3.IsWhole)
    (arg4 : Memref sig .tc .smem S40x2 .f32) (harg4 : arg4.IsWhole)
    (arg5 : Memref sig .tc .smem S1 .f32) (harg5 : arg5.IsWhole)
    (arg6 : Memref sig .tc .smem S1 .f32) (harg6 : arg6.IsWhole)
    (arg7 : Memref sig .tc .vmem S768x5120 .bf16) (harg7 : arg7.IsWhole)
    (arg8 : Memref sig .tc .vmem S5120x512 .fp8e4m3) (harg8 : arg8.IsWhole)
    (arg9 : Memref sig .tc .vmem S5120x256 .fp8e4m3) (harg9 : arg9.IsWhole)
    (arg10 : Memref sig .tc .vmem S5120x256 .fp8e4m3) (harg10 : arg10.IsWhole)
    (arg11 : Memref sig .tc .vmem S1x256 .f32) (harg11 : arg11.IsWhole)
    (arg12 : Memref sig .tc .vmem S1x256 .f32) (harg12 : arg12.IsWhole)
    (arg13 : Memref sig .tc .vmem S768x32 .f32) (harg13 : arg13.IsWhole)
    (arg14 : Memref sig .tc .vmem S768x32 .f32) (harg14 : arg14.IsWhole)
    (arg15 : Memref sig .tc .vmem S768x256 .bf16) (harg15 : arg15.IsWhole)
    (arg16 : Memref sig .tc .vmem S768x256 .f32) (harg16 : arg16.IsWhole)
    (arg17 : Memref sig .tc .vmem S768x256 .fp8e4m3) (harg17 : arg17.IsWhole)
    (arg18 : Memref sig .tc .vmem S768x256 .fp8e4m3) (harg18 : arg18.IsWhole)
    (arg19 : Memref sig .tc .vmem S5120x512 .bf16) (harg19 : arg19.IsWhole)
    (hc0 : ¬head0 i) (hc1 : last0 i)
    (x0 : Vec F S40x24 .f32) (x1 : Vec F S40x2 .f32) (x2 : Vec F S40x2 .f32) (x3 : Vec F S1 .f32) (x4 : Vec F S1 .f32) (x5 : Vec F S768x5120 .bf16) (x6 : Vec F S5120x512 .fp8e4m3) (x7 : Vec F S5120x256 .fp8e4m3) (x8 : Vec F S5120x256 .fp8e4m3) (x9 : Vec F S1x256 .f32) (x10 : Vec F S1x256 .f32) (x11 : Vec F S768x32 .f32) (x12 : Vec F S768x32 .f32) :
    View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.1
        = keys x5 (weightsB c arg3 harg3 arg4 harg4 arg9 harg9 arg10 harg10 x1 x2 x7 x8) x10 x11 x12 x3
    ∧ View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.2.1
        = vals x5 (weightsB c arg3 harg3 arg4 harg4 arg9 harg9 arg10 harg10 x1 x2 x7 x8) x4 := by
  unfold kernelRun0_B
  dsimp only
  simp only [kernelRun0_B.sl.r_203, kernelRun0_B.sl.r_204, kernelRun0_B.sl.r_205, kernelRun0_B.sl.r_206, kernelRun0_B.sl.r_207, kernelRun0_B.sl.r_208]
  simp only [read_weights_B, View.readAt_eq_ld, Memref.IsWhole.read_unread]
  rw [View.ld_unit_zero hz0, View.ld_unit_zero hz0, View.ld_unit_zero hz0, View.ld_unit_zero hz0, View.ld_unit_zero hz1, View.ld_unit_zero hz1]
  exact ⟨(View.canon_unit_zero hz0 _ _).trans (congrArg _ (congrArg x3 (funext fun a => by fin_cases a; rfl))),
    (View.canon_unit_zero hz0 _ _).trans (congrArg _ (congrArg x4 (funext fun a => by fin_cases a; rfl)))⟩

/-! ## The stores cover the windows -/

theorem cover13_A (c : Dev nD) (i : grid0.Coords) (arg2 : Memref sig .tc .smem S40x24 .f32) (harg2 : arg2.IsWhole)
    (arg3 : Memref sig .tc .smem S40x2 .f32) (harg3 : arg3.IsWhole)
    (arg4 : Memref sig .tc .smem S40x2 .f32) (harg4 : arg4.IsWhole)
    (arg5 : Memref sig .tc .smem S1 .f32) (harg5 : arg5.IsWhole)
    (arg6 : Memref sig .tc .smem S1 .f32) (harg6 : arg6.IsWhole)
    (arg7 : Memref sig .tc .vmem S768x5120 .bf16) (harg7 : arg7.IsWhole)
    (arg8 : Memref sig .tc .vmem S5120x512 .fp8e4m3) (harg8 : arg8.IsWhole)
    (arg9 : Memref sig .tc .vmem S5120x256 .fp8e4m3) (harg9 : arg9.IsWhole)
    (arg10 : Memref sig .tc .vmem S5120x256 .fp8e4m3) (harg10 : arg10.IsWhole)
    (arg11 : Memref sig .tc .vmem S1x256 .f32) (harg11 : arg11.IsWhole)
    (arg12 : Memref sig .tc .vmem S1x256 .f32) (harg12 : arg12.IsWhole)
    (arg13 : Memref sig .tc .vmem S768x32 .f32) (harg13 : arg13.IsWhole)
    (arg14 : Memref sig .tc .vmem S768x32 .f32) (harg14 : arg14.IsWhole)
    (arg15 : Memref sig .tc .vmem S768x256 .bf16) (harg15 : arg15.IsWhole)
    (arg16 : Memref sig .tc .vmem S768x256 .f32) (harg16 : arg16.IsWhole)
    (arg17 : Memref sig .tc .vmem S768x256 .fp8e4m3) (harg17 : arg17.IsWhole)
    (arg18 : Memref sig .tc .vmem S768x256 .fp8e4m3) (harg18 : arg18.IsWhole)
    (arg19 : Memref sig .tc .vmem S5120x512 .bf16) (harg19 : arg19.IsWhole)
    (hc0 : head0 i) (hc1 : ¬last0 i)
    (x0 : Vec F S40x24 .f32) (x1 : Vec F S40x2 .f32) (x2 : Vec F S40x2 .f32) (x3 : Vec F S1 .f32) (x4 : Vec F S1 .f32) (x5 : Vec F S768x5120 .bf16) (x6 : Vec F S5120x512 .fp8e4m3) (x7 : Vec F S5120x256 .fp8e4m3) (x8 : Vec F S5120x256 .fp8e4m3) (x9 : Vec F S1x256 .f32) (x10 : Vec F S1x256 .f32) (x11 : Vec F S768x32 .f32) (x12 : Vec F S768x32 .f32) (y : S768x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).1 S768x256.size (by sl_kernel_rfl) y

theorem cover14_A (c : Dev nD) (i : grid0.Coords) (arg2 : Memref sig .tc .smem S40x24 .f32) (harg2 : arg2.IsWhole)
    (arg3 : Memref sig .tc .smem S40x2 .f32) (harg3 : arg3.IsWhole)
    (arg4 : Memref sig .tc .smem S40x2 .f32) (harg4 : arg4.IsWhole)
    (arg5 : Memref sig .tc .smem S1 .f32) (harg5 : arg5.IsWhole)
    (arg6 : Memref sig .tc .smem S1 .f32) (harg6 : arg6.IsWhole)
    (arg7 : Memref sig .tc .vmem S768x5120 .bf16) (harg7 : arg7.IsWhole)
    (arg8 : Memref sig .tc .vmem S5120x512 .fp8e4m3) (harg8 : arg8.IsWhole)
    (arg9 : Memref sig .tc .vmem S5120x256 .fp8e4m3) (harg9 : arg9.IsWhole)
    (arg10 : Memref sig .tc .vmem S5120x256 .fp8e4m3) (harg10 : arg10.IsWhole)
    (arg11 : Memref sig .tc .vmem S1x256 .f32) (harg11 : arg11.IsWhole)
    (arg12 : Memref sig .tc .vmem S1x256 .f32) (harg12 : arg12.IsWhole)
    (arg13 : Memref sig .tc .vmem S768x32 .f32) (harg13 : arg13.IsWhole)
    (arg14 : Memref sig .tc .vmem S768x32 .f32) (harg14 : arg14.IsWhole)
    (arg15 : Memref sig .tc .vmem S768x256 .bf16) (harg15 : arg15.IsWhole)
    (arg16 : Memref sig .tc .vmem S768x256 .f32) (harg16 : arg16.IsWhole)
    (arg17 : Memref sig .tc .vmem S768x256 .fp8e4m3) (harg17 : arg17.IsWhole)
    (arg18 : Memref sig .tc .vmem S768x256 .fp8e4m3) (harg18 : arg18.IsWhole)
    (arg19 : Memref sig .tc .vmem S5120x512 .bf16) (harg19 : arg19.IsWhole)
    (hc0 : head0 i) (hc1 : ¬last0 i)
    (x0 : Vec F S40x24 .f32) (x1 : Vec F S40x2 .f32) (x2 : Vec F S40x2 .f32) (x3 : Vec F S1 .f32) (x4 : Vec F S1 .f32) (x5 : Vec F S768x5120 .bf16) (x6 : Vec F S5120x512 .fp8e4m3) (x7 : Vec F S5120x256 .fp8e4m3) (x8 : Vec F S5120x256 .fp8e4m3) (x9 : Vec F S1x256 .f32) (x10 : Vec F S1x256 .f32) (x11 : Vec F S768x32 .f32) (x12 : Vec F S768x32 .f32) (y : S768x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.1 S768x256.size (by sl_kernel_rfl) y

theorem cover15_B (c : Dev nD) (i : grid0.Coords) (arg2 : Memref sig .tc .smem S40x24 .f32) (harg2 : arg2.IsWhole)
    (arg3 : Memref sig .tc .smem S40x2 .f32) (harg3 : arg3.IsWhole)
    (arg4 : Memref sig .tc .smem S40x2 .f32) (harg4 : arg4.IsWhole)
    (arg5 : Memref sig .tc .smem S1 .f32) (harg5 : arg5.IsWhole)
    (arg6 : Memref sig .tc .smem S1 .f32) (harg6 : arg6.IsWhole)
    (arg7 : Memref sig .tc .vmem S768x5120 .bf16) (harg7 : arg7.IsWhole)
    (arg8 : Memref sig .tc .vmem S5120x512 .fp8e4m3) (harg8 : arg8.IsWhole)
    (arg9 : Memref sig .tc .vmem S5120x256 .fp8e4m3) (harg9 : arg9.IsWhole)
    (arg10 : Memref sig .tc .vmem S5120x256 .fp8e4m3) (harg10 : arg10.IsWhole)
    (arg11 : Memref sig .tc .vmem S1x256 .f32) (harg11 : arg11.IsWhole)
    (arg12 : Memref sig .tc .vmem S1x256 .f32) (harg12 : arg12.IsWhole)
    (arg13 : Memref sig .tc .vmem S768x32 .f32) (harg13 : arg13.IsWhole)
    (arg14 : Memref sig .tc .vmem S768x32 .f32) (harg14 : arg14.IsWhole)
    (arg15 : Memref sig .tc .vmem S768x256 .bf16) (harg15 : arg15.IsWhole)
    (arg16 : Memref sig .tc .vmem S768x256 .f32) (harg16 : arg16.IsWhole)
    (arg17 : Memref sig .tc .vmem S768x256 .fp8e4m3) (harg17 : arg17.IsWhole)
    (arg18 : Memref sig .tc .vmem S768x256 .fp8e4m3) (harg18 : arg18.IsWhole)
    (arg19 : Memref sig .tc .vmem S5120x512 .bf16) (harg19 : arg19.IsWhole)
    (hc0 : ¬head0 i) (hc1 : last0 i)
    (x0 : Vec F S40x24 .f32) (x1 : Vec F S40x2 .f32) (x2 : Vec F S40x2 .f32) (x3 : Vec F S1 .f32) (x4 : Vec F S1 .f32) (x5 : Vec F S768x5120 .bf16) (x6 : Vec F S5120x512 .fp8e4m3) (x7 : Vec F S5120x256 .fp8e4m3) (x8 : Vec F S5120x256 .fp8e4m3) (x9 : Vec F S1x256 .f32) (x10 : Vec F S1x256 .f32) (x11 : Vec F S768x32 .f32) (x12 : Vec F S768x32 .f32) (y : S768x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.1 S768x256.size (by sl_kernel_rfl) y

theorem cover16_B (c : Dev nD) (i : grid0.Coords) (arg2 : Memref sig .tc .smem S40x24 .f32) (harg2 : arg2.IsWhole)
    (arg3 : Memref sig .tc .smem S40x2 .f32) (harg3 : arg3.IsWhole)
    (arg4 : Memref sig .tc .smem S40x2 .f32) (harg4 : arg4.IsWhole)
    (arg5 : Memref sig .tc .smem S1 .f32) (harg5 : arg5.IsWhole)
    (arg6 : Memref sig .tc .smem S1 .f32) (harg6 : arg6.IsWhole)
    (arg7 : Memref sig .tc .vmem S768x5120 .bf16) (harg7 : arg7.IsWhole)
    (arg8 : Memref sig .tc .vmem S5120x512 .fp8e4m3) (harg8 : arg8.IsWhole)
    (arg9 : Memref sig .tc .vmem S5120x256 .fp8e4m3) (harg9 : arg9.IsWhole)
    (arg10 : Memref sig .tc .vmem S5120x256 .fp8e4m3) (harg10 : arg10.IsWhole)
    (arg11 : Memref sig .tc .vmem S1x256 .f32) (harg11 : arg11.IsWhole)
    (arg12 : Memref sig .tc .vmem S1x256 .f32) (harg12 : arg12.IsWhole)
    (arg13 : Memref sig .tc .vmem S768x32 .f32) (harg13 : arg13.IsWhole)
    (arg14 : Memref sig .tc .vmem S768x32 .f32) (harg14 : arg14.IsWhole)
    (arg15 : Memref sig .tc .vmem S768x256 .bf16) (harg15 : arg15.IsWhole)
    (arg16 : Memref sig .tc .vmem S768x256 .f32) (harg16 : arg16.IsWhole)
    (arg17 : Memref sig .tc .vmem S768x256 .fp8e4m3) (harg17 : arg17.IsWhole)
    (arg18 : Memref sig .tc .vmem S768x256 .fp8e4m3) (harg18 : arg18.IsWhole)
    (arg19 : Memref sig .tc .vmem S5120x512 .bf16) (harg19 : arg19.IsWhole)
    (hc0 : ¬head0 i) (hc1 : last0 i)
    (x0 : Vec F S40x24 .f32) (x1 : Vec F S40x2 .f32) (x2 : Vec F S40x2 .f32) (x3 : Vec F S1 .f32) (x4 : Vec F S1 .f32) (x5 : Vec F S768x5120 .bf16) (x6 : Vec F S5120x512 .fp8e4m3) (x7 : Vec F S5120x256 .fp8e4m3) (x8 : Vec F S5120x256 .fp8e4m3) (x9 : Vec F S1x256 .f32) (x10 : Vec F S1x256 .f32) (x11 : Vec F S768x32 .f32) (x12 : Vec F S768x32 .f32) (y : S768x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.2.1 S768x256.size (by sl_kernel_rfl) y

end Cert.Qkv.Gen

end
-- ==== Proof.QkvFrame.lean ====
/- The qkv kernel from launch to end. The first six steps of a row block each store one head's queries and gates; the
   seventh stores the codes of the keys and the values. At the seventh step the windows of the queries and the gates
   are not touched and hold what the sixth step left, and are written back then; so what they hold after a step is
   named by the last head step at or before it (`hd`). -/
module

public import proofs.«01_k».proof.Proof.QkvStep

@[expose] public section

set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The head steps -/

/-- The last head step at or before point `t`. -/
def hd (t : Fin cfg0.N) : Fin cfg0.N :=
  if t.val % 7 = 6 then ⟨t.val - 1, Nat.lt_of_le_of_lt (Nat.sub_le _ _) t.isLt⟩ else t

theorem hd_head (t : Fin cfg0.N) : head0 (grid0.coords (hd t)) := by
  rw [hhead0]
  unfold hd
  split_ifs with h
  · show (t.val - 1) % 7 ≤ 5
    omega
  · omega

theorem hd_self (t : Fin cfg0.N) (h : head0 (grid0.coords t)) : hd t = t := by
  have := (hhead0 t).mp h
  unfold hd
  rw [if_neg (by omega)]

theorem hd_prev (t : Fin cfg0.N) (h : last0 (grid0.coords t)) :
    hd t = ⟨t.val - 1, Nat.lt_of_le_of_lt (Nat.sub_le _ _) t.isLt⟩ := by
  unfold hd
  rw [if_pos ((hlast0 t).mp h)]

theorem prev_head (t : Fin cfg0.N) (h : last0 (grid0.coords t)) :
    head0 (grid0.coords ⟨t.val - 1, Nat.lt_of_le_of_lt (Nat.sub_le _ _) t.isLt⟩) := by
  rw [← hd_prev t h]; exact hd_head t

/-- The sixth step does not write the queries' block back, -/
theorem noFlush0_13_prev : ∀ t : Fin cfg0.N, last0 (grid0.coords t) →
    (cfg0.win 13).flush ⟨t.val - 1, Nat.lt_of_le_of_lt (Nat.sub_le _ _) t.isLt⟩ = false := by decide +kernel
/-- nor the gates'. -/
theorem noFlush0_14_prev : ∀ t : Fin cfg0.N, last0 (grid0.coords t) →
    (cfg0.win 14).flush ⟨t.val - 1, Nat.lt_of_le_of_lt (Nat.sub_le _ _) t.isLt⟩ = false := by decide +kernel

/-- The widened weight block of a head step. -/
def wtileA (c : Dev nD) (t : Fin cfg0.N) (h : head0 (grid0.coords t)) : Vec F S5120x512 .bf16 :=
  weightsA c (grid0.coords t) (ms0_0 t) (hs0_0 t) (ms0_6 t) (hs0_6 t) h (iblk m c 0 t) (iblk m c 6 t)

/-- The widened weight block of the last step. -/
def wtileB (c : Dev nD) (t : Fin cfg0.N) : Vec F S5120x512 .bf16 :=
  weightsB c (ms0_1 t) (hs0_1 t) (ms0_2 t) (hs0_2 t) (ms0_7 t) (hs0_7 t) (ms0_8 t) (hs0_8 t) (iblk m c 1 t) (iblk m c 2 t) (iblk m c 7 t) (iblk m c 8 t)

/-- A head step's queries. -/
def queryAt (c : Dev nD) (t : Fin cfg0.N) (h : head0 (grid0.coords t)) : Vec F S768x256 .bf16 :=
  query (iblk m c 5 t) (wtileA m c t h) (iblk m c 9 t) (iblk m c 11 t) (iblk m c 12 t)

/-- A head step's gates. -/
def gateAt (c : Dev nD) (t : Fin cfg0.N) (h : head0 (grid0.coords t)) : Vec F S768x256 .f32 :=
  gate (iblk m c 5 t) (wtileA m c t h)

/-- The last step's key codes. -/
def keysAt (c : Dev nD) (t : Fin cfg0.N) : Vec F S768x256 .fp8e4m3 :=
  keys (iblk m c 5 t) (wtileB m c t) (iblk m c 10 t) (iblk m c 11 t) (iblk m c 12 t) (iblk m c 3 t)

/-- The last step's value codes. -/
def valsAt (c : Dev nD) (t : Fin cfg0.N) : Vec F S768x256 .fp8e4m3 :=
  vals (iblk m c 5 t) (wtileB m c t) (iblk m c 4 t)

theorem queryAt_congr (c : Dev nD) {t t' : Fin cfg0.N} (e : t = t') (h : head0 (grid0.coords t)) (h' : head0 (grid0.coords t')) :
    queryAt m c t h = queryAt m c t' h' := by subst e; rfl

theorem gateAt_congr (c : Dev nD) {t t' : Fin cfg0.N} (e : t = t') (h : head0 (grid0.coords t)) (h' : head0 (grid0.coords t')) :
    gateAt m c t h = gateAt m c t' h' := by subst e; rfl

/-! ## The pipeline's proof data -/

/-- The invariant: the weight scratch at anything. -/
def PhiS (c : Dev nD) : sProp 𝕄 :=
  iprop((∃ d, owns (c : Thread nD τ) scM0_0 fullShare d) ∗ (∃ r, prngReg c r))

/-- After the body at point `t` each input's buffer holds its block and each output's the step's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => queryAt m c (hd t) (hd_head t)
    | ⟨14, _⟩ => gateAt m c (hd t) (hd_head t)
    | ⟨15, _⟩ => keysAt m c t
    | ⟨16, _⟩ => valsAt m c t
    | ⟨n + 17, h⟩ => absurd h (Nat.not_lt.mpr (Nat.le_add_left 17 n))
  Φ _ := PhiS c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = queryAt m c (hd t) (hd_head t) := by dsimp only [dats]
theorem after0_14 (c : Dev nD) (t : Fin cfg0.N) : (dats m 0 c).after 14 t = gateAt m c (hd t) (hd_head t) := by dsimp only [dats]
theorem after0_15 (c : Dev nD) (t : Fin cfg0.N) : (dats m 0 c).after 15 t = keysAt m c t := by dsimp only [dats]
theorem after0_16 (c : Dev nD) (t : Fin cfg0.N) : (dats m 0 c).after 16 t = valsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- At the last step the queries' buffer holds what the sixth step left. -/
theorem before0_13 (c : Dev nD) (t : Fin cfg0.N) (h : last0 (grid0.coords t)) (d) :
    (dats m 0 c).before 13 t d = queryAt m c (hd t) (hd_head t) := by
  have ht : t.val ≠ 0 := by have := (hlast0 t).mp h; omega
  rw [(dats m 0 c).before_of_pos 13 t ht ((cfg0.win 13).fetch_out rfl t), noFlush0_13_prev t h, if_neg Bool.false_ne_true]
  unfold Dat.left
  rw [liveAt0_13_A _ (prev_head t h)]
  unfold Dat.kept
  rw [Pipeline.fill_of_clip_none 13 _ (fun _ => rfl) d ((dats m 0 c).after 13 _), Window.fill_cut, after0_13]
  exact queryAt_congr m c ((hd_self _ (prev_head t h)).trans (hd_prev t h).symm) _ _

/-- At the last step the gates' buffer holds what the sixth step left. -/
theorem before0_14 (c : Dev nD) (t : Fin cfg0.N) (h : last0 (grid0.coords t)) (d) :
    (dats m 0 c).before 14 t d = gateAt m c (hd t) (hd_head t) := by
  have ht : t.val ≠ 0 := by have := (hlast0 t).mp h; omega
  rw [(dats m 0 c).before_of_pos 14 t ht ((cfg0.win 14).fetch_out rfl t), noFlush0_14_prev t h, if_neg Bool.false_ne_true]
  unfold Dat.left
  rw [liveAt0_14_A _ (prev_head t h)]
  unfold Dat.kept
  rw [Pipeline.fill_of_clip_none 14 _ (fun _ => rfl) d ((dats m 0 c).after 14 _), Window.fill_cut, after0_14]
  exact gateAt_congr m c ((hd_self _ (prev_head t h)).trans (hd_prev t h).symm) _ _

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = PhiS c from rfl, show (dats m 0 c).Φ t.castSucc = PhiS c from rfl]
  unfold PhiS
  by_cases h : t.val % 7 = 6
  · have h1 : last0 (grid0.coords t) := (hlast0 t).mpr h
    have h0 : ¬head0 (grid0.coords t) := fun g => by have := (hhead0 t).mp g; omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [idleAt0_13_B t h1, flushes0_13_B t h1], after0_13]
    rw [show (dats m 0 c).leavesExact 14 t = owns (c : Thread nD τ) (ms0_14 t) fullShare ((dats m 0 c).after 14 t) from by
      unfold Dat.leavesExact; rw [idleAt0_14_B t h1, flushes0_14_B t h1], after0_14]
    rw [show (dats m 0 c).leavesExact 15 t = owns (c : Thread nD τ) (ms0_15 t) fullShare ((dats m 0 c).after 15 t) from by
      unfold Dat.leavesExact; rw [liveAt0_15_B t h1], after0_15]
    rw [show (dats m 0 c).leavesExact 16 t = owns (c : Thread nD τ) (ms0_16 t) fullShare ((dats m 0 c).after 16 t) from by
      unfold Dat.leavesExact; rw [liveAt0_16_B t h1], after0_16]
    simp only [before0_13 m c t h1, before0_14 m c t h1]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    have hrun := run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    iapply ((kernelRun0_B c (grid0.coords t) _ _ _ _ _ _ _ _ _ _ _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [HS0]; · iexact HS0
    iintro ⟨H0, H1, H2, H3, H4, H5, H6, H7, H8, H9, H10, H11, H12, H13, H14, ⟨%e15, H15⟩, ⟨%e16, H16⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexact H13
    isplitl [H14]
    · iexact H14
    isplitl [H15]
    · unfold owns; iexists _; isplitr
      swap; · iexact H15
      ipureintro
      exact (View.read_writes_eq_canon _ _ _ (cover15_B c _ _ _ _ _ _ _ _ _ _ _ _ _ _ _ _ _ _ _ _ _ _ _ _ _ _ _ _ _ _ _ _ _ _ _ _ _ h0 h1 _ _ _ _ _ _ _ _ _ _ _ _ _ )).trans hrun.1
    unfold owns; iexists _; isplitr
    swap; · iexact H16
    ipureintro
    exact (View.read_writes_eq_canon _ _ _ (cover16_B c _ _ _ _ _ _ _ _ _ _ _ _ _ _ _ _ _ _ _ _ _ _ _ _ _ _ _ _ _ _ _ _ _ _ _ _ _ h0 h1 _ _ _ _ _ _ _ _ _ _ _ _ _ )).trans hrun.2
  · have h1 : ¬last0 (grid0.coords t) := fun g => h ((hlast0 t).mp g)
    have h0 : head0 (grid0.coords t) := (hhead0 t).mpr (by omega)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13_A t h0], after0_13]
    rw [show (dats m 0 c).leavesExact 14 t = owns (c : Thread nD τ) (ms0_14 t) fullShare ((dats m 0 c).after 14 t) from by
      unfold Dat.leavesExact; rw [liveAt0_14_A t h0], after0_14]
    rw [queryAt_congr m c (hd_self t h0) (hd_head t) h0, gateAt_congr m c (hd_self t h0) (hd_head t) h0]
    rw [Dat.leavesExact_idle (dats m 0 c) 15 t (idleAt0_15_A t h0) (noFlush0_15_A t h0)]
    rw [Dat.leavesExact_idle (dats m 0 c) 16 t (idleAt0_16_A t h0) (noFlush0_16_A t h0)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    have hrun := run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    iapply ((kernelRun0_A c (grid0.coords t) _ _ _ _ _ _ _ _ _ _ _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexact H15
    isplitl [H16]; · iexact H16
    isplitl [HS0]; · iexact HS0
    iintro ⟨H0, H1, H2, H3, H4, H5, H6, H7, H8, H9, H10, H11, H12, ⟨%e13, H13⟩, ⟨%e14, H14⟩, H15, H16, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro
      exact (View.read_writes_eq_canon _ _ _ (cover13_A c _ _ _ _ _ _ _ _ _ _ _ _ _ _ _ _ _ _ _ _ _ _ _ _ _ _ _ _ _ _ _ _ _ _ _ _ _ h0 h1 _ _ _ _ _ _ _ _ _ _ _ _ _ )).trans hrun.1
    isplitl [H14]
    · unfold owns; iexists _; isplitr
      swap; · iexact H14
      ipureintro
      exact (View.read_writes_eq_canon _ _ _ (cover14_A c _ _ _ _ _ _ _ _ _ _ _ _ _ _ _ _ _ _ _ _ _ _ _ _ _ _ _ _ _ _ _ _ _ _ _ _ _ h0 h1 _ _ _ _ _ _ _ _ _ _ _ _ _ )).trans hrun.2
    isplitl [H15]
    · iexists _; iexact H15
    iexists _; iexact H16

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point; -/
theorem hin (c : Dev nD) : Pipeline.ΦA spec0 c ⊢ (dats m 0 c).Φ 0 := by
  rw [show (dats m 0 c).Φ 0 = PhiS c from rfl, PhiA0_eq]
  unfold PhiS
  iintro ⟨HS0, Hg⟩
  isplitl [HS0]; · iexact HS0
  iexact Hg

/-- and after the last point it is what the launch handed over. -/
theorem hout (c : Dev nD) : (dats m 0 c).Φ (Fin.last cfg0.N) ⊢ Pipeline.ΦA spec0 c := by
  rw [show (dats m 0 c).Φ (Fin.last cfg0.N) = PhiS c from rfl, PhiA0_eq]
  unfold PhiS
  iintro ⟨HS0, Hg⟩
  isplitl [HS0]; · iexact HS0
  iexact Hg

/-! ## The run and the frame -/

set_option backward.isDefEq.respectTransparency.types false in
/-- Every execution ends with the arrays at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The frame: the argument arrays end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Qkv.Gen

end
-- ==== Proof.QkvIdealRun.lean ====
/- The qkv kernel over the reals: the whole body run once in each of its two cases, a head step
   (which stores the query and gate windows) and the last step of a row block (which stores the key and value windows). -/
module

public import proofs.«01_k».proof.Proof.Gen.QkvIdeal.Frame
public import proofs.«01_k».proof.Proof.Gen.QkvIdeal.Skeleton
public import proofs.«01_k».proof.Proof.Gen.QkvIdeal.Points
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases of the body: a head step, and the last step -/

/-- The condition of the body's first branch: the step computes one head's queries and gates. -/
abbrev head0 (i : grid0.Coords) : Prop := k0_cond1 i = 1#1

/-- The condition of the body's second branch: the step computes the keys and values. -/
abbrev last0 (i : grid0.Coords) : Prop := k0_cond2 i = 1#1

/-- The head steps are the first six of each row block. -/
theorem hhead0 : ∀ t : Fin cfg0.N, head0 (grid0.coords t) ↔ t.val % 7 ≤ 5 :=
  (by decide +kernel : ∀ t : Fin grid0.N, head0 (grid0.coords t) ↔ t.val % 7 ≤ 5)

/-- The last step is the seventh of each row block. -/
theorem hlast0 : ∀ t : Fin cfg0.N, last0 (grid0.coords t) ↔ t.val % 7 = 6 :=
  (by decide +kernel : ∀ t : Fin grid0.N, last0 (grid0.coords t) ↔ t.val % 7 = 6)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
/-- The query and gate windows are stored at the head steps; at the last step they are idle and hold the last head. -/
theorem liveAt0_13_A : ∀ t : Fin cfg0.N, head0 (grid0.coords t) → cfg0.idle 13 (grid0.coords t) = false := by decide +kernel
theorem liveAt0_14_A : ∀ t : Fin cfg0.N, head0 (grid0.coords t) → cfg0.idle 14 (grid0.coords t) = false := by decide +kernel
theorem idleAt0_13_B : ∀ t : Fin cfg0.N, last0 (grid0.coords t) → cfg0.idle 13 (grid0.coords t) = true := by decide +kernel
theorem idleAt0_14_B : ∀ t : Fin cfg0.N, last0 (grid0.coords t) → cfg0.idle 14 (grid0.coords t) = true := by decide +kernel
theorem flushes0_13_B : ∀ t : Fin cfg0.N, last0 (grid0.coords t) → (cfg0.win 13).flush t = true := by decide +kernel
theorem flushes0_14_B : ∀ t : Fin cfg0.N, last0 (grid0.coords t) → (cfg0.win 14).flush t = true := by decide +kernel
/-- The key and value windows are stored at the last step; before it, they are idle and not written back. -/
theorem idleAt0_15_A : ∀ t : Fin cfg0.N, head0 (grid0.coords t) → cfg0.idle 15 (grid0.coords t) = true := by decide +kernel
theorem noFlush0_15_A : ∀ t : Fin cfg0.N, head0 (grid0.coords t) → (cfg0.win 15).flush t = false := by decide +kernel
theorem liveAt0_15_B : ∀ t : Fin cfg0.N, last0 (grid0.coords t) → cfg0.idle 15 (grid0.coords t) = false := by decide +kernel
theorem idleAt0_16_A : ∀ t : Fin cfg0.N, head0 (grid0.coords t) → cfg0.idle 16 (grid0.coords t) = true := by decide +kernel
theorem noFlush0_16_A : ∀ t : Fin cfg0.N, head0 (grid0.coords t) → (cfg0.win 16).flush t = false := by decide +kernel
theorem liveAt0_16_B : ∀ t : Fin cfg0.N, last0 (grid0.coords t) → cfg0.idle 16 (grid0.coords t) = false := by decide +kernel

/-! ## The staging and scratch buffers -/

/-- One staging buffer of output window 13, through which its contents are stated (`View.read_writes_of_cover`: the
    choice does not matter). -/
abbrev VO0_13 : View sig .tc .vmem S768x256 .bf16 := (Memref.whole cc0_stg13_0 : Memref sig .tc .vmem S768x256 .bf16).view
/-- One staging buffer of output window 14, through which its contents are stated (`View.read_writes_of_cover`: the
    choice does not matter). -/
abbrev VO0_14 : View sig .tc .vmem S768x256 .f32 := (Memref.whole cc0_stg14_0 : Memref sig .tc .vmem S768x256 .f32).view
/-- One staging buffer of output window 15, through which its contents are stated (`View.read_writes_of_cover`: the
    choice does not matter). -/
abbrev VO0_15 : View sig .tc .vmem S768x256 .fp8e4m3 := (Memref.whole cc0_stg15_0 : Memref sig .tc .vmem S768x256 .fp8e4m3).view
/-- One staging buffer of output window 16, through which its contents are stated (`View.read_writes_of_cover`: the
    choice does not matter). -/
abbrev VO0_16 : View sig .tc .vmem S768x256 .fp8e4m3 := (Memref.whole cc0_stg16_0 : Memref sig .tc .vmem S768x256 .fp8e4m3).view
/-- Each window's current staging memref at point `t`, spelled as the pipeline passes it (`bodyAt0`), and its wholeness. -/
abbrev ms0_0 (t : Fin cfg0.N) : Memref sig .tc .smem S40x24 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S40x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S40x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x5120 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5120x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S5120x256 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S5120x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S768x32 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S768x32 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S768x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S768x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S768x256 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S768x256 .fp8e4m3 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S5120x512 .bf16 := Memref.whole cc0_scratch0

/-- The invariant the launch hands over: the scratch buffer at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The runs -/

set_option maxHeartbeats 4980000 in
/-- The body at a head step: from the inputs and the key and value windows at given contents and the other buffers
    at anything, it ends with the pieces `L13` and `L14` written in the query and gate windows, `LT0` in the weight
    scratch, the key and value windows untouched. -/
noncomputable def kernelRun0_A (c : Dev nD) (i : grid0.Coords) (arg2 : Memref sig .tc .smem S40x24 .f32) (harg2 : arg2.IsWhole) (arg3 : Memref sig .tc .smem S40x2 .f32) (harg3 : arg3.IsWhole) (arg4 : Memref sig .tc .smem S40x2 .f32) (harg4 : arg4.IsWhole) (arg5 : Memref sig .tc .smem S1 .f32) (harg5 : arg5.IsWhole) (arg6 : Memref sig .tc .smem S1 .f32) (harg6 : arg6.IsWhole) (arg7 : Memref sig .tc .vmem S768x5120 .bf16) (harg7 : arg7.IsWhole) (arg8 : Memref sig .tc .vmem S5120x512 .fp8e4m3) (harg8 : arg8.IsWhole) (arg9 : Memref sig .tc .vmem S5120x256 .fp8e4m3) (harg9 : arg9.IsWhole) (arg10 : Memref sig .tc .vmem S5120x256 .fp8e4m3) (harg10 : arg10.IsWhole) (arg11 : Memref sig .tc .vmem S1x256 .f32) (harg11 : arg11.IsWhole) (arg12 : Memref sig .tc .vmem S1x256 .f32) (harg12 : arg12.IsWhole) (arg13 : Memref sig .tc .vmem S768x32 .f32) (harg13 : arg13.IsWhole) (arg14 : Memref sig .tc .vmem S768x32 .f32) (harg14 : arg14.IsWhole) (arg15 : Memref sig .tc .vmem S768x256 .bf16) (harg15 : arg15.IsWhole) (arg16 : Memref sig .tc .vmem S768x256 .f32) (harg16 : arg16.IsWhole) (arg17 : Memref sig .tc .vmem S768x256 .fp8e4m3) (harg17 : arg17.IsWhole) (arg18 : Memref sig .tc .vmem S768x256 .fp8e4m3) (harg18 : arg18.IsWhole) (arg19 : Memref sig .tc .vmem S5120x512 .bf16) (harg19 : arg19.IsWhole) (hc0 : head0 i) (hc1 : ¬last0 i)
    (x0 : Vec F S40x24 .f32) (x1 : Vec F S40x2 .f32) (x2 : Vec F S40x2 .f32) (x3 : Vec F S1 .f32) (x4 : Vec F S1 .f32) (x5 : Vec F S768x5120 .bf16) (x6 : Vec F S5120x512 .fp8e4m3) (x7 : Vec F S5120x256 .fp8e4m3) (x8 : Vec F S5120x256 .fp8e4m3) (x9 : Vec F S1x256 .f32) (x10 : Vec F S1x256 .f32) (x11 : Vec F S768x32 .f32) (x12 : Vec F S768x32 .f32) :
    Σ' (L13 : List (View.Piece (Elt F) S768x256 .bf16)), Σ' (L14 : List (View.Piece (Elt F) S768x256 .f32)), Σ' (L15 : List (View.Piece (Elt F) S768x256 .fp8e4m3)), Σ' (L16 : List (View.Piece (Elt F) S768x256 .fp8e4m3)), { LT0 : List (View.Piece (Elt F) S5120x512 .bf16) //
      ∀ (xi15 : Vec F S768x256 .fp8e4m3) (xi16 : Vec F S768x256 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ owns (c : Thread nD τ) arg17 fullShare xi15 ∗ owns (c : Thread nD τ) arg18 fullShare xi16 ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ owns (c : Thread nD τ) arg17 fullShare xi15 ∗ owns (c : Thread nD τ) arg18 fullShare xi16 ∗ (∃ f, arg19.view.loc (c : Thread nD τ) ↦[arg19.view.set]{fullShare} arg19.view.writes (Elt F) f LT0)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, [], [], ?_, fun xi15 xi16 E K => ?run⟩
  case run =>
    simp only [cc0_qkv_eq_skeleton]; unfold cc0_qkv_skel
    simp only [k0_part50_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg17.eq_unread hf15; obtain rfl := harg18.eq_unread hf16
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]
    · iexists _; isplitr; · ipureintro; exact harg17.read_unread _
      iexact H15
    isplitl [H16]
    · iexists _; isplitr; · ipureintro; exact harg18.read_unread _
      iexact H16
    iexists _; iexact HS0

set_option maxHeartbeats 3680000 in
/-- The body at the last step: it ends with the pieces `L15` and `L16` written in the key and value windows, the
    query and gate windows untouched. -/
noncomputable def kernelRun0_B (c : Dev nD) (i : grid0.Coords) (arg2 : Memref sig .tc .smem S40x24 .f32) (harg2 : arg2.IsWhole) (arg3 : Memref sig .tc .smem S40x2 .f32) (harg3 : arg3.IsWhole) (arg4 : Memref sig .tc .smem S40x2 .f32) (harg4 : arg4.IsWhole) (arg5 : Memref sig .tc .smem S1 .f32) (harg5 : arg5.IsWhole) (arg6 : Memref sig .tc .smem S1 .f32) (harg6 : arg6.IsWhole) (arg7 : Memref sig .tc .vmem S768x5120 .bf16) (harg7 : arg7.IsWhole) (arg8 : Memref sig .tc .vmem S5120x512 .fp8e4m3) (harg8 : arg8.IsWhole) (arg9 : Memref sig .tc .vmem S5120x256 .fp8e4m3) (harg9 : arg9.IsWhole) (arg10 : Memref sig .tc .vmem S5120x256 .fp8e4m3) (harg10 : arg10.IsWhole) (arg11 : Memref sig .tc .vmem S1x256 .f32) (harg11 : arg11.IsWhole) (arg12 : Memref sig .tc .vmem S1x256 .f32) (harg12 : arg12.IsWhole) (arg13 : Memref sig .tc .vmem S768x32 .f32) (harg13 : arg13.IsWhole) (arg14 : Memref sig .tc .vmem S768x32 .f32) (harg14 : arg14.IsWhole) (arg15 : Memref sig .tc .vmem S768x256 .bf16) (harg15 : arg15.IsWhole) (arg16 : Memref sig .tc .vmem S768x256 .f32) (harg16 : arg16.IsWhole) (arg17 : Memref sig .tc .vmem S768x256 .fp8e4m3) (harg17 : arg17.IsWhole) (arg18 : Memref sig .tc .vmem S768x256 .fp8e4m3) (harg18 : arg18.IsWhole) (arg19 : Memref sig .tc .vmem S5120x512 .bf16) (harg19 : arg19.IsWhole) (hc0 : ¬head0 i) (hc1 : last0 i)
    (x0 : Vec F S40x24 .f32) (x1 : Vec F S40x2 .f32) (x2 : Vec F S40x2 .f32) (x3 : Vec F S1 .f32) (x4 : Vec F S1 .f32) (x5 : Vec F S768x5120 .bf16) (x6 : Vec F S5120x512 .fp8e4m3) (x7 : Vec F S5120x256 .fp8e4m3) (x8 : Vec F S5120x256 .fp8e4m3) (x9 : Vec F S1x256 .f32) (x10 : Vec F S1x256 .f32) (x11 : Vec F S768x32 .f32) (x12 : Vec F S768x32 .f32) :
    Σ' (L13 : List (View.Piece (Elt F) S768x256 .bf16)), Σ' (L14 : List (View.Piece (Elt F) S768x256 .f32)), Σ' (L15 : List (View.Piece (Elt F) S768x256 .fp8e4m3)), Σ' (L16 : List (View.Piece (Elt F) S768x256 .fp8e4m3)), { LT0 : List (View.Piece (Elt F) S5120x512 .bf16) //
      ∀ (xi13 : Vec F S768x256 .bf16) (xi14 : Vec F S768x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xi13 ∗ owns (c : Thread nD τ) arg16 fullShare xi14 ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xi13 ∗ owns (c : Thread nD τ) arg16 fullShare xi14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LT0)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], [], ?_, ?_, ?_, fun xi13 xi14 E K => ?run⟩
  case run =>
    simp only [cc0_qkv_eq_skeleton]; unfold cc0_qkv_skel
    simp only [k0_part95_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    iexists _; iexact HS0

end Cert.QkvIdeal.Gen

end
-- ==== Proof.QkvIdealStep.lean ====
/- What one step of the qkv kernel leaves in its windows, as functions of the block of activations, the widened weight
   block and the small tables: a head step one head's queries and gates, the last step of a row block the codes of its
   keys and values. -/
module

public import proofs.«01_k».proof.Proof.QkvIdealRun
public import Idealize.ShloMosaic.Lib.Pointwise

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One step's results -/

/-- A head step's queries. -/
def query (X : Vec F S768x5120 .bf16) (W : Vec F S5120x512 .bf16) (w : Vec F S1x256 .f32) (cs sn : Vec F S768x32 .f32) :
    Vec F S768x256 .bf16 :=
  k0_pay202 (k0_pay195 X W w) (k0_pay196 X W w) (iota .tc S768x128 32 [1] iota_S768x128_d1_w32) (k0_pay198 cs) (k0_pay199 sn)
    (k0_pay200 X W w) k0_pay201

/-- A head step's gates. -/
def gate (X : Vec F S768x5120 .bf16) (W : Vec F S5120x512 .bf16) : Vec F S768x256 .f32 := k0_pay1 (k0_pay194 X W)

/-- The last step's codes of the keys. -/
def keys (X : Vec F S768x5120 .bf16) (W : Vec F S5120x512 .bf16) (w : Vec F S1x256 .f32) (cs sn : Vec F S768x32 .f32)
    (s : Vec F S1 .f32) : Vec F S768x256 .fp8e4m3 :=
  k0_pay398 (k0_pay396 X W) w (k0_pay397 X W) (Scalar.ofBits .f32 0x358637BD#32) cs sn (s (ix1 0))

/-- The last step's codes of the values. -/
def vals (X : Vec F S768x5120 .bf16) (W : Vec F S5120x512 .bf16) (s : Vec F S1 .f32) : Vec F S768x256 .fp8e4m3 :=
  k0_pay399 (k0_pay395 X W) (s (ix1 0))

theorem hz0 : (![0, 0] : Fin 2 → ℕ) = fun _ => 0 := funext fun a => by fin_cases a <;> rfl

theorem hz1 : (![0] : Fin 1 → ℕ) = fun _ => 0 := funext fun a => by fin_cases a; rfl

/-! ## A head step -/

/-- The widened weight block of a head step. -/
def weightsA (c : Dev nD) (i : grid0.Coords) (arg2 : Memref sig .tc .smem S40x24 .f32) (harg2 : arg2.IsWhole)
    (arg8 : Memref sig .tc .vmem S5120x512 .fp8e4m3) (harg8 : arg8.IsWhole)
    (hc0 : head0 i) (x0 : Vec F S40x24 .f32) (x6 : Vec F S5120x512 .fp8e4m3) : Vec F S5120x512 .bf16 :=
  View.canon (kernelRun0_A.sl.HS0_160 c i arg2 harg2 arg8 harg8 hc0 x0 x6)

/-- The stores into the weight scratch cover it. -/
theorem covers_A (c : Dev nD) (i : grid0.Coords) (arg2 : Memref sig .tc .smem S40x24 .f32) (harg2 : arg2.IsWhole)
    (arg8 : Memref sig .tc .vmem S5120x512 .fp8e4m3) (harg8 : arg8.IsWhole)
    (hc0 : head0 i) (x0 : Vec F S40x24 .f32) (x6 : Vec F S5120x512 .fp8e4m3) (y : S5120x512.Idx) :
    ∃ p ∈ kernelRun0_A.sl.HS0_160 c i arg2 harg2 arg8 harg8 hc0 x0 x6, y ∈ p.1.set :=
  View.cover_of_tiledL _ ![128, 128] (by sl_kernel_rfl) y

/-- The weight scratch read back is the widened block. -/
theorem read_weights_A (c : Dev nD) (i : grid0.Coords) (arg2 : Memref sig .tc .smem S40x24 .f32) (harg2 : arg2.IsWhole)
    (arg8 : Memref sig .tc .vmem S5120x512 .fp8e4m3) (harg8 : arg8.IsWhole)
    (arg19 : Memref sig .tc .vmem S5120x512 .bf16) (hc0 : head0 i) (x0 : Vec F S40x24 .f32) (x6 : Vec F S5120x512 .fp8e4m3) :
    kernelRun0_A.sl.v1768 c i arg2 harg2 arg8 harg8 arg19 hc0 x0 x6 = weightsA c i arg2 harg2 arg8 harg8 hc0 x0 x6 := by
  unfold kernelRun0_A.sl.v1768 weightsA
  rw [View.readCov_eq_canon_ld _ _ _ (covers_A c i arg2 harg2 arg8 harg8 hc0 x0 x6), View.ld_unit_zero hz0]

/-- What a head step leaves in its two windows. -/
theorem run_A (c : Dev nD) (i : grid0.Coords) (arg2 : Memref sig .tc .smem S40x24 .f32) (harg2 : arg2.IsWhole)
    (arg3 : Memref sig .tc .smem S40x2 .f32) (harg3 : arg3.IsWhole)
    (arg4 : Memref sig .tc .smem S40x2 .f32) (harg4 : arg4.IsWhole)
    (arg5 : Memref sig .tc .smem S1 .f32) (harg5 : arg5.IsWhole)
    (arg6 : Memref sig .tc .smem S1 .f32) (harg6 : arg6.IsWhole)
    (arg7 : Memref sig .tc .vmem S768x5120 .bf16) (harg7 : arg7.IsWhole)
    (arg8 : Memref sig .tc .vmem S5120x512 .fp8e4m3) (harg8 : arg8.IsWhole)
    (arg9 : Memref sig .tc .vmem S5120x256 .fp8e4m3) (harg9 : arg9.IsWhole)
    (arg10 : Memref sig .tc .vmem S5120x256 .fp8e4m3) (harg10 : arg10.IsWhole)
    (arg11 : Memref sig .tc .vmem S1x256 .f32) (harg11 : arg11.IsWhole)
    (arg12 : Memref sig .tc .vmem S1x256 .f32) (harg12 : arg12.IsWhole)
    (arg13 : Memref sig .tc .vmem S768x32 .f32) (harg13 : arg13.IsWhole)
    (arg14 : Memref sig .tc .vmem S768x32 .f32) (harg14 : arg14.IsWhole)
    (arg15 : Memref sig .tc .vmem S768x256 .bf16) (harg15 : arg15.IsWhole)
    (arg16 : Memref sig .tc .vmem S768x256 .f32) (harg16 : arg16.IsWhole)
    (arg17 : Memref sig .tc .vmem S768x256 .fp8e4m3) (harg17 : arg17.IsWhole)
    (arg18 : Memref sig .tc .vmem S768x256 .fp8e4m3) (harg18 : arg18.IsWhole)
    (arg19 : Memref sig .tc .vmem S5120x512 .bf16) (harg19 : arg19.IsWhole)
    (hc0 : head0 i) (hc1 : ¬last0 i)
    (x0 : Vec F S40x24 .f32) (x1 : Vec F S40x2 .f32) (x2 : Vec F S40x2 .f32) (x3 : Vec F S1 .f32) (x4 : Vec F S1 .f32) (x5 : Vec F S768x5120 .bf16) (x6 : Vec F S5120x512 .fp8e4m3) (x7 : Vec F S5120x256 .fp8e4m3) (x8 : Vec F S5120x256 .fp8e4m3) (x9 : Vec F S1x256 .f32) (x10 : Vec F S1x256 .f32) (x11 : Vec F S768x32 .f32) (x12 : Vec F S768x32 .f32) :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).1
        = query x5 (weightsA c i arg2 harg2 arg8 harg8 hc0 x0 x6) x9 x11 x12
    ∧ View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.1
        = gate x5 (weightsA c i arg2 harg2 arg8 harg8 hc0 x0 x6) := by
  unfold kernelRun0_A
  dsimp only
  simp only [kernelRun0_A.sl.r_208, kernelRun0_A.sl.r_209, kernelRun0_A.sl.r_210, kernelRun0_A.sl.r_211, kernelRun0_A.sl.r_212, kernelRun0_A.sl.r_213, kernelRun0_A.sl.r_214, kernelRun0_A.sl.v1791]
  simp only [read_weights_A, View.readAt_eq_ld, Memref.IsWhole.read_unread]
  rw [View.ld_unit_zero hz0, View.ld_unit_zero hz0, View.ld_unit_zero hz0, View.ld_unit_zero hz0]
  exact ⟨View.canon_unit_zero hz0 _ _, View.canon_unit_zero hz0 _ _⟩

/-! ## The last step -/

/-- The widened weight block of the last step: the keys' columns beside the values'. -/
def weightsB (c : Dev nD) (arg3 : Memref sig .tc .smem S40x2 .f32) (harg3 : arg3.IsWhole)
    (arg4 : Memref sig .tc .smem S40x2 .f32) (harg4 : arg4.IsWhole)
    (arg9 : Memref sig .tc .vmem S5120x256 .fp8e4m3) (harg9 : arg9.IsWhole)
    (arg10 : Memref sig .tc .vmem S5120x256 .fp8e4m3) (harg10 : arg10.IsWhole)
    (x1 : Vec F S40x2 .f32) (x2 : Vec F S40x2 .f32) (x7 : Vec F S5120x256 .fp8e4m3) (x8 : Vec F S5120x256 .fp8e4m3) : Vec F S5120x512 .bf16 :=
  View.canon (kernelRun0_B.sl.HS0_160 c arg3 harg3 arg4 harg4 arg9 harg9 arg10 harg10 x1 x2 x7 x8)

/-- The stores into the weight scratch cover it. -/
theorem covers_B (c : Dev nD) (arg3 : Memref sig .tc .smem S40x2 .f32) (harg3 : arg3.IsWhole)
    (arg4 : Memref sig .tc .smem S40x2 .f32) (harg4 : arg4.IsWhole)
    (arg9 : Memref sig .tc .vmem S5120x256 .fp8e4m3) (harg9 : arg9.IsWhole)
    (arg10 : Memref sig .tc .vmem S5120x256 .fp8e4m3) (harg10 : arg10.IsWhole)
    (x1 : Vec F S40x2 .f32) (x2 : Vec F S40x2 .f32) (x7 : Vec F S5120x256 .fp8e4m3) (x8 : Vec F S5120x256 .fp8e4m3) (y : S5120x512.Idx) :
    ∃ p ∈ kernelRun0_B.sl.HS0_160 c arg3 harg3 arg4 harg4 arg9 harg9 arg10 harg10 x1 x2 x7 x8, y ∈ p.1.set :=
  View.cover_of_tiledL _ ![128, 128] (by sl_kernel_rfl) y

/-- The weight scratch read back is the widened block. -/
theorem read_weights_B (c : Dev nD) (arg3 : Memref sig .tc .smem S40x2 .f32) (harg3 : arg3.IsWhole)
    (arg4 : Memref sig .tc .smem S40x2 .f32) (harg4 : arg4.IsWhole)
    (arg9 : Memref sig .tc .vmem S5120x256 .fp8e4m3) (harg9 : arg9.IsWhole)
    (arg10 : Memref sig .tc .vmem S5120x256 .fp8e4m3) (harg10 : arg10.IsWhole)
    (arg19 : Memref sig .tc .vmem S5120x512 .bf16) (x1 : Vec F S40x2 .f32) (x2 : Vec F S40x2 .f32) (x7 : Vec F S5120x256 .fp8e4m3) (x8 : Vec F S5120x256 .fp8e4m3) :
    kernelRun0_B.sl.v1447 c arg3 harg3 arg4 harg4 arg9 harg9 arg10 harg10 arg19 x1 x2 x7 x8 = weightsB c arg3 harg3 arg4 harg4 arg9 harg9 arg10 harg10 x1 x2 x7 x8 := by
  unfold kernelRun0_B.sl.v1447 weightsB
  rw [View.readCov_eq_canon_ld _ _ _ (covers_B c arg3 harg3 arg4 harg4 arg9 harg9 arg10 harg10 x1 x2 x7 x8), View.ld_unit_zero hz0]

/-- What the last step leaves in its two windows. -/
theorem run_B (c : Dev nD) (i : grid0.Coords) (arg2 : Memref sig .tc .smem S40x24 .f32) (harg2 : arg2.IsWhole)
    (arg3 : Memref sig .tc .smem S40x2 .f32) (harg3 : arg3.IsWhole)
    (arg4 : Memref sig .tc .smem S40x2 .f32) (harg4 : arg4.IsWhole)
    (arg5 : Memref sig .tc .smem S1 .f32) (harg5 : arg5.IsWhole)
    (arg6 : Memref sig .tc .smem S1 .f32) (harg6 : arg6.IsWhole)
    (arg7 : Memref sig .tc .vmem S768x5120 .bf16) (harg7 : arg7.IsWhole)
    (arg8 : Memref sig .tc .vmem S5120x512 .fp8e4m3) (harg8 : arg8.IsWhole)
    (arg9 : Memref sig .tc .vmem S5120x256 .fp8e4m3) (harg9 : arg9.IsWhole)
    (arg10 : Memref sig .tc .vmem S5120x256 .fp8e4m3) (harg10 : arg10.IsWhole)
    (arg11 : Memref sig .tc .vmem S1x256 .f32) (harg11 : arg11.IsWhole)
    (arg12 : Memref sig .tc .vmem S1x256 .f32) (harg12 : arg12.IsWhole)
    (arg13 : Memref sig .tc .vmem S768x32 .f32) (harg13 : arg13.IsWhole)
    (arg14 : Memref sig .tc .vmem S768x32 .f32) (harg14 : arg14.IsWhole)
    (arg15 : Memref sig .tc .vmem S768x256 .bf16) (harg15 : arg15.IsWhole)
    (arg16 : Memref sig .tc .vmem S768x256 .f32) (harg16 : arg16.IsWhole)
    (arg17 : Memref sig .tc .vmem S768x256 .fp8e4m3) (harg17 : arg17.IsWhole)
    (arg18 : Memref sig .tc .vmem S768x256 .fp8e4m3) (harg18 : arg18.IsWhole)
    (arg19 : Memref sig .tc .vmem S5120x512 .bf16) (harg19 : arg19.IsWhole)
    (hc0 : ¬head0 i) (hc1 : last0 i)
    (x0 : Vec F S40x24 .f32) (x1 : Vec F S40x2 .f32) (x2 : Vec F S40x2 .f32) (x3 : Vec F S1 .f32) (x4 : Vec F S1 .f32) (x5 : Vec F S768x5120 .bf16) (x6 : Vec F S5120x512 .fp8e4m3) (x7 : Vec F S5120x256 .fp8e4m3) (x8 : Vec F S5120x256 .fp8e4m3) (x9 : Vec F S1x256 .f32) (x10 : Vec F S1x256 .f32) (x11 : Vec F S768x32 .f32) (x12 : Vec F S768x32 .f32) :
    View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.1
        = keys x5 (weightsB c arg3 harg3 arg4 harg4 arg9 harg9 arg10 harg10 x1 x2 x7 x8) x10 x11 x12 x3
    ∧ View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.2.1
        = vals x5 (weightsB c arg3 harg3 arg4 harg4 arg9 harg9 arg10 harg10 x1 x2 x7 x8) x4 := by
  unfold kernelRun0_B
  dsimp only
  simp only [kernelRun0_B.sl.r_203, kernelRun0_B.sl.r_204, kernelRun0_B.sl.r_205, kernelRun0_B.sl.r_206, kernelRun0_B.sl.r_207, kernelRun0_B.sl.r_208]
  simp only [read_weights_B, View.readAt_eq_ld, Memref.IsWhole.read_unread]
  rw [View.ld_unit_zero hz0, View.ld_unit_zero hz0, View.ld_unit_zero hz0, View.ld_unit_zero hz0, View.ld_unit_zero hz1, View.ld_unit_zero hz1]
  exact ⟨(View.canon_unit_zero hz0 _ _).trans (congrArg _ (congrArg x3 (funext fun a => by fin_cases a; rfl))),
    (View.canon_unit_zero hz0 _ _).trans (congrArg _ (congrArg x4 (funext fun a => by fin_cases a; rfl)))⟩

/-! ## The stores cover the windows -/

theorem cover13_A (c : Dev nD) (i : grid0.Coords) (arg2 : Memref sig .tc .smem S40x24 .f32) (harg2 : arg2.IsWhole)
    (arg3 : Memref sig .tc .smem S40x2 .f32) (harg3 : arg3.IsWhole)
    (arg4 : Memref sig .tc .smem S40x2 .f32) (harg4 : arg4.IsWhole)
    (arg5 : Memref sig .tc .smem S1 .f32) (harg5 : arg5.IsWhole)
    (arg6 : Memref sig .tc .smem S1 .f32) (harg6 : arg6.IsWhole)
    (arg7 : Memref sig .tc .vmem S768x5120 .bf16) (harg7 : arg7.IsWhole)
    (arg8 : Memref sig .tc .vmem S5120x512 .fp8e4m3) (harg8 : arg8.IsWhole)
    (arg9 : Memref sig .tc .vmem S5120x256 .fp8e4m3) (harg9 : arg9.IsWhole)
    (arg10 : Memref sig .tc .vmem S5120x256 .fp8e4m3) (harg10 : arg10.IsWhole)
    (arg11 : Memref sig .tc .vmem S1x256 .f32) (harg11 : arg11.IsWhole)
    (arg12 : Memref sig .tc .vmem S1x256 .f32) (harg12 : arg12.IsWhole)
    (arg13 : Memref sig .tc .vmem S768x32 .f32) (harg13 : arg13.IsWhole)
    (arg14 : Memref sig .tc .vmem S768x32 .f32) (harg14 : arg14.IsWhole)
    (arg15 : Memref sig .tc .vmem S768x256 .bf16) (harg15 : arg15.IsWhole)
    (arg16 : Memref sig .tc .vmem S768x256 .f32) (harg16 : arg16.IsWhole)
    (arg17 : Memref sig .tc .vmem S768x256 .fp8e4m3) (harg17 : arg17.IsWhole)
    (arg18 : Memref sig .tc .vmem S768x256 .fp8e4m3) (harg18 : arg18.IsWhole)
    (arg19 : Memref sig .tc .vmem S5120x512 .bf16) (harg19 : arg19.IsWhole)
    (hc0 : head0 i) (hc1 : ¬last0 i)
    (x0 : Vec F S40x24 .f32) (x1 : Vec F S40x2 .f32) (x2 : Vec F S40x2 .f32) (x3 : Vec F S1 .f32) (x4 : Vec F S1 .f32) (x5 : Vec F S768x5120 .bf16) (x6 : Vec F S5120x512 .fp8e4m3) (x7 : Vec F S5120x256 .fp8e4m3) (x8 : Vec F S5120x256 .fp8e4m3) (x9 : Vec F S1x256 .f32) (x10 : Vec F S1x256 .f32) (x11 : Vec F S768x32 .f32) (x12 : Vec F S768x32 .f32) (y : S768x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).1 S768x256.size (by sl_kernel_rfl) y

theorem cover14_A (c : Dev nD) (i : grid0.Coords) (arg2 : Memref sig .tc .smem S40x24 .f32) (harg2 : arg2.IsWhole)
    (arg3 : Memref sig .tc .smem S40x2 .f32) (harg3 : arg3.IsWhole)
    (arg4 : Memref sig .tc .smem S40x2 .f32) (harg4 : arg4.IsWhole)
    (arg5 : Memref sig .tc .smem S1 .f32) (harg5 : arg5.IsWhole)
    (arg6 : Memref sig .tc .smem S1 .f32) (harg6 : arg6.IsWhole)
    (arg7 : Memref sig .tc .vmem S768x5120 .bf16) (harg7 : arg7.IsWhole)
    (arg8 : Memref sig .tc .vmem S5120x512 .fp8e4m3) (harg8 : arg8.IsWhole)
    (arg9 : Memref sig .tc .vmem S5120x256 .fp8e4m3) (harg9 : arg9.IsWhole)
    (arg10 : Memref sig .tc .vmem S5120x256 .fp8e4m3) (harg10 : arg10.IsWhole)
    (arg11 : Memref sig .tc .vmem S1x256 .f32) (harg11 : arg11.IsWhole)
    (arg12 : Memref sig .tc .vmem S1x256 .f32) (harg12 : arg12.IsWhole)
    (arg13 : Memref sig .tc .vmem S768x32 .f32) (harg13 : arg13.IsWhole)
    (arg14 : Memref sig .tc .vmem S768x32 .f32) (harg14 : arg14.IsWhole)
    (arg15 : Memref sig .tc .vmem S768x256 .bf16) (harg15 : arg15.IsWhole)
    (arg16 : Memref sig .tc .vmem S768x256 .f32) (harg16 : arg16.IsWhole)
    (arg17 : Memref sig .tc .vmem S768x256 .fp8e4m3) (harg17 : arg17.IsWhole)
    (arg18 : Memref sig .tc .vmem S768x256 .fp8e4m3) (harg18 : arg18.IsWhole)
    (arg19 : Memref sig .tc .vmem S5120x512 .bf16) (harg19 : arg19.IsWhole)
    (hc0 : head0 i) (hc1 : ¬last0 i)
    (x0 : Vec F S40x24 .f32) (x1 : Vec F S40x2 .f32) (x2 : Vec F S40x2 .f32) (x3 : Vec F S1 .f32) (x4 : Vec F S1 .f32) (x5 : Vec F S768x5120 .bf16) (x6 : Vec F S5120x512 .fp8e4m3) (x7 : Vec F S5120x256 .fp8e4m3) (x8 : Vec F S5120x256 .fp8e4m3) (x9 : Vec F S1x256 .f32) (x10 : Vec F S1x256 .f32) (x11 : Vec F S768x32 .f32) (x12 : Vec F S768x32 .f32) (y : S768x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.1 S768x256.size (by sl_kernel_rfl) y

theorem cover15_B (c : Dev nD) (i : grid0.Coords) (arg2 : Memref sig .tc .smem S40x24 .f32) (harg2 : arg2.IsWhole)
    (arg3 : Memref sig .tc .smem S40x2 .f32) (harg3 : arg3.IsWhole)
    (arg4 : Memref sig .tc .smem S40x2 .f32) (harg4 : arg4.IsWhole)
    (arg5 : Memref sig .tc .smem S1 .f32) (harg5 : arg5.IsWhole)
    (arg6 : Memref sig .tc .smem S1 .f32) (harg6 : arg6.IsWhole)
    (arg7 : Memref sig .tc .vmem S768x5120 .bf16) (harg7 : arg7.IsWhole)
    (arg8 : Memref sig .tc .vmem S5120x512 .fp8e4m3) (harg8 : arg8.IsWhole)
    (arg9 : Memref sig .tc .vmem S5120x256 .fp8e4m3) (harg9 : arg9.IsWhole)
    (arg10 : Memref sig .tc .vmem S5120x256 .fp8e4m3) (harg10 : arg10.IsWhole)
    (arg11 : Memref sig .tc .vmem S1x256 .f32) (harg11 : arg11.IsWhole)
    (arg12 : Memref sig .tc .vmem S1x256 .f32) (harg12 : arg12.IsWhole)
    (arg13 : Memref sig .tc .vmem S768x32 .f32) (harg13 : arg13.IsWhole)
    (arg14 : Memref sig .tc .vmem S768x32 .f32) (harg14 : arg14.IsWhole)
    (arg15 : Memref sig .tc .vmem S768x256 .bf16) (harg15 : arg15.IsWhole)
    (arg16 : Memref sig .tc .vmem S768x256 .f32) (harg16 : arg16.IsWhole)
    (arg17 : Memref sig .tc .vmem S768x256 .fp8e4m3) (harg17 : arg17.IsWhole)
    (arg18 : Memref sig .tc .vmem S768x256 .fp8e4m3) (harg18 : arg18.IsWhole)
    (arg19 : Memref sig .tc .vmem S5120x512 .bf16) (harg19 : arg19.IsWhole)
    (hc0 : ¬head0 i) (hc1 : last0 i)
    (x0 : Vec F S40x24 .f32) (x1 : Vec F S40x2 .f32) (x2 : Vec F S40x2 .f32) (x3 : Vec F S1 .f32) (x4 : Vec F S1 .f32) (x5 : Vec F S768x5120 .bf16) (x6 : Vec F S5120x512 .fp8e4m3) (x7 : Vec F S5120x256 .fp8e4m3) (x8 : Vec F S5120x256 .fp8e4m3) (x9 : Vec F S1x256 .f32) (x10 : Vec F S1x256 .f32) (x11 : Vec F S768x32 .f32) (x12 : Vec F S768x32 .f32) (y : S768x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.1 S768x256.size (by sl_kernel_rfl) y

theorem cover16_B (c : Dev nD) (i : grid0.Coords) (arg2 : Memref sig .tc .smem S40x24 .f32) (harg2 : arg2.IsWhole)
    (arg3 : Memref sig .tc .smem S40x2 .f32) (harg3 : arg3.IsWhole)
    (arg4 : Memref sig .tc .smem S40x2 .f32) (harg4 : arg4.IsWhole)
    (arg5 : Memref sig .tc .smem S1 .f32) (harg5 : arg5.IsWhole)
    (arg6 : Memref sig .tc .smem S1 .f32) (harg6 : arg6.IsWhole)
    (arg7 : Memref sig .tc .vmem S768x5120 .bf16) (harg7 : arg7.IsWhole)
    (arg8 : Memref sig .tc .vmem S5120x512 .fp8e4m3) (harg8 : arg8.IsWhole)
    (arg9 : Memref sig .tc .vmem S5120x256 .fp8e4m3) (harg9 : arg9.IsWhole)
    (arg10 : Memref sig .tc .vmem S5120x256 .fp8e4m3) (harg10 : arg10.IsWhole)
    (arg11 : Memref sig .tc .vmem S1x256 .f32) (harg11 : arg11.IsWhole)
    (arg12 : Memref sig .tc .vmem S1x256 .f32) (harg12 : arg12.IsWhole)
    (arg13 : Memref sig .tc .vmem S768x32 .f32) (harg13 : arg13.IsWhole)
    (arg14 : Memref sig .tc .vmem S768x32 .f32) (harg14 : arg14.IsWhole)
    (arg15 : Memref sig .tc .vmem S768x256 .bf16) (harg15 : arg15.IsWhole)
    (arg16 : Memref sig .tc .vmem S768x256 .f32) (harg16 : arg16.IsWhole)
    (arg17 : Memref sig .tc .vmem S768x256 .fp8e4m3) (harg17 : arg17.IsWhole)
    (arg18 : Memref sig .tc .vmem S768x256 .fp8e4m3) (harg18 : arg18.IsWhole)
    (arg19 : Memref sig .tc .vmem S5120x512 .bf16) (harg19 : arg19.IsWhole)
    (hc0 : ¬head0 i) (hc1 : last0 i)
    (x0 : Vec F S40x24 .f32) (x1 : Vec F S40x2 .f32) (x2 : Vec F S40x2 .f32) (x3 : Vec F S1 .f32) (x4 : Vec F S1 .f32) (x5 : Vec F S768x5120 .bf16) (x6 : Vec F S5120x512 .fp8e4m3) (x7 : Vec F S5120x256 .fp8e4m3) (x8 : Vec F S5120x256 .fp8e4m3) (x9 : Vec F S1x256 .f32) (x10 : Vec F S1x256 .f32) (x11 : Vec F S768x32 .f32) (x12 : Vec F S768x32 .f32) (y : S768x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.2.1 S768x256.size (by sl_kernel_rfl) y

end Cert.QkvIdeal.Gen

end
-- ==== Proof.QkvIdealFrame.lean ====
/- The qkv kernel from launch to end. The first six steps of a row block each store one head's queries and gates; the
   seventh stores the codes of the keys and the values. At the seventh step the windows of the queries and the gates
   are not touched and hold what the sixth step left, and are written back then; so what they hold after a step is
   named by the last head step at or before it (`hd`). -/
module

public import proofs.«01_k».proof.Proof.QkvIdealStep

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The head steps -/

/-- The last head step at or before point `t`. -/
def hd (t : Fin cfg0.N) : Fin cfg0.N :=
  if t.val % 7 = 6 then ⟨t.val - 1, Nat.lt_of_le_of_lt (Nat.sub_le _ _) t.isLt⟩ else t

theorem hd_head (t : Fin cfg0.N) : head0 (grid0.coords (hd t)) := by
  rw [hhead0]
  unfold hd
  split_ifs with h
  · show (t.val - 1) % 7 ≤ 5
    omega
  · omega

theorem hd_self (t : Fin cfg0.N) (h : head0 (grid0.coords t)) : hd t = t := by
  have := (hhead0 t).mp h
  unfold hd
  rw [if_neg (by omega)]

theorem hd_prev (t : Fin cfg0.N) (h : last0 (grid0.coords t)) :
    hd t = ⟨t.val - 1, Nat.lt_of_le_of_lt (Nat.sub_le _ _) t.isLt⟩ := by
  unfold hd
  rw [if_pos ((hlast0 t).mp h)]

theorem prev_head (t : Fin cfg0.N) (h : last0 (grid0.coords t)) :
    head0 (grid0.coords ⟨t.val - 1, Nat.lt_of_le_of_lt (Nat.sub_le _ _) t.isLt⟩) := by
  rw [← hd_prev t h]; exact hd_head t

/-- The sixth step does not write the queries' block back, -/
theorem noFlush0_13_prev : ∀ t : Fin cfg0.N, last0 (grid0.coords t) →
    (cfg0.win 13).flush ⟨t.val - 1, Nat.lt_of_le_of_lt (Nat.sub_le _ _) t.isLt⟩ = false := by decide +kernel
/-- nor the gates'. -/
theorem noFlush0_14_prev : ∀ t : Fin cfg0.N, last0 (grid0.coords t) →
    (cfg0.win 14).flush ⟨t.val - 1, Nat.lt_of_le_of_lt (Nat.sub_le _ _) t.isLt⟩ = false := by decide +kernel

/-- The widened weight block of a head step. -/
def wtileA (c : Dev nD) (t : Fin cfg0.N) (h : head0 (grid0.coords t)) : Vec F S5120x512 .bf16 :=
  weightsA c (grid0.coords t) (ms0_0 t) (hs0_0 t) (ms0_6 t) (hs0_6 t) h (iblk m c 0 t) (iblk m c 6 t)

/-- The widened weight block of the last step. -/
def wtileB (c : Dev nD) (t : Fin cfg0.N) : Vec F S5120x512 .bf16 :=
  weightsB c (ms0_1 t) (hs0_1 t) (ms0_2 t) (hs0_2 t) (ms0_7 t) (hs0_7 t) (ms0_8 t) (hs0_8 t) (iblk m c 1 t) (iblk m c 2 t) (iblk m c 7 t) (iblk m c 8 t)

/-- A head step's queries. -/
def queryAt (c : Dev nD) (t : Fin cfg0.N) (h : head0 (grid0.coords t)) : Vec F S768x256 .bf16 :=
  query (iblk m c 5 t) (wtileA m c t h) (iblk m c 9 t) (iblk m c 11 t) (iblk m c 12 t)

/-- A head step's gates. -/
def gateAt (c : Dev nD) (t : Fin cfg0.N) (h : head0 (grid0.coords t)) : Vec F S768x256 .f32 :=
  gate (iblk m c 5 t) (wtileA m c t h)

/-- The last step's key codes. -/
def keysAt (c : Dev nD) (t : Fin cfg0.N) : Vec F S768x256 .fp8e4m3 :=
  keys (iblk m c 5 t) (wtileB m c t) (iblk m c 10 t) (iblk m c 11 t) (iblk m c 12 t) (iblk m c 3 t)

/-- The last step's value codes. -/
def valsAt (c : Dev nD) (t : Fin cfg0.N) : Vec F S768x256 .fp8e4m3 :=
  vals (iblk m c 5 t) (wtileB m c t) (iblk m c 4 t)

theorem queryAt_congr (c : Dev nD) {t t' : Fin cfg0.N} (e : t = t') (h : head0 (grid0.coords t)) (h' : head0 (grid0.coords t')) :
    queryAt m c t h = queryAt m c t' h' := by subst e; rfl

theorem gateAt_congr (c : Dev nD) {t t' : Fin cfg0.N} (e : t = t') (h : head0 (grid0.coords t)) (h' : head0 (grid0.coords t')) :
    gateAt m c t h = gateAt m c t' h' := by subst e; rfl

/-! ## The pipeline's proof data -/

/-- The invariant: the weight scratch at anything. -/
def PhiS (c : Dev nD) : sProp 𝕄 :=
  iprop((∃ d, owns (c : Thread nD τ) scM0_0 fullShare d) ∗ (∃ r, prngReg c r))

/-- After the body at point `t` each input's buffer holds its block and each output's the step's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => queryAt m c (hd t) (hd_head t)
    | ⟨14, _⟩ => gateAt m c (hd t) (hd_head t)
    | ⟨15, _⟩ => keysAt m c t
    | ⟨16, _⟩ => valsAt m c t
    | ⟨n + 17, h⟩ => absurd h (Nat.not_lt.mpr (Nat.le_add_left 17 n))
  Φ _ := PhiS c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = queryAt m c (hd t) (hd_head t) := by dsimp only [dats]
theorem after0_14 (c : Dev nD) (t : Fin cfg0.N) : (dats m 0 c).after 14 t = gateAt m c (hd t) (hd_head t) := by dsimp only [dats]
theorem after0_15 (c : Dev nD) (t : Fin cfg0.N) : (dats m 0 c).after 15 t = keysAt m c t := by dsimp only [dats]
theorem after0_16 (c : Dev nD) (t : Fin cfg0.N) : (dats m 0 c).after 16 t = valsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- At the last step the queries' buffer holds what the sixth step left. -/
theorem before0_13 (c : Dev nD) (t : Fin cfg0.N) (h : last0 (grid0.coords t)) (d) :
    (dats m 0 c).before 13 t d = queryAt m c (hd t) (hd_head t) := by
  have ht : t.val ≠ 0 := by have := (hlast0 t).mp h; omega
  rw [(dats m 0 c).before_of_pos 13 t ht ((cfg0.win 13).fetch_out rfl t), noFlush0_13_prev t h, if_neg Bool.false_ne_true]
  unfold Dat.left
  rw [liveAt0_13_A _ (prev_head t h)]
  unfold Dat.kept
  rw [Pipeline.fill_of_clip_none 13 _ (fun _ => rfl) d ((dats m 0 c).after 13 _), Window.fill_cut, after0_13]
  exact queryAt_congr m c ((hd_self _ (prev_head t h)).trans (hd_prev t h).symm) _ _

/-- At the last step the gates' buffer holds what the sixth step left. -/
theorem before0_14 (c : Dev nD) (t : Fin cfg0.N) (h : last0 (grid0.coords t)) (d) :
    (dats m 0 c).before 14 t d = gateAt m c (hd t) (hd_head t) := by
  have ht : t.val ≠ 0 := by have := (hlast0 t).mp h; omega
  rw [(dats m 0 c).before_of_pos 14 t ht ((cfg0.win 14).fetch_out rfl t), noFlush0_14_prev t h, if_neg Bool.false_ne_true]
  unfold Dat.left
  rw [liveAt0_14_A _ (prev_head t h)]
  unfold Dat.kept
  rw [Pipeline.fill_of_clip_none 14 _ (fun _ => rfl) d ((dats m 0 c).after 14 _), Window.fill_cut, after0_14]
  exact gateAt_congr m c ((hd_self _ (prev_head t h)).trans (hd_prev t h).symm) _ _

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = PhiS c from rfl, show (dats m 0 c).Φ t.castSucc = PhiS c from rfl]
  unfold PhiS
  by_cases h : t.val % 7 = 6
  · have h1 : last0 (grid0.coords t) := (hlast0 t).mpr h
    have h0 : ¬head0 (grid0.coords t) := fun g => by have := (hhead0 t).mp g; omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [idleAt0_13_B t h1, flushes0_13_B t h1], after0_13]
    rw [show (dats m 0 c).leavesExact 14 t = owns (c : Thread nD τ) (ms0_14 t) fullShare ((dats m 0 c).after 14 t) from by
      unfold Dat.leavesExact; rw [idleAt0_14_B t h1, flushes0_14_B t h1], after0_14]
    rw [show (dats m 0 c).leavesExact 15 t = owns (c : Thread nD τ) (ms0_15 t) fullShare ((dats m 0 c).after 15 t) from by
      unfold Dat.leavesExact; rw [liveAt0_15_B t h1], after0_15]
    rw [show (dats m 0 c).leavesExact 16 t = owns (c : Thread nD τ) (ms0_16 t) fullShare ((dats m 0 c).after 16 t) from by
      unfold Dat.leavesExact; rw [liveAt0_16_B t h1], after0_16]
    simp only [before0_13 m c t h1, before0_14 m c t h1]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    have hrun := run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    iapply ((kernelRun0_B c (grid0.coords t) _ _ _ _ _ _ _ _ _ _ _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [HS0]; · iexact HS0
    iintro ⟨H0, H1, H2, H3, H4, H5, H6, H7, H8, H9, H10, H11, H12, H13, H14, ⟨%e15, H15⟩, ⟨%e16, H16⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexact H13
    isplitl [H14]
    · iexact H14
    isplitl [H15]
    · unfold owns; iexists _; isplitr
      swap; · iexact H15
      ipureintro
      exact (View.read_writes_eq_canon _ _ _ (cover15_B c _ _ _ _ _ _ _ _ _ _ _ _ _ _ _ _ _ _ _ _ _ _ _ _ _ _ _ _ _ _ _ _ _ _ _ _ _ h0 h1 _ _ _ _ _ _ _ _ _ _ _ _ _ )).trans hrun.1
    unfold owns; iexists _; isplitr
    swap; · iexact H16
    ipureintro
    exact (View.read_writes_eq_canon _ _ _ (cover16_B c _ _ _ _ _ _ _ _ _ _ _ _ _ _ _ _ _ _ _ _ _ _ _ _ _ _ _ _ _ _ _ _ _ _ _ _ _ h0 h1 _ _ _ _ _ _ _ _ _ _ _ _ _ )).trans hrun.2
  · have h1 : ¬last0 (grid0.coords t) := fun g => h ((hlast0 t).mp g)
    have h0 : head0 (grid0.coords t) := (hhead0 t).mpr (by omega)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13_A t h0], after0_13]
    rw [show (dats m 0 c).leavesExact 14 t = owns (c : Thread nD τ) (ms0_14 t) fullShare ((dats m 0 c).after 14 t) from by
      unfold Dat.leavesExact; rw [liveAt0_14_A t h0], after0_14]
    rw [queryAt_congr m c (hd_self t h0) (hd_head t) h0, gateAt_congr m c (hd_self t h0) (hd_head t) h0]
    rw [Dat.leavesExact_idle (dats m 0 c) 15 t (idleAt0_15_A t h0) (noFlush0_15_A t h0)]
    rw [Dat.leavesExact_idle (dats m 0 c) 16 t (idleAt0_16_A t h0) (noFlush0_16_A t h0)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    have hrun := run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    iapply ((kernelRun0_A c (grid0.coords t) _ _ _ _ _ _ _ _ _ _ _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexact H15
    isplitl [H16]; · iexact H16
    isplitl [HS0]; · iexact HS0
    iintro ⟨H0, H1, H2, H3, H4, H5, H6, H7, H8, H9, H10, H11, H12, ⟨%e13, H13⟩, ⟨%e14, H14⟩, H15, H16, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro
      exact (View.read_writes_eq_canon _ _ _ (cover13_A c _ _ _ _ _ _ _ _ _ _ _ _ _ _ _ _ _ _ _ _ _ _ _ _ _ _ _ _ _ _ _ _ _ _ _ _ _ h0 h1 _ _ _ _ _ _ _ _ _ _ _ _ _ )).trans hrun.1
    isplitl [H14]
    · unfold owns; iexists _; isplitr
      swap; · iexact H14
      ipureintro
      exact (View.read_writes_eq_canon _ _ _ (cover14_A c _ _ _ _ _ _ _ _ _ _ _ _ _ _ _ _ _ _ _ _ _ _ _ _ _ _ _ _ _ _ _ _ _ _ _ _ _ h0 h1 _ _ _ _ _ _ _ _ _ _ _ _ _ )).trans hrun.2
    isplitl [H15]
    · iexists _; iexact H15
    iexists _; iexact H16

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point; -/
theorem hin (c : Dev nD) : Pipeline.ΦA spec0 c ⊢ (dats m 0 c).Φ 0 := by
  rw [show (dats m 0 c).Φ 0 = PhiS c from rfl, PhiA0_eq]
  unfold PhiS
  iintro ⟨HS0, Hg⟩
  isplitl [HS0]; · iexact HS0
  iexact Hg

/-- and after the last point it is what the launch handed over. -/
theorem hout (c : Dev nD) : (dats m 0 c).Φ (Fin.last cfg0.N) ⊢ Pipeline.ΦA spec0 c := by
  rw [show (dats m 0 c).Φ (Fin.last cfg0.N) = PhiS c from rfl, PhiA0_eq]
  unfold PhiS
  iintro ⟨HS0, Hg⟩
  isplitl [HS0]; · iexact HS0
  iexact Hg

/-! ## The run and the frame -/

set_option backward.isDefEq.respectTransparency.types false in
/-- Every execution ends with the arrays at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The frame: the argument arrays end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.QkvIdeal.Gen

end
-- ==== Proof.Rope.lean ====
/- The two row operations of the attention inputs over the extended reals, as the reference states them: the norm of one
   head's 256 values and the rotation of its first 64. Beside each, the form a kernel writes it in, and that the two are
   the same number at every input, infinite ones too. -/
module

public import Idealize.ShloMosaic.Adequacy
public import Idealize.ShloMosaic.Init
public import Idealize.ShloMosaic.Lib.Pipeline.ValueKit
public import Idealize.ShloMosaic.Lib.Pointwise

@[expose] public section

set_option maxRecDepth 16384

noncomputable section

namespace Cert.Layer

open Idealize.ShloMosaic

/-- The root of a row's mean square, kept off zero. -/
def rms (t : Fin 256 → EReal) : EReal :=
  Ideal.sqrt (Ideal.div (∑ x, t x * t x) (Ideal.ofBits .f32 0x43800000#32) + Ideal.ofBits .f32 0x358637BD#32)

/-- A row over the root of its mean square, times one plus the weight. -/
def headNorm (t w : Fin 256 → EReal) (j : Fin 256) : EReal := Ideal.div (t j) (rms t) * (1 + w j)

/-- The first 64 values turned in pairs `(j, 32 + j)`, the others kept. -/
def rope (v : Fin 256 → EReal) (c s : Fin 32 → EReal) (j : Fin 256) : EReal :=
  if h : j.val < 32 then v j * c ⟨j.val, h⟩ - v ⟨32 + j.val, by omega⟩ * s ⟨j.val, h⟩
  else if h' : j.val < 64 then v j * c ⟨j.val - 32, by omega⟩ + v ⟨j.val - 32, by omega⟩ * s ⟨j.val - 32, by omega⟩
  else v j

/-- A value over a scale, clipped to the range of the codes. -/
def clip (x s : EReal) : EReal :=
  min (Ideal.ofBits .f32 0x43E00000#32) (max (Ideal.ofBits .f32 0xC3E00000#32) (Ideal.div x s))

theorem bits_256 : Ideal.ofBits FTy.f32 0x43800000#32 = ((256 : ℝ) : EReal) := by
  show Ideal.ieee 8 23 0x43800000#32 = _
  have e1 : ((0x43800000#32).extractLsb' (8 + 23) 1 == 1#1) = false := by decide
  have e2 : ((0x43800000#32).extractLsb' 23 8).toNat = 135 := by decide
  have e3 : ((0x43800000#32).extractLsb' 0 23).toNat = 0 := by decide
  unfold Ideal.ieee
  simp only [e1, e2, e3]
  rw [if_neg (by decide), if_neg (by decide)]
  refine congrArg _ ?_
  norm_num

theorem bits_inv256 : Ideal.ofBits FTy.f32 0x3B800000#32 = ((1 / 256 : ℝ) : EReal) := by
  show Ideal.ieee 8 23 0x3B800000#32 = _
  have e1 : ((0x3B800000#32).extractLsb' (8 + 23) 1 == 1#1) = false := by decide
  have e2 : ((0x3B800000#32).extractLsb' 23 8).toNat = 119 := by decide
  have e3 : ((0x3B800000#32).extractLsb' 0 23).toNat = 0 := by decide
  unfold Ideal.ieee
  simp only [e1, e2, e3]
  rw [if_neg (by decide), if_neg (by decide)]
  refine congrArg _ ?_
  norm_num

theorem bits_eps_pos : 0 < Ideal.ofBits FTy.f32 0x358637BD#32 := by
  show 0 < Ideal.ieee 8 23 0x358637BD#32
  have e1 : ((0x358637BD#32).extractLsb' (8 + 23) 1 == 1#1) = false := by decide
  have e2 : ((0x358637BD#32).extractLsb' 23 8).toNat = 107 := by decide
  have e3 : ((0x358637BD#32).extractLsb' 0 23).toNat = 407485 := by decide
  unfold Ideal.ieee
  simp only [e1, e2, e3]
  rw [if_neg (by decide), if_neg (by decide)]
  refine EReal.coe_pos.2 ?_
  norm_num

/-- The mean as a product with 1/256. -/
theorem mean_eq (x : EReal) : x * Ideal.ofBits .f32 0x3B800000#32 = Ideal.div x (Ideal.ofBits .f32 0x43800000#32) := by
  rw [bits_256, bits_inv256, Ideal.div_coe (by norm_num)]

theorem mul_self_nonneg (x : EReal) : 0 ≤ x * x := by
  rcases le_total 0 x with h | h
  · exact EReal.mul_nonneg h h
  · have h' : 0 ≤ -x := by simpa using EReal.neg_le_neg_iff.2 h
    have := EReal.mul_nonneg h' h'
    rwa [neg_mul, mul_neg, neg_neg] at this

theorem sqrt_ne_zero {x : EReal} (h : 0 < x) : Ideal.sqrt x ≠ 0 := by
  induction x using EReal.rec with
  | bot => exact absurd h (by simp)
  | top => exact EReal.top_ne_zero
  | coe r =>
    have hr : 0 < r := EReal.coe_pos.1 h
    show (if r < 0 then ⊥ else (Real.sqrt r : EReal)) ≠ 0
    rw [if_neg (by linarith)]
    exact_mod_cast (Real.sqrt_pos.2 hr).ne'

theorem rms_ne_zero (t : Fin 256 → EReal) : rms t ≠ 0 := by
  unfold rms
  refine sqrt_ne_zero ?_
  rw [← mean_eq, bits_inv256]
  refine lt_of_lt_of_le bits_eps_pos (le_add_of_nonneg_left (EReal.mul_nonneg ?_ ?_))
  · exact Finset.sum_nonneg fun x _ => mul_self_nonneg (t x)
  · exact EReal.coe_nonneg.2 (by norm_num)

/-- A quotient is the product with the reciprocal, off zero. -/
theorem div_recip (a b : EReal) (hb : b ≠ 0) : a * Ideal.div 1 b = Ideal.div a b := by
  unfold Ideal.div
  rw [if_neg hb, if_neg hb, one_mul]

/-- The norm as a kernel writes it: the mean a product with 1/256, the quotient a product with the reciprocal. -/
theorem headNorm_of (t w : Fin 256 → EReal) (j : Fin 256) :
    t j * Ideal.div 1 (Ideal.sqrt ((∑ x, t x * t x) * Ideal.ofBits .f32 0x3B800000#32 + Ideal.ofBits .f32 0x358637BD#32)) * (1 + w j)
      = headNorm t w j := by
  unfold headNorm
  rw [mean_eq]
  show t j * Ideal.div 1 (rms t) * _ = _
  rw [div_recip _ _ (rms_ne_zero t)]

/-- The first half of the rotation as a kernel writes it: a sum with the sine negated. -/
theorem sub_of_add (a b c s : EReal) : a * c + b * (0 - s) = a * c - b * s := by
  rw [zero_sub, mul_neg, sub_eq_add_neg]

end Cert.Layer

end
-- ==== Proof.QkvPay.lean ====
/- The qkv kernel's vector operations over the reals, element by element: the products, the norm of a head, its rotation
   (written with two lane rolls and a selection) and the codes of the keys and values. -/
module

public import proofs.«01_k».proof.Proof.Gen.QkvIdeal.Skeleton
public import proofs.«01_k».proof.Proof.Rope

@[expose] public section

set_option maxRecDepth 16384

noncomputable section

namespace Cert.QkvIdeal.Gen

open Idealize.ShloMosaic Idealize.ShloMosaic.TcCoe Idealize.ShloMosaic.Tactic Cert.Layer

variable (X : Vec Ideal S768x5120 .bf16) (W : Vec Ideal S5120x512 .bf16)

theorem p194 (r : Fin 768) (j : Fin 512) : k0_pay194 X W (ix2 r j) = ∑ x, (X (ix2 r x) : EReal) * W (ix2 x j) := by
  pointwise [k0_pay194]

theorem p395 (r : Fin 768) (j : Fin 512) : k0_pay395 X W (ix2 r j) = ∑ x, (X (ix2 r x) : EReal) * W (ix2 x j) := by
  pointwise [k0_pay395]

theorem p1 (P : FVec Ideal S768x512 .f32) (r : Fin 768) (j : Fin 256) : k0_pay1 P (ix2 r j) = P (ix2 r ⟨256 + j.val, by omega⟩) := by
  pointwise [k0_pay1]

theorem p396 (r : Fin 768) (j : Fin 256) : k0_pay396 X W (ix2 r j) = k0_pay395 X W (ix2 r ⟨j.val, by omega⟩) := by
  pointwise [k0_pay396]

/-- A block of 256 columns normed as the kernel writes it. -/
def normBlock (v : FVec Ideal S768x256 .f32) (w : Vec Ideal S1x256 .f32) : FVec Ideal S768x256 .f32 :=
  mulf (mulf v (broadcastTo S768x256 (divf (broadcast S768x1 (Scalar.ofBits .f32 0x3F800000#32))
    (sqrt (addf (mulf (shapeCast S768x1 (multiReduction .add [1] S768 (mulf v v) 0x00000000#32 reduces_S768x256_S768 (.inl rfl) rfl) shapeCasts_S768_S768x1)
      (broadcast S768x1 (Scalar.ofBits .f32 0x3B800000#32))) (broadcast S768x1 (Scalar.ofBits .f32 0x358637BD#32))))) broadcasts_S768x1_S768x256))
    (broadcastTo S768x256 (addf (broadcast S1x256 (Scalar.ofBits .f32 0x3F800000#32)) w) broadcasts_S1x256_S768x256)

/-- The first 128 lanes rolled by 32 one way or the other. -/
def partner (v : FVec Ideal S768x128 .f32) : FVec Ideal S768x128 .f32 :=
  select (cmpi .slt (iota .tc S768x128 32 [1] iota_S768x128_d1_w32) (broadcast S768x128 32#32))
    (dynamicRotate 1 96#32 none v rotates_S768x128_d1) (dynamicRotate 1 32#32 none v rotates_S768x128_d1)

/-- A block of 256 columns rotated as the kernel writes it. -/
def ropeBlock (v : FVec Ideal S768x256 .f32) (c s : Vec Ideal S768x32 .f32) : FVec Ideal S768x256 .f32 :=
  concatenate S768x256 1 [⟨S768x128, select (cmpi .slt (iota .tc S768x128 32 [1] iota_S768x128_d1_w32) (broadcast S768x128 64#32))
      (addf (mulf (extractStridedSlice S768x128 ![0, 0] v slices_S768x256_o0_0_S768x128) (k0_pay198 c))
        (mulf (partner (extractStridedSlice S768x128 ![0, 0] v slices_S768x256_o0_0_S768x128)) (k0_pay199 s)))
      (extractStridedSlice S768x128 ![0, 0] v slices_S768x256_o0_0_S768x128)⟩,
    ⟨S768x128, extractStridedSlice S768x128 ![0, 128] v slices_S768x256_o0_128_S768x128⟩] concatenates_S768x128_S768x128_S768x256_d1

/-- A block over a scale, clipped and stored as codes. -/
def codeBlock (v : FVec Ideal S768x256 .f32) (s : Elt Ideal .f32) : FVec Ideal S768x256 .fp8e4m3 :=
  truncf .fp8e4m3 (minimumf (broadcast S768x256 (Scalar.ofBits .f32 0x43E00000#32))
    (maximumf (broadcast S768x256 (Scalar.ofBits .f32 0xC3E00000#32)) (divf v (broadcast S768x256 s)))) bitsLt_fp8e4m3_f32

theorem query_eq (qn : Vec Ideal S1x256 .f32) (c s : Vec Ideal S768x32 .f32) :
    k0_pay202 (k0_pay195 X W qn) (k0_pay196 X W qn) (iota .tc S768x128 32 [1] iota_S768x128_d1_w32) (k0_pay198 c) (k0_pay199 s)
        (k0_pay200 X W qn) k0_pay201
      = truncf .bf16 (ropeBlock (normBlock (extractStridedSlice S768x256 ![0, 0] (k0_pay194 X W) slices_S768x512_o0_0_S768x256) qn) c s) bitsLt_bf16_f32 := rfl

theorem key_eq (kn : Vec Ideal S1x256 .f32) (c s : Vec Ideal S768x32 .f32) (ks : Elt Ideal .f32) :
    k0_pay398 (k0_pay396 X W) kn (k0_pay397 X W) (Scalar.ofBits .f32 0x358637BD#32) c s ks
      = codeBlock (ropeBlock (normBlock (k0_pay396 X W) kn) c s) ks := rfl

theorem value_eq (P : FVec Ideal S768x512 .f32) (vs : Elt Ideal .f32) :
    k0_pay399 P vs = codeBlock (k0_pay1 P) vs := rfl

theorem codeBlock_apply (v : FVec Ideal S768x256 .f32) (s : Elt Ideal .f32) (r : Fin 768) (j : Fin 256) :
    codeBlock v s (ix2 r j) = clip (v (ix2 r j)) s := by
  unfold clip
  pointwise [codeBlock]

theorem normBlock_apply (v : FVec Ideal S768x256 .f32) (w : Vec Ideal S1x256 .f32) (r : Fin 768) (j : Fin 256) :
    normBlock v w (ix2 r j) = headNorm (fun x => v (ix2 r x)) (fun x => w (ix2 0 x)) j := by
  rw [← headNorm_of]
  pointwise [normBlock]

theorem p198 (c : Vec Ideal S768x32 .f32) (r : Fin 768) (l : Fin 128) :
    k0_pay198 c (ix2 r l) = if h : l.val < 32 then c (ix2 r ⟨l.val, h⟩) else if h' : l.val < 64 then c (ix2 r ⟨l.val - 32, by omega⟩) else 0 := by
  pointwise [k0_pay198, k0_pay197]
  by_cases h : l.val < 32
  · simp only [h, dif_pos]
  · by_cases h' : l.val < 64
    · simp only [h, h', dif_pos, dif_neg, not_false_eq_true, show l.val - 32 < 32 by omega]
    · simp only [h, h', dif_neg, not_false_eq_true, show ¬(l.val - 32 < 32) by omega]

theorem p199 (s : Vec Ideal S768x32 .f32) (r : Fin 768) (l : Fin 128) :
    k0_pay199 s (ix2 r l) = if h : l.val < 32 then (0 : EReal) - s (ix2 r ⟨l.val, h⟩) else if h' : l.val < 64 then s (ix2 r ⟨l.val - 32, by omega⟩) else 0 := by
  pointwise [k0_pay199, k0_pay197]
  by_cases h : l.val < 32
  · simp only [h, dif_pos]
  · by_cases h' : l.val < 64
    · simp only [h, h', dif_pos, dif_neg, not_false_eq_true, show l.val - 32 < 32 by omega]
    · simp only [h, h', dif_neg, not_false_eq_true, show ¬(l.val - 32 < 32) by omega]

/-- The word comparison of a lane with a bound. -/
theorem lane_lt {α : Type} (l n : ℕ) (hl : l < 256) (hn : n < 256) (x y : α) :
    Scalar.select (IntOp.cmpi .slt (BitVec.ofNat 32 l) (BitVec.ofNat 32 n)) x y = if l < n then x else y := by
  have h : (BitVec.ofNat 32 l).slt (BitVec.ofNat 32 n) = decide (l < n) :=
    (by decide +kernel : ∀ l n : Fin 256, (BitVec.ofNat 32 l.val).slt (BitVec.ofNat 32 n.val) = decide (l.val < n.val)) ⟨l, hl⟩ ⟨n, hn⟩
  show (if BitVec.ofBool ((BitVec.ofNat 32 l).slt (BitVec.ofNat 32 n)) = 1#1 then x else y) = _
  rw [h]
  by_cases hc : l < n <;> simp [hc]

theorem partner_apply (v : FVec Ideal S768x128 .f32) (r : Fin 768) (l : Fin 128) :
    partner v (ix2 r l) = if l.val < 32 then v (ix2 r ⟨(l.val + 32) % 128, by omega⟩) else v (ix2 r ⟨(l.val + 96) % 128, by omega⟩) := by
  pointwise [partner]
  refine (lane_lt l.val 32 (by omega) (by decide) _ _).trans ?_
  refine if_congr Iff.rfl (congrArg _ (congrArg _ (Fin.ext ?_))) (congrArg _ (congrArg _ (Fin.ext ?_))) <;> dsimp only <;> omega

theorem ropeBlock_apply (v : FVec Ideal S768x256 .f32) (c s : Vec Ideal S768x32 .f32) (r : Fin 768) (j : Fin 256) :
    ropeBlock v c s (ix2 r j) = rope (fun x => v (ix2 r x)) (fun x => c (ix2 r x)) (fun x => s (ix2 r x)) j := by
  pointwise [ropeBlock, partner_apply, p198, p199]
  unfold rope
  by_cases h : j.val < 32
  · rw [dif_pos (show j.val < 128 by omega)]
    refine (lane_lt j.val 64 (by omega) (by decide) _ _).trans ?_
    rw [if_pos (show j.val < 64 by omega)]
    simp only [h, dif_pos, if_true]
    refine (sub_of_add _ _ _ _).trans ?_
    refine congrArg (fun q : Fin 256 => v (ix2 r j) * c (ix2 r ⟨j.val, h⟩) - v (ix2 r q) * s (ix2 r ⟨j.val, h⟩)) (Fin.ext ?_)
    dsimp only; omega
  · by_cases h' : j.val < 64
    · rw [dif_pos (show j.val < 128 by omega)]
      refine (lane_lt j.val 64 (by omega) (by decide) _ _).trans ?_
      rw [if_pos h']
      simp only [h, h', dif_pos, dif_neg, not_false_eq_true, if_false]
      refine congrArg (fun q : Fin 256 => v (ix2 r j) * c (ix2 r ⟨j.val - 32, by omega⟩) + v (ix2 r q) * s (ix2 r ⟨j.val - 32, by omega⟩)) (Fin.ext ?_)
      dsimp only; omega
    · simp only [h, h', dif_neg, not_false_eq_true]
      by_cases h'' : j.val < 128
      · rw [dif_pos h'']
        refine (lane_lt j.val 64 (by omega) (by decide) _ _).trans ?_
        rw [if_neg h']
      · rw [dif_neg h'']
        exact congrArg _ (congrArg _ (Fin.ext (by dsimp only; omega)))

end Cert.QkvIdeal.Gen

end
-- ==== Proof.QkvWide.lean ====
/- The widened weight block of the qkv kernel: at a head step, the 512 columns of one head's queries and gates; at the
   last step, the 256 columns of the keys beside the 256 columns of the values; every code times the scale of its tile. -/
module

public import proofs.«01_k».proof.Proof.QkvIdealStep
public import proofs.«01_k».proof.Proof.Widen

@[expose] public section

set_option maxRecDepth 16384

noncomputable section

namespace Cert.QkvIdeal.Gen

open Idealize.ShloMosaic Idealize.ShloMosaic.TcCoe Idealize.ShloMosaic.Tactic Cert.Layer

theorem hK : ∀ k < 5120, k / 128 < 40 := by omega

theorem hC2 : ∀ c < 256, 0 + c / 128 < 2 := by omega

/-- The heads are numbered 0 to 5. -/
theorem head_le (i : grid0.Coords) (hc0 : head0 i) : (i 1).val ≤ 5 := by
  have key : ∀ n : Fin 7, Scalar.cmpi .ne (Scalar.extui (Scalar.cmpi .slt (BitVec.ofNat 32 n.val) 6#32) : BitVec 32) 0#32 = 1#1 → n.val ≤ 5 := by decide
  exact key (i 1) hc0

theorem hA (i : grid0.Coords) (hc0 : head0 i) : ∀ c < 512, (i 1).val * 4 + c / 128 < 24 := by
  have h := head_le i hc0
  omega

/-! ## A head step -/

set_option maxHeartbeats 8000000 in
/-- Each of the body's 160 stores into the scratch array is a tile of the widened block. -/
theorem pieces_A (c : Dev nD) (i : grid0.Coords) (arg2 : Memref sig .tc .smem S40x24 .f32) (harg2 : arg2.IsWhole)
    (arg8 : Memref sig .tc .vmem S5120x512 .fp8e4m3) (harg8 : arg8.IsWhole) (hc0 : head0 i)
    (x0 : Vec Ideal S40x24 .f32) (x6 : Vec Ideal S5120x512 .fp8e4m3) :
    ∀ p ∈ kernelRun0_A.sl.HS0_160 c i arg2 harg2 arg8 harg8 hc0 x0 x6, ∀ x,
      p.2 x = wide ((i 1).val * 4) hK (hA i hc0) x0 x6 (p.1.emb x) := by
  have hi : (i 1).val < 256 := lt_trans (i 1).isLt (by decide)
  unfold kernelRun0_A.sl.HS0_160
  iterate 160 refine List.forall_mem_cons.2 ⟨fun x => ((tile_apply _ _ _ _ _ x).trans (tile_piece _ hK (hA i hc0) arg2 harg2 arg8
    harg8 x0 x6 _ _ _ _ _ _ _ rfl (col_toNat (i 1).val 4 _ hi (by decide) (by decide)) rfl rfl x)), ?_⟩
  exact fun _ h => absurd h List.not_mem_nil

/-- So the scratch array holds the widened block. -/
theorem weightsA_eq (c : Dev nD) (i : grid0.Coords) (arg2 : Memref sig .tc .smem S40x24 .f32) (harg2 : arg2.IsWhole)
    (arg8 : Memref sig .tc .vmem S5120x512 .fp8e4m3) (harg8 : arg8.IsWhole) (hc0 : head0 i)
    (x0 : Vec Ideal S40x24 .f32) (x6 : Vec Ideal S5120x512 .fp8e4m3) :
    weightsA c i arg2 harg2 arg8 harg8 hc0 x0 x6 = wide ((i 1).val * 4) hK (hA i hc0) x0 x6 :=
  funext fun y => View.canon_apply_of_pieces _ _ (pieces_A c i arg2 harg2 arg8 harg8 hc0 x0 x6) y
    (covers_A c i arg2 harg2 arg8 harg8 hc0 x0 x6 y)

/-! ## The last step -/

/-- The keys' widened columns beside the values'. -/
def wideB (sk sv : Vec Ideal S40x2 .f32) (k v : Vec Ideal S5120x256 .fp8e4m3) : FVec Ideal S5120x512 .bf16 :=
  fun y => if h : (y 1).val < 256 then wide 0 hK hC2 sk k (ix2 (y 0) ⟨(y 1).val, h⟩)
    else wide 0 hK hC2 sv v (ix2 (y 0) ⟨(y 1).val - 256, by
      have : (y 1).val < 512 := (y 1).isLt
      omega⟩)

theorem emb_eq (o : Fin 2 → ℕ) (C : ℕ) (inb) (x : (Rect.unit (s := ⟨2, ![5120, C]⟩) o ![128, 128] inb).shape.Idx) (a) :
    ((Rect.unit (s := ⟨2, ![5120, C]⟩) o ![128, 128] inb).emb x a).val = o a + x a := Rect.idx_unit_val _ _ _ _ _

/-- A tile of the keys' block stands at the same place of the pair. -/
theorem left (sk sv : Vec Ideal S40x2 .f32) (k v : Vec Ideal S5120x256 .fp8e4m3) (o o' : Fin 2 → ℕ)
    (inb) (inb') (h0 : o' 0 = o 0) (h1 : o' 1 = o 1) (hlt : o 1 + 128 ≤ 256)
    (x : (Rect.unit (s := S5120x256) o ![128, 128] inb).shape.Idx) :
    wide 0 hK hC2 sk k ((Rect.unit (s := S5120x256) o ![128, 128] inb).emb x)
      = wideB sk sv k v ((Rect.unit (s := S5120x512) o' ![128, 128] inb').emb x) := by
  have hx1 : (x 1).val < 128 := (x 1).isLt
  have h : ((Rect.unit (s := S5120x512) o' ![128, 128] inb').emb x 1).val < 256 := by
    rw [emb_eq o' 512]; omega
  unfold wideB
  rw [dif_pos h]
  refine congrArg _ (funext fun a => Fin.ext ?_)
  rw [emb_eq o 256]
  match a with
  | ⟨0, _⟩ => exact ((emb_eq o' 512 inb' x 0).trans (by rw [h0]; rfl)).symm
  | ⟨1, _⟩ => exact ((emb_eq o' 512 inb' x 1).trans (by rw [h1]; rfl)).symm

/-- A tile of the values' block stands 256 columns further. -/
theorem right (sk sv : Vec Ideal S40x2 .f32) (k v : Vec Ideal S5120x256 .fp8e4m3) (o o' : Fin 2 → ℕ)
    (inb) (inb') (h0 : o' 0 = o 0) (h1 : o' 1 = 256 + o 1)
    (x : (Rect.unit (s := S5120x256) o ![128, 128] inb).shape.Idx) :
    wide 0 hK hC2 sv v ((Rect.unit (s := S5120x256) o ![128, 128] inb).emb x)
      = wideB sk sv k v ((Rect.unit (s := S5120x512) o' ![128, 128] inb').emb x) := by
  have h : ¬((Rect.unit (s := S5120x512) o' ![128, 128] inb').emb x 1).val < 256 := by
    rw [emb_eq o' 512]; omega
  unfold wideB
  rw [dif_neg h]
  refine congrArg _ (funext fun a => Fin.ext ?_)
  rw [emb_eq o 256]
  match a with
  | ⟨0, _⟩ => exact ((emb_eq o' 512 inb' x 0).trans (by rw [h0]; rfl)).symm
  | ⟨1, _⟩ =>
    show o 1 + (x 1).val = ((Rect.unit (s := S5120x512) o' ![128, 128] inb').emb x 1).val - 256
    rw [emb_eq o' 512]; omega

/-- A tile whose scale is read at the tile's own place in the table. -/
theorem tile_here {sp sp' : Space} (M2 : Memref sig .tc sp S40x2 .f32) (h2 : M2.IsWhole)
    (M4 : Memref sig .tc sp' S5120x256 .fp8e4m3) (h4 : M4.IsWhole)
    (s : Vec Ideal S40x2 .f32) (w : Vec Ideal S5120x256 .fp8e4m3)
    (o : Fin 2 → ℕ) (inb) (os : Fin 2 → ℕ) (inbs) (hn) (ho0 : o 0 = 128 * os 0) (ho1 : o 1 = 128 * os 1)
    (x : (Rect.unit (s := S5120x256) o ![128, 128] inb).shape.Idx) :
    (View.readAt (Elt Ideal) M4.view (Rect.unit o ![128, 128] inb).toLoadRect (h4.unread w) x : EReal)
        * View.readAt (Elt Ideal) M2.view (Rect.unit os ![1, 1] inbs).toLoadRect (h2.unread s) (Shape.Idx.first hn)
      = wide 0 hK hC2 s w ((Rect.unit o ![128, 128] inb).emb x) :=
  tile_piece 0 hK hC2 M2 h2 M4 h4 s w o inb os inbs hn (os 0) (os 1) rfl (Nat.zero_add _).symm ho0 ho1 x

set_option maxHeartbeats 8000000 in
/-- Each of the body's 160 stores into the scratch array is a tile of the pair. -/
theorem pieces_B (c : Dev nD) (arg3 : Memref sig .tc .smem S40x2 .f32) (harg3 : arg3.IsWhole)
    (arg4 : Memref sig .tc .smem S40x2 .f32) (harg4 : arg4.IsWhole) (arg9 : Memref sig .tc .vmem S5120x256 .fp8e4m3) (harg9 : arg9.IsWhole)
    (arg10 : Memref sig .tc .vmem S5120x256 .fp8e4m3) (harg10 : arg10.IsWhole)
    (x1 x2 : Vec Ideal S40x2 .f32) (x7 x8 : Vec Ideal S5120x256 .fp8e4m3) :
    ∀ p ∈ kernelRun0_B.sl.HS0_160 c arg3 harg3 arg4 harg4 arg9 harg9 arg10 harg10 x1 x2 x7 x8, ∀ x,
      p.2 x = wideB x1 x2 x7 x8 (p.1.emb x) := by
  unfold kernelRun0_B.sl.HS0_160
  iterate 80 refine List.forall_mem_cons.2 ⟨fun x => ((tile_apply _ _ _ _ _ x).trans (tile_here arg4 harg4 arg10 harg10 x2 x8
    _ _ _ _ _ (by rfl) (by rfl) x)).trans (right x1 x2 x7 x8 _ _ _ (by decide) (by rfl) (by rfl) x), ?_⟩
  iterate 80 refine List.forall_mem_cons.2 ⟨fun x => ((tile_apply _ _ _ _ _ x).trans (tile_here arg3 harg3 arg9 harg9 x1 x7
    _ _ _ _ _ (by rfl) (by rfl) x)).trans (left x1 x2 x7 x8 _ _ _ (by decide) (by rfl) (by rfl) (by decide) x), ?_⟩
  exact fun _ h => absurd h List.not_mem_nil

/-- So the scratch array holds the pair. -/
theorem weightsB_eq (c : Dev nD) (arg3 : Memref sig .tc .smem S40x2 .f32) (harg3 : arg3.IsWhole)
    (arg4 : Memref sig .tc .smem S40x2 .f32) (harg4 : arg4.IsWhole) (arg9 : Memref sig .tc .vmem S5120x256 .fp8e4m3) (harg9 : arg9.IsWhole)
    (arg10 : Memref sig .tc .vmem S5120x256 .fp8e4m3) (harg10 : arg10.IsWhole)
    (x1 x2 : Vec Ideal S40x2 .f32) (x7 x8 : Vec Ideal S5120x256 .fp8e4m3) :
    weightsB c arg3 harg3 arg4 harg4 arg9 harg9 arg10 harg10 x1 x2 x7 x8 = wideB x1 x2 x7 x8 :=
  funext fun y => View.canon_apply_of_pieces _ _ (pieces_B c arg3 harg3 arg4 harg4 arg9 harg9 arg10 harg10 x1 x2 x7 x8) y
    (covers_B c arg3 harg3 arg4 harg4 arg9 harg9 arg10 harg10 x1 x2 x7 x8 y)

end Cert.QkvIdeal.Gen

end
-- ==== Proof.QkvMath.lean ====
/- What the qkv call computes, over the extended reals: the queries, their gates and the codes of the keys and values. -/
module

public import proofs.«01_k».proof.Proof.QkvWide
public import proofs.«01_k».proof.Proof.Rope

@[expose] public section

set_option maxRecDepth 16384

noncomputable section

namespace Cert.QkvIdeal.Gen

open Idealize.ShloMosaic Cert.Layer

theorem hCq : ∀ c < 3072, 0 + c / 128 < 24 := by omega

section
variable (a0 : Vec Ideal S3840x5120 .bf16) (w : Vec Ideal S5120x256 .fp8e4m3) (ws : Vec Ideal S40x2 .f32)

/-- Column `x` of head `h`'s query or, from 256 on, of its gate. -/
def headQ (a1 : Vec Ideal S5120x3072 .fp8e4m3) (a2 : Vec Ideal S40x24 .f32) (r : Fin 3840) (h : Fin 6) (x : Fin 512) : EReal :=
  linear hK hCq a0 a2 a1 r ⟨512 * h.val + x.val, by omega⟩

/-- A key or value before it is normed or coded. -/
def headKV (r : Fin 3840) (x : Fin 256) : EReal := linear hK hC2 a0 ws w r x

/-- A head's query: normed and rotated. -/
def queryOf (a1 : Vec Ideal S5120x3072 .fp8e4m3) (a2 : Vec Ideal S40x24 .f32) (a7 : Vec Ideal S1x256 .f32)
    (a9 a10 : Vec Ideal S3840x32 .f32) (r : Fin 3840) (h : Fin 6) (j : Fin 256) : EReal :=
  rope (headNorm (fun x => headQ a0 a1 a2 r h ⟨x.val, by omega⟩) (fun x => a7 (ix2 0 x)))
    (fun x => a9 (ix2 r x)) (fun x => a10 (ix2 r x)) j

/-- A key: normed and rotated. -/
def keyOf (a8 : Vec Ideal S1x256 .f32) (a9 a10 : Vec Ideal S3840x32 .f32) (r : Fin 3840) (j : Fin 256) : EReal :=
  rope (headNorm (fun x => headKV a0 w ws r x) (fun x => a8 (ix2 0 x)))
    (fun x => a9 (ix2 r x)) (fun x => a10 (ix2 r x)) j

/-- The queries, head after head. -/
def resQ (a1 : Vec Ideal S5120x3072 .fp8e4m3) (a2 : Vec Ideal S40x24 .f32) (a7 : Vec Ideal S1x256 .f32)
    (a9 a10 : Vec Ideal S3840x32 .f32) : Vec Ideal S3840x1536 .bf16 := fun y =>
  queryOf a0 a1 a2 a7 a9 a10 (y 0) ⟨(y 1).val / 256, by
    have : (y 1).val < 1536 := (y 1).isLt
    omega⟩ ⟨(y 1).val % 256, by omega⟩

/-- The gates, head after head. -/
def resGate (a1 : Vec Ideal S5120x3072 .fp8e4m3) (a2 : Vec Ideal S40x24 .f32) : Vec Ideal S3840x1536 .f32 := fun y =>
  headQ a0 a1 a2 (y 0) ⟨(y 1).val / 256, by
    have : (y 1).val < 1536 := (y 1).isLt
    omega⟩ ⟨256 + (y 1).val % 256, by omega⟩

/-- The codes of the keys. -/
def resK (a8 : Vec Ideal S1x256 .f32) (a9 a10 : Vec Ideal S3840x32 .f32) (a11 : Vec Ideal S1 .f32) : Vec Ideal S3840x256 .fp8e4m3 :=
  fun y => clip (keyOf a0 w ws a8 a9 a10 (y 0) (y 1)) (a11 (ix1 0))

/-- The codes of the values. -/
def resV (a12 : Vec Ideal S1 .f32) : Vec Ideal S3840x256 .fp8e4m3 :=
  fun y => clip (headKV a0 w ws (y 0) (y 1)) (a12 (ix1 0))

end

end Cert.QkvIdeal.Gen

end
-- ==== Proof.QkvValue.lean ====
/- What the qkv kernel computes: one grid point's blocks, and the four result arrays its 35 points fill. -/
module

public import proofs.«01_k».proof.Proof.QkvPay
public import proofs.«01_k».proof.Proof.QkvMath
public import proofs.«01_k».proof.Proof.QkvIdealFrame

@[expose] public section

set_option maxRecDepth 16384

noncomputable section

namespace Cert.QkvIdeal.Gen

open Idealize.ShloMosaic Idealize.ShloMosaic.TcCoe Idealize.ShloMosaic.Tactic Cert.Layer
open Idealize.SL.Sem
open Idealize.ShloMosaic.Pipeline (Dat)

/-! ## A block from rows of the activations and columns of the widened weight -/

section
variable (X : Vec Ideal S768x5120 .bf16) (W : Vec Ideal S5120x512 .bf16) (a0 : Vec Ideal S3840x5120 .bf16)
  (a1 : Vec Ideal S5120x3072 .fp8e4m3) (a2 : Vec Ideal S40x24 .f32) (w : Vec Ideal S5120x256 .fp8e4m3) (ws : Vec Ideal S40x2 .f32)

theorem half_apply (P : FVec Ideal S768x512 .f32) (r : Fin 768) (j : Fin 256) :
    extractStridedSlice S768x256 ![0, 0] P slices_S768x512_o0_0_S768x256 (ix2 r j) = P (ix2 r ⟨j.val, by omega⟩) := by
  pointwise

theorem prodA (r : Fin 768) (R : Fin 3840) (h : Fin 6) (j : Fin 512) (hX : ∀ x : Fin 5120, X (ix2 r x) = a0 (ix2 R x))
    (hW : ∀ (x : Fin 5120) (j : Fin 512), W (ix2 x j) = wide 0 hK hCq a2 a1 (ix2 x ⟨512 * h.val + j.val, by omega⟩)) :
    k0_pay194 X W (ix2 r j) = headQ a0 a1 a2 R h j :=
  (p194 X W r j).trans (Finset.sum_congr rfl fun x _ => congrArg₂ (fun a b : EReal => a * b) (hX x) (hW x j))

theorem prodB (r : Fin 768) (R : Fin 3840) (j : Fin 256) (j' : Fin 512) (hX : ∀ x : Fin 5120, X (ix2 r x) = a0 (ix2 R x))
    (hW : ∀ x : Fin 5120, W (ix2 x j') = wide 0 hK hC2 ws w (ix2 x j)) :
    k0_pay395 X W (ix2 r j') = headKV a0 w ws R j :=
  (p395 X W r j').trans (Finset.sum_congr rfl fun x _ => congrArg₂ (fun a b : EReal => a * b) (hX x) (hW x))

theorem query_of (qn a7 : Vec Ideal S1x256 .f32) (cs sn : Vec Ideal S768x32 .f32) (a9 a10 : Vec Ideal S3840x32 .f32)
    (r : Fin 768) (R : Fin 3840) (h : Fin 6) (j : Fin 256) (hX : ∀ x : Fin 5120, X (ix2 r x) = a0 (ix2 R x))
    (hW : ∀ (x : Fin 5120) (j : Fin 512), W (ix2 x j) = wide 0 hK hCq a2 a1 (ix2 x ⟨512 * h.val + j.val, by omega⟩))
    (hq : ∀ x : Fin 256, qn (ix2 0 x) = a7 (ix2 0 x)) (hc : ∀ x : Fin 32, cs (ix2 r x) = a9 (ix2 R x))
    (hs : ∀ x : Fin 32, sn (ix2 r x) = a10 (ix2 R x)) :
    query X W qn cs sn (ix2 r j) = queryOf a0 a1 a2 a7 a9 a10 R h j := by
  refine (congrFun (query_eq X W qn cs sn) (ix2 r j)).trans ?_
  refine (ropeBlock_apply _ cs sn r j).trans ?_
  have e1 : (fun x => normBlock (extractStridedSlice S768x256 ![0, 0] (k0_pay194 X W) slices_S768x512_o0_0_S768x256) qn (ix2 r x))
      = headNorm (fun x => headQ a0 a1 a2 R h ⟨x.val, by omega⟩) (fun x => a7 (ix2 0 x)) := by
    funext x
    refine (normBlock_apply _ qn r x).trans ?_
    exact congrArg₂ (fun p q => headNorm p q x)
      (funext fun y => (half_apply (k0_pay194 X W) r y).trans (prodA X W a0 a1 a2 r R h _ hX hW)) (funext hq)
  unfold queryOf
  rw [e1, funext hc, funext hs]

theorem gate_of (r : Fin 768) (R : Fin 3840) (h : Fin 6) (j : Fin 256) (hX : ∀ x : Fin 5120, X (ix2 r x) = a0 (ix2 R x))
    (hW : ∀ (x : Fin 5120) (j : Fin 512), W (ix2 x j) = wide 0 hK hCq a2 a1 (ix2 x ⟨512 * h.val + j.val, by omega⟩)) :
    gate X W (ix2 r j) = headQ a0 a1 a2 R h ⟨256 + j.val, by omega⟩ :=
  (p1 (k0_pay194 X W) r j).trans (prodA X W a0 a1 a2 r R h _ hX hW)

theorem keys_of (kn a8 : Vec Ideal S1x256 .f32) (cs sn : Vec Ideal S768x32 .f32) (a9 a10 : Vec Ideal S3840x32 .f32) (s a11 : Vec Ideal S1 .f32)
    (r : Fin 768) (R : Fin 3840) (j : Fin 256) (hX : ∀ x : Fin 5120, X (ix2 r x) = a0 (ix2 R x))
    (hW : ∀ (x : Fin 5120) (j : Fin 256), W (ix2 x ⟨j.val, by omega⟩) = wide 0 hK hC2 ws w (ix2 x j))
    (hq : ∀ x : Fin 256, kn (ix2 0 x) = a8 (ix2 0 x)) (hc : ∀ x : Fin 32, cs (ix2 r x) = a9 (ix2 R x))
    (hs : ∀ x : Fin 32, sn (ix2 r x) = a10 (ix2 R x)) (hk : s (ix1 0) = a11 (ix1 0)) :
    keys X W kn cs sn s (ix2 r j) = resK a0 w ws a8 a9 a10 a11 (ix2 R j) := by
  refine (congrFun (key_eq X W kn cs sn (s (ix1 0))) (ix2 r j)).trans ?_
  refine (codeBlock_apply _ _ r j).trans ?_
  rw [ropeBlock_apply]
  have e1 : (fun x => normBlock (k0_pay396 X W) kn (ix2 r x))
      = headNorm (fun x => headKV a0 w ws R x) (fun x => a8 (ix2 0 x)) := by
    funext x
    refine (normBlock_apply _ kn r x).trans ?_
    exact congrArg₂ (fun p q => headNorm p q x)
      (funext fun y => (p396 X W r y).trans (prodB X W a0 w ws r R y _ hX fun x => hW x y)) (funext hq)
  rw [e1, funext hc, funext hs, hk]
  rfl

theorem vals_of (s a12 : Vec Ideal S1 .f32) (r : Fin 768) (R : Fin 3840) (j : Fin 256) (hX : ∀ x : Fin 5120, X (ix2 r x) = a0 (ix2 R x))
    (hW : ∀ (x : Fin 5120) (j : Fin 256), W (ix2 x ⟨256 + j.val, by omega⟩) = wide 0 hK hC2 ws w (ix2 x j))
    (hk : s (ix1 0) = a12 (ix1 0)) :
    vals X W s (ix2 r j) = resV a0 w ws a12 (ix2 R j) := by
  refine (congrFun (value_eq (k0_pay395 X W) (s (ix1 0))) (ix2 r j)).trans ?_
  refine (codeBlock_apply _ _ r j).trans ?_
  rw [p1, prodB X W a0 w ws r R j _ hX fun x => hW x j, hk]
  rfl

end

/-! ## The blocks a grid point reads -/

variable (m : (ℓ : Loc nD τ sig) → Buf (Elt Ideal) ℓ) (ρ : Dev nD → PrngReg)

theorem lt35 (t : Fin cfg0.N) : t.val < 35 := t.isLt

theorem coord1 : ∀ t : Fin cfg0.N, (grid0.coords t 1).val = t.val % 7 :=
  (by decide +kernel : ∀ t : Fin grid0.N, _)

/-- A row of a grid point's row block. -/
def rowOf (t : Fin cfg0.N) (r : Fin 768) : Fin 3840 := ⟨t.val / 7 * 768 + r.val, by
  have := lt35 t
  omega⟩

/-- The head a grid point computes; the last step of a row block still holds the one before. -/
def headOf (t : Fin cfg0.N) : Fin 6 := ⟨min (t.val % 7) 5, by omega⟩

/-- A column of a head's query. -/
def colOf (t : Fin cfg0.N) (j : Fin 256) : Fin 1536 := ⟨(headOf t).val * 256 + j.val, by omega⟩

theorem hd_div (t : Fin cfg0.N) : (hd t).val / 7 = t.val / 7 := by
  unfold hd
  split_ifs
  · dsimp only; omega
  · rfl

theorem hd_row (t : Fin cfg0.N) (r : Fin 768) : rowOf (hd t) r = rowOf t r :=
  Fin.ext (congrArg (fun q => q * 768 + r.val) (hd_div t))

theorem hd_headOf (t : Fin cfg0.N) : headOf (hd t) = headOf t := by
  refine Fin.ext ?_
  show min ((hd t).val % 7) 5 = min (t.val % 7) 5
  unfold hd
  split_ifs
  · dsimp only; omega
  · rfl

theorem idx0 : ∀ t : Fin cfg0.N, win0_0.index t 0 = 0 ∧ win0_0.index t 1 = 0 :=
  (by decide +kernel : ∀ t : Fin grid0.N, _)

theorem blk0 (c : Dev nD) (t : Fin cfg0.N) (r : Fin 40) (k : Fin 24) :
    (iblk m c 0 t : Vec Ideal S40x24 .f32) (ix2 r k) = m ((c : Thread nD τ).loc main_arg2) (ix2 r k) := by
  obtain ⟨h0, h1⟩ := idx0 t
  refine read_rect_apply main_arg2 (m ((c : Thread nD τ).loc main_arg2)) _ _ _ _ _ fun a => ?_
  match a with
  | ⟨0, _⟩ => show r.val = win0_0.index t 0 * 40 + r.val; rw [h0]; omega
  | ⟨1, _⟩ => show k.val = win0_0.index t 1 * 24 + k.val; rw [h1]; omega

theorem idx1 : ∀ t : Fin cfg0.N, win0_1.index t 0 = 0 ∧ win0_1.index t 1 = 0 :=
  (by decide +kernel : ∀ t : Fin grid0.N, _)

theorem blk1 (c : Dev nD) (t : Fin cfg0.N) (r : Fin 40) (k : Fin 2) :
    (iblk m c 1 t : Vec Ideal S40x2 .f32) (ix2 r k) = m ((c : Thread nD τ).loc main_arg4) (ix2 r k) := by
  obtain ⟨h0, h1⟩ := idx1 t
  refine read_rect_apply main_arg4 (m ((c : Thread nD τ).loc main_arg4)) _ _ _ _ _ fun a => ?_
  match a with
  | ⟨0, _⟩ => show r.val = win0_1.index t 0 * 40 + r.val; rw [h0]; omega
  | ⟨1, _⟩ => show k.val = win0_1.index t 1 * 2 + k.val; rw [h1]; omega

theorem idx2 : ∀ t : Fin cfg0.N, win0_2.index t 0 = 0 ∧ win0_2.index t 1 = 0 :=
  (by decide +kernel : ∀ t : Fin grid0.N, _)

theorem blk2 (c : Dev nD) (t : Fin cfg0.N) (r : Fin 40) (k : Fin 2) :
    (iblk m c 2 t : Vec Ideal S40x2 .f32) (ix2 r k) = m ((c : Thread nD τ).loc main_arg6) (ix2 r k) := by
  obtain ⟨h0, h1⟩ := idx2 t
  refine read_rect_apply main_arg6 (m ((c : Thread nD τ).loc main_arg6)) _ _ _ _ _ fun a => ?_
  match a with
  | ⟨0, _⟩ => show r.val = win0_2.index t 0 * 40 + r.val; rw [h0]; omega
  | ⟨1, _⟩ => show k.val = win0_2.index t 1 * 2 + k.val; rw [h1]; omega

theorem idx7 : ∀ t : Fin cfg0.N, win0_7.index t 0 = 0 ∧ win0_7.index t 1 = 0 :=
  (by decide +kernel : ∀ t : Fin grid0.N, _)

theorem blk7 (c : Dev nD) (t : Fin cfg0.N) (r : Fin 5120) (k : Fin 256) :
    (iblk m c 7 t : Vec Ideal S5120x256 .fp8e4m3) (ix2 r k) = m ((c : Thread nD τ).loc main_arg3) (ix2 r k) := by
  obtain ⟨h0, h1⟩ := idx7 t
  refine read_rect_apply main_arg3 (m ((c : Thread nD τ).loc main_arg3)) _ _ _ _ _ fun a => ?_
  match a with
  | ⟨0, _⟩ => show r.val = win0_7.index t 0 * 5120 + r.val; rw [h0]; omega
  | ⟨1, _⟩ => show k.val = win0_7.index t 1 * 256 + k.val; rw [h1]; omega

theorem idx8 : ∀ t : Fin cfg0.N, win0_8.index t 0 = 0 ∧ win0_8.index t 1 = 0 :=
  (by decide +kernel : ∀ t : Fin grid0.N, _)

theorem blk8 (c : Dev nD) (t : Fin cfg0.N) (r : Fin 5120) (k : Fin 256) :
    (iblk m c 8 t : Vec Ideal S5120x256 .fp8e4m3) (ix2 r k) = m ((c : Thread nD τ).loc main_arg5) (ix2 r k) := by
  obtain ⟨h0, h1⟩ := idx8 t
  refine read_rect_apply main_arg5 (m ((c : Thread nD τ).loc main_arg5)) _ _ _ _ _ fun a => ?_
  match a with
  | ⟨0, _⟩ => show r.val = win0_8.index t 0 * 5120 + r.val; rw [h0]; omega
  | ⟨1, _⟩ => show k.val = win0_8.index t 1 * 256 + k.val; rw [h1]; omega

theorem idx9 : ∀ t : Fin cfg0.N, win0_9.index t 0 = 0 ∧ win0_9.index t 1 = 0 :=
  (by decide +kernel : ∀ t : Fin grid0.N, _)

theorem blk9 (c : Dev nD) (t : Fin cfg0.N) (r : Fin 1) (k : Fin 256) :
    (iblk m c 9 t : Vec Ideal S1x256 .f32) (ix2 r k) = m ((c : Thread nD τ).loc main_arg7) (ix2 r k) := by
  obtain ⟨h0, h1⟩ := idx9 t
  refine read_rect_apply main_arg7 (m ((c : Thread nD τ).loc main_arg7)) _ _ _ _ _ fun a => ?_
  match a with
  | ⟨0, _⟩ => show r.val = win0_9.index t 0 * 1 + r.val; rw [h0]; omega
  | ⟨1, _⟩ => show k.val = win0_9.index t 1 * 256 + k.val; rw [h1]; omega

theorem idx10 : ∀ t : Fin cfg0.N, win0_10.index t 0 = 0 ∧ win0_10.index t 1 = 0 :=
  (by decide +kernel : ∀ t : Fin grid0.N, _)

theorem blk10 (c : Dev nD) (t : Fin cfg0.N) (r : Fin 1) (k : Fin 256) :
    (iblk m c 10 t : Vec Ideal S1x256 .f32) (ix2 r k) = m ((c : Thread nD τ).loc main_arg8) (ix2 r k) := by
  obtain ⟨h0, h1⟩ := idx10 t
  refine read_rect_apply main_arg8 (m ((c : Thread nD τ).loc main_arg8)) _ _ _ _ _ fun a => ?_
  match a with
  | ⟨0, _⟩ => show r.val = win0_10.index t 0 * 1 + r.val; rw [h0]; omega
  | ⟨1, _⟩ => show k.val = win0_10.index t 1 * 256 + k.val; rw [h1]; omega

theorem idx3 : ∀ t : Fin cfg0.N, win0_3.index t 0 = 0 :=
  (by decide +kernel : ∀ t : Fin grid0.N, _)

theorem blk3 (c : Dev nD) (t : Fin cfg0.N) :
    (iblk m c 3 t : Vec Ideal S1 .f32) (ix1 0) = m ((c : Thread nD τ).loc main_arg11) (ix1 0) := by
  have h0 := idx3 t
  refine read_rect_apply main_arg11 (m ((c : Thread nD τ).loc main_arg11)) _ _ _ _ _ fun a => ?_
  match a with
  | ⟨0, _⟩ => show (0 : ℕ) = win0_3.index t 0 * 1 + 0; rw [h0]

theorem idx4 : ∀ t : Fin cfg0.N, win0_4.index t 0 = 0 :=
  (by decide +kernel : ∀ t : Fin grid0.N, _)

theorem blk4 (c : Dev nD) (t : Fin cfg0.N) :
    (iblk m c 4 t : Vec Ideal S1 .f32) (ix1 0) = m ((c : Thread nD τ).loc main_arg12) (ix1 0) := by
  have h0 := idx4 t
  refine read_rect_apply main_arg12 (m ((c : Thread nD τ).loc main_arg12)) _ _ _ _ _ fun a => ?_
  match a with
  | ⟨0, _⟩ => show (0 : ℕ) = win0_4.index t 0 * 1 + 0; rw [h0]

theorem idx5 : ∀ t : Fin cfg0.N, win0_5.index t 0 = t.val / 7 ∧ win0_5.index t 1 = 0 :=
  (by decide +kernel : ∀ t : Fin grid0.N, _)

theorem blk5 (c : Dev nD) (t : Fin cfg0.N) (r : Fin 768) (k : Fin 5120) :
    (iblk m c 5 t : Vec Ideal S768x5120 .bf16) (ix2 r k) = m ((c : Thread nD τ).loc main_arg0) (ix2 (rowOf t r) k) := by
  obtain ⟨h0, h1⟩ := idx5 t
  refine read_rect_apply main_arg0 (m ((c : Thread nD τ).loc main_arg0)) _ _ _ _ _ fun a => ?_
  match a with
  | ⟨0, _⟩ => show t.val / 7 * 768 + r.val = win0_5.index t 0 * 768 + r.val; rw [h0]
  | ⟨1, _⟩ => show k.val = win0_5.index t 1 * 5120 + k.val; rw [h1]; omega

theorem idx11 : ∀ t : Fin cfg0.N, win0_11.index t 0 = t.val / 7 ∧ win0_11.index t 1 = 0 :=
  (by decide +kernel : ∀ t : Fin grid0.N, _)

theorem blk11 (c : Dev nD) (t : Fin cfg0.N) (r : Fin 768) (k : Fin 32) :
    (iblk m c 11 t : Vec Ideal S768x32 .f32) (ix2 r k) = m ((c : Thread nD τ).loc main_arg9) (ix2 (rowOf t r) k) := by
  obtain ⟨h0, h1⟩ := idx11 t
  refine read_rect_apply main_arg9 (m ((c : Thread nD τ).loc main_arg9)) _ _ _ _ _ fun a => ?_
  match a with
  | ⟨0, _⟩ => show t.val / 7 * 768 + r.val = win0_11.index t 0 * 768 + r.val; rw [h0]
  | ⟨1, _⟩ => show k.val = win0_11.index t 1 * 32 + k.val; rw [h1]; omega

theorem idx12 : ∀ t : Fin cfg0.N, win0_12.index t 0 = t.val / 7 ∧ win0_12.index t 1 = 0 :=
  (by decide +kernel : ∀ t : Fin grid0.N, _)

theorem blk12 (c : Dev nD) (t : Fin cfg0.N) (r : Fin 768) (k : Fin 32) :
    (iblk m c 12 t : Vec Ideal S768x32 .f32) (ix2 r k) = m ((c : Thread nD τ).loc main_arg10) (ix2 (rowOf t r) k) := by
  obtain ⟨h0, h1⟩ := idx12 t
  refine read_rect_apply main_arg10 (m ((c : Thread nD τ).loc main_arg10)) _ _ _ _ _ fun a => ?_
  match a with
  | ⟨0, _⟩ => show t.val / 7 * 768 + r.val = win0_12.index t 0 * 768 + r.val; rw [h0]
  | ⟨1, _⟩ => show k.val = win0_12.index t 1 * 32 + k.val; rw [h1]; omega

theorem idx6 : ∀ t : Fin cfg0.N, win0_6.index t 0 = 0 ∧ win0_6.index t 1 = min (t.val % 7) 5 :=
  (by decide +kernel : ∀ t : Fin grid0.N, _)

theorem blk6 (c : Dev nD) (t : Fin cfg0.N) (r : Fin 5120) (k : Fin 512) :
    (iblk m c 6 t : Vec Ideal S5120x512 .fp8e4m3) (ix2 r k)
      = m ((c : Thread nD τ).loc main_arg1) (ix2 r ⟨512 * (headOf t).val + k.val, by omega⟩) := by
  obtain ⟨h0, h1⟩ := idx6 t
  refine read_rect_apply main_arg1 (m ((c : Thread nD τ).loc main_arg1)) _ _ _ _ _ fun a => ?_
  match a with
  | ⟨0, _⟩ => show r.val = win0_6.index t 0 * 5120 + r.val; rw [h0]; omega
  | ⟨1, _⟩ => show 512 * min (t.val % 7) 5 + k.val = win0_6.index t 1 * 512 + k.val; rw [h1]; omega

/-- A head step's widened block is the widened weight's columns of that head. -/
theorem wtileA_apply (c : Dev nD) (t : Fin cfg0.N) (h : head0 (grid0.coords t)) (k : Fin 5120) (j : Fin 512) :
    wtileA m c t h (ix2 k j) = wide 0 hK hCq (m ((c : Thread nD τ).loc main_arg2)) (m ((c : Thread nD τ).loc main_arg1))
      (ix2 k ⟨512 * (headOf t).val + j.val, by omega⟩) := by
  unfold wtileA
  rw [weightsA_eq]
  unfold wide
  have h5 := head_le _ h
  have hv := coord1 t
  refine congr (congrArg _ (blk6 m c t k j)) ((blk0 m c t _ _).trans (congrArg _ (congrArg _ (Fin.ext ?_))))
  show (grid0.coords t 1).val * 4 + j.val / 128 = 0 + (512 * min (t.val % 7) 5 + j.val) / 128
  omega

/-- The last step's left half is the keys' widened weight. -/
theorem wtileB_left (c : Dev nD) (t : Fin cfg0.N) (k : Fin 5120) (j : Fin 256) :
    wtileB m c t (ix2 k ⟨j.val, by omega⟩) = wide 0 hK hC2 (m ((c : Thread nD τ).loc main_arg4)) (m ((c : Thread nD τ).loc main_arg3)) (ix2 k j) := by
  unfold wtileB
  rw [weightsB_eq]
  unfold wideB
  rw [dif_pos (show ((ix2 k (⟨j.val, by omega⟩ : Fin 512)) 1 : ℕ) < 256 from j.isLt)]
  unfold wide
  exact congr (congrArg _ (blk7 m c t k j)) (blk1 m c t _ _)

/-- The right half is the values'. -/
theorem wtileB_right (c : Dev nD) (t : Fin cfg0.N) (k : Fin 5120) (j : Fin 256) :
    wtileB m c t (ix2 k ⟨256 + j.val, by omega⟩) = wide 0 hK hC2 (m ((c : Thread nD τ).loc main_arg6)) (m ((c : Thread nD τ).loc main_arg5)) (ix2 k j) := by
  unfold wtileB
  rw [weightsB_eq]
  unfold wideB
  rw [dif_neg (show ¬((ix2 k (⟨256 + j.val, by omega⟩ : Fin 512)) 1 : ℕ) < 256 from by
    show ¬(256 + j.val < 256)
    omega)]
  have hr : (⟨256 + j.val - 256, by omega⟩ : Fin 256) = j := Fin.ext (by dsimp only; omega)
  refine (congrArg (fun q : Fin 256 => wide 0 hK hC2 (iblk m c 2 t) (iblk m c 8 t) (ix2 k q)) hr).trans ?_
  unfold wide
  exact congr (congrArg _ (blk8 m c t k j)) (blk2 m c t _ _)

/-! ## The blocks a grid point writes -/

theorem query_blk (c : Dev nD) (t : Fin cfg0.N) (h : head0 (grid0.coords t)) (r : Fin 768) (j : Fin 256) :
    queryAt m c t h (ix2 r j) = queryOf (m ((c : Thread nD τ).loc main_arg0)) (m ((c : Thread nD τ).loc main_arg1)) (m ((c : Thread nD τ).loc main_arg2)) (m ((c : Thread nD τ).loc main_arg7)) (m ((c : Thread nD τ).loc main_arg9)) (m ((c : Thread nD τ).loc main_arg10)) (rowOf t r) (headOf t) j :=
  query_of _ _ _ _ _ _ _ _ _ _ _ r (rowOf t r) (headOf t) j (blk5 m c t r) (wtileA_apply m c t h)
    (blk9 m c t 0) (blk11 m c t r) (blk12 m c t r)

theorem gate_blk (c : Dev nD) (t : Fin cfg0.N) (h : head0 (grid0.coords t)) (r : Fin 768) (j : Fin 256) :
    gateAt m c t h (ix2 r j) = headQ (m ((c : Thread nD τ).loc main_arg0)) (m ((c : Thread nD τ).loc main_arg1)) (m ((c : Thread nD τ).loc main_arg2)) (rowOf t r) (headOf t) ⟨256 + j.val, by omega⟩ :=
  gate_of _ _ _ _ _ r (rowOf t r) (headOf t) j (blk5 m c t r) (wtileA_apply m c t h)

theorem keys_blk (c : Dev nD) (t : Fin cfg0.N) (r : Fin 768) (j : Fin 256) :
    keysAt m c t (ix2 r j) = resK (m ((c : Thread nD τ).loc main_arg0)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (ix2 (rowOf t r) j) :=
  keys_of _ _ _ _ _ _ _ _ _ _ _ _ _ r (rowOf t r) j (blk5 m c t r) (wtileB_left m c t)
    (blk10 m c t 0) (blk11 m c t r) (blk12 m c t r) (blk3 m c t)

theorem vals_blk (c : Dev nD) (t : Fin cfg0.N) (r : Fin 768) (j : Fin 256) :
    valsAt m c t (ix2 r j) = resV (m ((c : Thread nD τ).loc main_arg0)) (m ((c : Thread nD τ).loc main_arg5)) (m ((c : Thread nD τ).loc main_arg6)) (m ((c : Thread nD τ).loc main_arg12)) (ix2 (rowOf t r) j) :=
  vals_of _ _ _ _ _ _ _ r (rowOf t r) j (blk5 m c t r) (wtileB_right m c t) (blk4 m c t)

theorem resQ_at (a0 : Vec Ideal S3840x5120 .bf16) (a1 : Vec Ideal S5120x3072 .fp8e4m3) (a2 : Vec Ideal S40x24 .f32)
    (a7 : Vec Ideal S1x256 .f32) (a9 a10 : Vec Ideal S3840x32 .f32) (R : Fin 3840) (t : Fin cfg0.N) (j : Fin 256) :
    resQ a0 a1 a2 a7 a9 a10 (ix2 R (colOf t j)) = queryOf a0 a1 a2 a7 a9 a10 R (headOf t) j := by
  show queryOf a0 a1 a2 a7 a9 a10 R ⟨((headOf t).val * 256 + j.val) / 256, _⟩ ⟨((headOf t).val * 256 + j.val) % 256, _⟩ = _
  exact congrArg₂ (queryOf a0 a1 a2 a7 a9 a10 R) (Fin.ext (by dsimp only; omega)) (Fin.ext (by dsimp only; omega))

theorem resGate_at (a0 : Vec Ideal S3840x5120 .bf16) (a1 : Vec Ideal S5120x3072 .fp8e4m3) (a2 : Vec Ideal S40x24 .f32)
    (R : Fin 3840) (t : Fin cfg0.N) (j : Fin 256) :
    resGate a0 a1 a2 (ix2 R (colOf t j)) = headQ a0 a1 a2 R (headOf t) ⟨256 + j.val, by omega⟩ := by
  show headQ a0 a1 a2 R ⟨((headOf t).val * 256 + j.val) / 256, _⟩ ⟨256 + ((headOf t).val * 256 + j.val) % 256, _⟩ = _
  exact congrArg₂ (headQ a0 a1 a2 R) (Fin.ext (by dsimp only; omega)) (Fin.ext (by dsimp only; omega))

/-! ## The result arrays -/

theorem idx13 : ∀ t : Fin cfg0.N, win0_13.index t 0 = t.val / 7 ∧ win0_13.index t 1 = min (t.val % 7) 5 :=
  (by decide +kernel : ∀ t : Fin grid0.N, _)

theorem flushed13_eq (c : Dev nD) (t : Fin cfg0.N) :
    (dats m 0 c).flushed 13 t = ((cfg0.win 13).blk t).view.read (Elt Ideal) (resQ (m ((c : Thread nD τ).loc main_arg0)) (m ((c : Thread nD τ).loc main_arg1)) (m ((c : Thread nD τ).loc main_arg2)) (m ((c : Thread nD τ).loc main_arg7)) (m ((c : Thread nD τ).loc main_arg9)) (m ((c : Thread nD τ).loc main_arg10))) := by
  show (cfg0.win 13).cut (grid0.coords t) ((dats m 0 c).after 13 t) = _
  rw [after0_13]
  obtain ⟨h0, h1⟩ := idx13 t
  funext y
  obtain ⟨r, k, rfl⟩ : ∃ (r : Fin 768) (k : Fin 256), y = ix2 r k := ⟨y 0, y 1, eq_ix2 y⟩
  refine Eq.trans ?_ (read_rect_apply main_v0_0 _ _ _ _ (ix2 r k) (ix2 (rowOf t r) (colOf t k)) fun a => ?_).symm
  · refine (query_blk m c (hd t) (hd_head t) r k).trans ?_
    rw [hd_row, hd_headOf]
    exact (resQ_at _ _ _ _ _ _ (rowOf t r) t k).symm
  · match a with
    | ⟨0, _⟩ => show t.val / 7 * 768 + r.val = win0_13.index t 0 * 768 + r.val; rw [h0]
    | ⟨1, _⟩ => show min (t.val % 7) 5 * 256 + k.val = win0_13.index t 1 * 256 + k.val; rw [h1]

/-- Every index of the result lies in some written block. -/
theorem cover13 (y : S3840x1536.Idx) :
    ∃ t : Fin cfg0.N, (cfg0.win 13).flush t = true ∧ y ∈ ((cfg0.win 13).blk t).view.set := by
  have hy0 : (y 0).val < 3840 := (y 0).isLt
  have hy1 : (y 1).val < 1536 := (y 1).isLt
  obtain ⟨t, hf, ht0, ht1⟩ : ∃ t : Fin cfg0.N, (cfg0.win 13).flush t = true
      ∧ win0_13.index t 0 = (y 0).val / 768 ∧ win0_13.index t 1 = (y 1).val / 256 :=
    (by decide +kernel : ∀ (a : Fin 5) (b : Fin 6), ∃ t : Fin grid0.N, win0_13.flush t = true
      ∧ win0_13.index t 0 = a.val ∧ win0_13.index t 1 = b.val) ⟨(y 0).val / 768, by omega⟩ ⟨(y 1).val / 256, by omega⟩
  refine ⟨t, hf, ?_⟩
  show y ∈ ((View.whole main_v0_0).slice (win0_13.rect t)).set
  rw [View.set_slice_whole, Rect.mem_set_unit]
  intro a
  match a with
  | ⟨0, _⟩ =>
    show win0_13.index t 0 * 768 ≤ (y 0).val ∧ (y 0).val < win0_13.index t 0 * 768 + 768
    rw [ht0]; omega
  | ⟨1, _⟩ =>
    show win0_13.index t 1 * 256 ≤ (y 1).val ∧ (y 1).val < win0_13.index t 1 * 256 + 256
    rw [ht1]; omega

theorem idx14 : ∀ t : Fin cfg0.N, win0_14.index t 0 = t.val / 7 ∧ win0_14.index t 1 = min (t.val % 7) 5 :=
  (by decide +kernel : ∀ t : Fin grid0.N, _)

theorem flushed14_eq (c : Dev nD) (t : Fin cfg0.N) :
    (dats m 0 c).flushed 14 t = ((cfg0.win 14).blk t).view.read (Elt Ideal) (resGate (m ((c : Thread nD τ).loc main_arg0)) (m ((c : Thread nD τ).loc main_arg1)) (m ((c : Thread nD τ).loc main_arg2))) := by
  show (cfg0.win 14).cut (grid0.coords t) ((dats m 0 c).after 14 t) = _
  rw [after0_14]
  obtain ⟨h0, h1⟩ := idx14 t
  funext y
  obtain ⟨r, k, rfl⟩ : ∃ (r : Fin 768) (k : Fin 256), y = ix2 r k := ⟨y 0, y 1, eq_ix2 y⟩
  refine Eq.trans ?_ (read_rect_apply main_v0_1 _ _ _ _ (ix2 r k) (ix2 (rowOf t r) (colOf t k)) fun a => ?_).symm
  · refine (gate_blk m c (hd t) (hd_head t) r k).trans ?_
    rw [hd_row, hd_headOf]
    exact (resGate_at _ _ _ (rowOf t r) t k).symm
  · match a with
    | ⟨0, _⟩ => show t.val / 7 * 768 + r.val = win0_14.index t 0 * 768 + r.val; rw [h0]
    | ⟨1, _⟩ => show min (t.val % 7) 5 * 256 + k.val = win0_14.index t 1 * 256 + k.val; rw [h1]

/-- Every index of the result lies in some written block. -/
theorem cover14 (y : S3840x1536.Idx) :
    ∃ t : Fin cfg0.N, (cfg0.win 14).flush t = true ∧ y ∈ ((cfg0.win 14).blk t).view.set := by
  have hy0 : (y 0).val < 3840 := (y 0).isLt
  have hy1 : (y 1).val < 1536 := (y 1).isLt
  obtain ⟨t, hf, ht0, ht1⟩ : ∃ t : Fin cfg0.N, (cfg0.win 14).flush t = true
      ∧ win0_14.index t 0 = (y 0).val / 768 ∧ win0_14.index t 1 = (y 1).val / 256 :=
    (by decide +kernel : ∀ (a : Fin 5) (b : Fin 6), ∃ t : Fin grid0.N, win0_14.flush t = true
      ∧ win0_14.index t 0 = a.val ∧ win0_14.index t 1 = b.val) ⟨(y 0).val / 768, by omega⟩ ⟨(y 1).val / 256, by omega⟩
  refine ⟨t, hf, ?_⟩
  show y ∈ ((View.whole main_v0_1).slice (win0_14.rect t)).set
  rw [View.set_slice_whole, Rect.mem_set_unit]
  intro a
  match a with
  | ⟨0, _⟩ =>
    show win0_14.index t 0 * 768 ≤ (y 0).val ∧ (y 0).val < win0_14.index t 0 * 768 + 768
    rw [ht0]; omega
  | ⟨1, _⟩ =>
    show win0_14.index t 1 * 256 ≤ (y 1).val ∧ (y 1).val < win0_14.index t 1 * 256 + 256
    rw [ht1]; omega

theorem idx15 : ∀ t : Fin cfg0.N, win0_15.index t 0 = t.val / 7 ∧ win0_15.index t 1 = 0 :=
  (by decide +kernel : ∀ t : Fin grid0.N, _)

theorem flushed15_eq (c : Dev nD) (t : Fin cfg0.N) :
    (dats m 0 c).flushed 15 t = ((cfg0.win 15).blk t).view.read (Elt Ideal) (resK (m ((c : Thread nD τ).loc main_arg0)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11))) := by
  show (cfg0.win 15).cut (grid0.coords t) ((dats m 0 c).after 15 t) = _
  rw [after0_15]
  obtain ⟨h0, h1⟩ := idx15 t
  funext y
  obtain ⟨r, k, rfl⟩ : ∃ (r : Fin 768) (k : Fin 256), y = ix2 r k := ⟨y 0, y 1, eq_ix2 y⟩
  refine Eq.trans ?_ (read_rect_apply main_v0_2 _ _ _ _ (ix2 r k) (ix2 (rowOf t r) k) fun a => ?_).symm
  · exact keys_blk m c t r k
  · match a with
    | ⟨0, _⟩ => show t.val / 7 * 768 + r.val = win0_15.index t 0 * 768 + r.val; rw [h0]
    | ⟨1, _⟩ => show k.val = win0_15.index t 1 * 256 + k.val; rw [h1]; omega

theorem cover15 (y : S3840x256.Idx) :
    ∃ t : Fin cfg0.N, (cfg0.win 15).flush t = true ∧ y ∈ ((cfg0.win 15).blk t).view.set := by
  have hy0 : (y 0).val < 3840 := (y 0).isLt
  have hy1 : (y 1).val < 256 := (y 1).isLt
  obtain ⟨t, hf, ht0, ht1⟩ : ∃ t : Fin cfg0.N, (cfg0.win 15).flush t = true
      ∧ win0_15.index t 0 = (y 0).val / 768 ∧ win0_15.index t 1 = 0 :=
    (by decide +kernel : ∀ (a : Fin 5), ∃ t : Fin grid0.N, win0_15.flush t = true
      ∧ win0_15.index t 0 = a.val ∧ win0_15.index t 1 = 0) ⟨(y 0).val / 768, by omega⟩
  refine ⟨t, hf, ?_⟩
  show y ∈ ((View.whole main_v0_2).slice (win0_15.rect t)).set
  rw [View.set_slice_whole, Rect.mem_set_unit]
  intro a
  match a with
  | ⟨0, _⟩ =>
    show win0_15.index t 0 * 768 ≤ (y 0).val ∧ (y 0).val < win0_15.index t 0 * 768 + 768
    rw [ht0]; omega
  | ⟨1, _⟩ =>
    show win0_15.index t 1 * 256 ≤ (y 1).val ∧ (y 1).val < win0_15.index t 1 * 256 + 256
    rw [ht1]; omega

theorem idx16 : ∀ t : Fin cfg0.N, win0_16.index t 0 = t.val / 7 ∧ win0_16.index t 1 = 0 :=
  (by decide +kernel : ∀ t : Fin grid0.N, _)

theorem flushed16_eq (c : Dev nD) (t : Fin cfg0.N) :
    (dats m 0 c).flushed 16 t = ((cfg0.win 16).blk t).view.read (Elt Ideal) (resV (m ((c : Thread nD τ).loc main_arg0)) (m ((c : Thread nD τ).loc main_arg5)) (m ((c : Thread nD τ).loc main_arg6)) (m ((c : Thread nD τ).loc main_arg12))) := by
  show (cfg0.win 16).cut (grid0.coords t) ((dats m 0 c).after 16 t) = _
  rw [after0_16]
  obtain ⟨h0, h1⟩ := idx16 t
  funext y
  obtain ⟨r, k, rfl⟩ : ∃ (r : Fin 768) (k : Fin 256), y = ix2 r k := ⟨y 0, y 1, eq_ix2 y⟩
  refine Eq.trans ?_ (read_rect_apply main_v0_3 _ _ _ _ (ix2 r k) (ix2 (rowOf t r) k) fun a => ?_).symm
  · exact vals_blk m c t r k
  · match a with
    | ⟨0, _⟩ => show t.val / 7 * 768 + r.val = win0_16.index t 0 * 768 + r.val; rw [h0]
    | ⟨1, _⟩ => show k.val = win0_16.index t 1 * 256 + k.val; rw [h1]; omega

theorem cover16 (y : S3840x256.Idx) :
    ∃ t : Fin cfg0.N, (cfg0.win 16).flush t = true ∧ y ∈ ((cfg0.win 16).blk t).view.set := by
  have hy0 : (y 0).val < 3840 := (y 0).isLt
  have hy1 : (y 1).val < 256 := (y 1).isLt
  obtain ⟨t, hf, ht0, ht1⟩ : ∃ t : Fin cfg0.N, (cfg0.win 16).flush t = true
      ∧ win0_16.index t 0 = (y 0).val / 768 ∧ win0_16.index t 1 = 0 :=
    (by decide +kernel : ∀ (a : Fin 5), ∃ t : Fin grid0.N, win0_16.flush t = true
      ∧ win0_16.index t 0 = a.val ∧ win0_16.index t 1 = 0) ⟨(y 0).val / 768, by omega⟩
  refine ⟨t, hf, ?_⟩
  show y ∈ ((View.whole main_v0_3).slice (win0_16.rect t)).set
  rw [View.set_slice_whole, Rect.mem_set_unit]
  intro a
  match a with
  | ⟨0, _⟩ =>
    show win0_16.index t 0 * 768 ≤ (y 0).val ∧ (y 0).val < win0_16.index t 0 * 768 + 768
    rw [ht0]; omega
  | ⟨1, _⟩ =>
    show win0_16.index t 1 * 256 ≤ (y 1).val ∧ (y 1).val < win0_16.index t 1 * 256 + 256
    rw [ht1]; omega

set_option maxHeartbeats 2000000 in
/-- The run ends with the layer's queries, gates and codes, the arguments unchanged. -/
theorem run_value : θ_run defs (onTc (τ := τ) (main (F := Ideal))) ⟨m, fun _ => 0, ρ⟩ fun r => ∀ c : Dev nD,
      r.2.mem ((c : Thread nD τ).loc main_v0_0) = resQ (m ((c : Thread nD τ).loc main_arg0)) (m ((c : Thread nD τ).loc main_arg1)) (m ((c : Thread nD τ).loc main_arg2)) (m ((c : Thread nD τ).loc main_arg7)) (m ((c : Thread nD τ).loc main_arg9)) (m ((c : Thread nD τ).loc main_arg10))
      ∧ r.2.mem ((c : Thread nD τ).loc main_v0_1) = resGate (m ((c : Thread nD τ).loc main_arg0)) (m ((c : Thread nD τ).loc main_arg1)) (m ((c : Thread nD τ).loc main_arg2))
      ∧ r.2.mem ((c : Thread nD τ).loc main_v0_2) = resK (m ((c : Thread nD τ).loc main_arg0)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11))
      ∧ r.2.mem ((c : Thread nD τ).loc main_v0_3) = resV (m ((c : Thread nD τ).loc main_arg0)) (m ((c : Thread nD τ).loc main_arg5)) (m ((c : Thread nD τ).loc main_arg6)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨((h c).1 13).trans ((dats m 0 c).arrAt_eq_of_cover 13 _ (fun t _ => flushed13_eq m c t) cover13),
      ((h c).1 14).trans ((dats m 0 c).arrAt_eq_of_cover 14 _ (fun t _ => flushed14_eq m c t) cover14),
      ((h c).1 15).trans ((dats m 0 c).arrAt_eq_of_cover 15 _ (fun t _ => flushed15_eq m c t) cover15),
      ((h c).1 16).trans ((dats m 0 c).arrAt_eq_of_cover 16 _ (fun t _ => flushed16_eq m c t) cover16),
      ((h c).1 5).trans (((dats m 0 c).arrAt_in 5 rfl _).trans ((A_eq m c 5).trans (V_main_arg0 m c))),
      ((h c).1 6).trans (((dats m 0 c).arrAt_in 6 rfl _).trans ((A_eq m c 6).trans (V_main_arg1 m c))),
      ((h c).1 0).trans (((dats m 0 c).arrAt_in 0 rfl _).trans ((A_eq m c 0).trans (V_main_arg2 m c))),
      ((h c).1 7).trans (((dats m 0 c).arrAt_in 7 rfl _).trans ((A_eq m c 7).trans (V_main_arg3 m c))),
      ((h c).1 1).trans (((dats m 0 c).arrAt_in 1 rfl _).trans ((A_eq m c 1).trans (V_main_arg4 m c))),
      ((h c).1 8).trans (((dats m 0 c).arrAt_in 8 rfl _).trans ((A_eq m c 8).trans (V_main_arg5 m c))),
      ((h c).1 2).trans (((dats m 0 c).arrAt_in 2 rfl _).trans ((A_eq m c 2).trans (V_main_arg6 m c))),
      ((h c).1 9).trans (((dats m 0 c).arrAt_in 9 rfl _).trans ((A_eq m c 9).trans (V_main_arg7 m c))),
      ((h c).1 10).trans (((dats m 0 c).arrAt_in 10 rfl _).trans ((A_eq m c 10).trans (V_main_arg8 m c))),
      ((h c).1 11).trans (((dats m 0 c).arrAt_in 11 rfl _).trans ((A_eq m c 11).trans (V_main_arg9 m c))),
      ((h c).1 12).trans (((dats m 0 c).arrAt_in 12 rfl _).trans ((A_eq m c 12).trans (V_main_arg10 m c))),
      ((h c).1 3).trans (((dats m 0 c).arrAt_in 3 rfl _).trans ((A_eq m c 3).trans (V_main_arg11 m c))),
      ((h c).1 4).trans (((dats m 0 c).arrAt_in 4 rfl _).trans ((A_eq m c 4).trans (V_main_arg12 m c)))⟩) (run_main m ρ)

end Cert.QkvIdeal.Gen

end
-- ==== Proof.QkvRefPay.lean ====
/- The reference's attention inputs element by element: the products, the norm of each head, its rotation and the codes. -/
module

public import proofs.«01_k».proof.Proof.QkvMath
public import proofs.«01_k».proof.Proof.Gen.QkvRefIdeal.Skeleton

@[expose] public section

set_option maxRecDepth 16384

noncomputable section

namespace Cert.QkvEq

open Idealize.ShloMosaic Idealize.ShloMosaic.TcCoe Idealize.ShloMosaic.Tactic Cert.Layer Cert.QkvRefIdeal Cert.QkvRefIdeal.Gen
open Cert.QkvIdeal.Gen (hK hCq hC2 headQ headKV queryOf keyOf resQ resGate resK resV)

/-- The product, cut in heads, each a query and a gate. -/
theorem pay1 (a0 : Vec Ideal S3840x5120 .bf16) (a1 : Vec Ideal S5120x3072 .fp8e4m3) (a2 : Vec Ideal S40x24 .f32)
    (r : Fin 3840) (h : Fin 6) (z : Fin 2) (j : Fin 256) :
    k0_pay1 a0 a1 a2 (ix4 r h z j) = headQ a0 a1 a2 r h ⟨256 * z.val + j.val, by omega⟩ := by
  have e : k0_pay1 a0 a1 a2 (ix4 r h z j) = linear hK hCq a0 a2 a1 r ⟨h.val * 512 + z.val * 256 + j.val, by omega⟩ := by
    unfold linear wide
    pointwise [k0_pay1]
  exact e.trans (congrArg _ (Fin.ext (by dsimp only; omega)))

/-- The gates. -/
theorem pay10 (v : FVec Ideal S3840x6x2x256 .f32) (r : Fin 3840) (c : Fin 1536) :
    k0_pay10 v (ix2 r c) = v (ix4 r ⟨c.val / 256, by omega⟩ 1 ⟨c.val % 256, by omega⟩) := by
  pointwise [k0_pay10]

/-- The query halves. -/
def halves (v : FVec Ideal S3840x6x2x256 .f32) : FVec Ideal S3840x6x256 .f32 :=
  shapeCast S3840x6x256 (extractStridedSlice S3840x6x1x256 ![0, 0, 0, 0] v slices_S3840x6x2x256_o0_0_0_0_S3840x6x1x256) shapeCasts_S3840x6x1x256_S3840x6x256

/-- The norm of each head. -/
def norms (v : FVec Ideal S3840x6x256 .f32) (w : Vec Ideal S1x256 .f32) : FVec Ideal S3840x6x256 .f32 :=
  mulf (divf v (broadcastTo S3840x6x256 (sqrt (addf (divf (shapeCast S3840x6x1 (multiReduction .add [2] S3840x6 (mulf v v) 0x00000000#32 reduces_S3840x6x256_S3840x6 (.inl rfl) rfl) shapeCasts_S3840x6_S3840x6x1)
      (broadcast S3840x6x1 (Scalar.ofBits .f32 0x43800000#32))) (broadcast S3840x6x1 (Scalar.ofBits .f32 0x358637BD#32)))) broadcasts_S3840x6x1_S3840x6x256))
    (broadcastTo S3840x6x256 (shapeCast S1x1x256 (addf (broadcast S1x256 (Scalar.ofBits .f32 0x3F800000#32)) w) shapeCasts_S1x256_S1x1x256) broadcasts_S1x1x256_S3840x6x256)

theorem pay2_eq (a0 : Vec Ideal S3840x5120 .bf16) (a1 : Vec Ideal S5120x3072 .fp8e4m3) (a2 : Vec Ideal S40x24 .f32) (w : Vec Ideal S1x256 .f32) :
    k0_pay2 a0 a1 a2 w = norms (halves (k0_pay1 a0 a1 a2)) w := rfl

theorem halves_apply (v : FVec Ideal S3840x6x2x256 .f32) (r : Fin 3840) (h : Fin 6) (j : Fin 256) :
    halves v (ix3 r h j) = v (ix4 r h 0 j) := by
  pointwise [halves]

theorem norms_apply (v : FVec Ideal S3840x6x256 .f32) (w : Vec Ideal S1x256 .f32) (r : Fin 3840) (h : Fin 6) (j : Fin 256) :
    norms v w (ix3 r h j) = headNorm (fun x => v (ix3 r h x)) (fun x => w (ix2 0 x)) j := by
  unfold headNorm rms
  pointwise [norms]

/-- The rotation of each head. -/
def turns (v : FVec Ideal S3840x6x256 .f32) (c s : Vec Ideal S3840x32 .f32) : FVec Ideal S3840x1536 .bf16 :=
  k0_pay9 v (k0_pay3 c) (k0_pay4 s) (extractStridedSlice S3840x6x32 ![0, 0, 0] v slices_S3840x6x256_o0_0_0_S3840x6x32)
    (extractStridedSlice S3840x6x32 ![0, 0, 32] v slices_S3840x6x256_o0_0_32_S3840x6x32)
    (mulf (extractStridedSlice S3840x6x32 ![0, 0, 0] v slices_S3840x6x256_o0_0_0_S3840x6x32) (broadcastTo S3840x6x32 (k0_pay3 c) broadcasts_S3840x1x32_S3840x6x32))
    (mulf (extractStridedSlice S3840x6x32 ![0, 0, 32] v slices_S3840x6x256_o0_0_32_S3840x6x32) (broadcastTo S3840x6x32 (k0_pay4 s) broadcasts_S3840x1x32_S3840x6x32))

/-- The rotation as a reference writes it, in three pieces. -/
theorem rope_of (v : Fin 256 → EReal) (c s : Fin 32 → EReal) (j : Fin 256) :
    (if h : j.val < 32 then v j * c ⟨j.val, h⟩ - v ⟨32 + j.val, by omega⟩ * s ⟨j.val, h⟩
      else if h' : j.val - 32 < 32 then
        v ⟨32 + (j.val - 32), by omega⟩ * c ⟨j.val - 32, h'⟩ + v ⟨j.val - 32, by omega⟩ * s ⟨j.val - 32, h'⟩
      else v ⟨64 + (j.val - 32 - 32), by omega⟩) = rope v c s j := by
  unfold rope
  by_cases h : j.val < 32
  · rw [dif_pos h, dif_pos h]
  · rw [dif_neg h, dif_neg h]
    by_cases h' : j.val < 64
    · rw [dif_pos (show j.val - 32 < 32 by omega), dif_pos h']
      exact congrArg (fun q : Fin 256 => v q * c _ + v _ * s _) (Fin.ext (by dsimp only; omega))
    · rw [dif_neg (show ¬(j.val - 32 < 32) by omega), dif_neg h']
      exact congrArg v (Fin.ext (by dsimp only; omega))

theorem turns_apply (v : FVec Ideal S3840x6x256 .f32) (c s : Vec Ideal S3840x32 .f32) (r : Fin 3840) (k : Fin 1536) :
    turns v c s (ix2 r k) = rope (fun x => v (ix3 r ⟨k.val / 256, by omega⟩ x)) (fun x => c (ix2 r x)) (fun x => s (ix2 r x)) ⟨k.val % 256, by omega⟩ := by
  rw [← rope_of]
  pointwise [turns, k0_pay9, k0_pay3, k0_pay4]

/-- A key or value before it is normed or coded. -/
def prod (x : Vec Ideal S3840x5120 .bf16) (w : Vec Ideal S5120x256 .fp8e4m3) (s : Vec Ideal S40x2 .f32) : FVec Ideal S3840x256 .f32 :=
  matmul (φ₁ := .bf16) (φ₂ := .bf16) dot_S3840x5120_S5120x256_S3840x256_1_0_0_1_n_n none x (shapeCast S5120x256 (mulf (shapeCast S40x128x256 (extf .bf16 w bitsLt_fp8e4m3_bf16 : FVec Ideal S5120x256 .bf16) shapeCasts_S5120x256_S40x128x256)
    (broadcastTo S40x128x256 (shapeCast S40x1x256 (shapeCast S40x256 (broadcastTo S40x2x128 (shapeCast S40x2x1 (truncf .bf16 (s : FVec Ideal S40x2 .f32) bitsLt_bf16_f32) shapeCasts_S40x2_S40x2x1) broadcasts_S40x2x1_S40x2x128)
      shapeCasts_S40x2x128_S40x256) shapeCasts_S40x256_S40x1x256) broadcasts_S40x1x256_S40x128x256)) shapeCasts_S40x128x256_S5120x256)
    (constant S3840x256 .f32 0x00000000#32)

theorem prod_apply (x : Vec Ideal S3840x5120 .bf16) (w : Vec Ideal S5120x256 .fp8e4m3) (s : Vec Ideal S40x2 .f32) (r : Fin 3840) (j : Fin 256) :
    prod x w s (ix2 r j) = headKV x w s r j := by
  unfold headKV linear wide
  pointwise [prod]

/-- The norm of the one key head. -/
def norm1 (v : FVec Ideal S3840x256 .f32) (w : Vec Ideal S1x256 .f32) : FVec Ideal S3840x256 .f32 :=
  mulf (divf v (broadcastTo S3840x256 (sqrt (addf (divf (shapeCast S3840x1 (multiReduction .add [1] S3840 (mulf v v) 0x00000000#32 reduces_S3840x256_S3840 (.inl rfl) rfl) shapeCasts_S3840_S3840x1)
      (broadcast S3840x1 (Scalar.ofBits .f32 0x43800000#32))) (broadcast S3840x1 (Scalar.ofBits .f32 0x358637BD#32)))) broadcasts_S3840x1_S3840x256))
    (broadcastTo S3840x256 (addf (broadcast S1x256 (Scalar.ofBits .f32 0x3F800000#32)) w) broadcasts_S1x256_S3840x256)

theorem pay11_eq (x : Vec Ideal S3840x5120 .bf16) (w : Vec Ideal S5120x256 .fp8e4m3) (s : Vec Ideal S40x2 .f32) (kn : Vec Ideal S1x256 .f32) :
    k0_pay11 x w s kn = norm1 (prod x w s) kn := rfl

theorem norm1_apply (v : FVec Ideal S3840x256 .f32) (w : Vec Ideal S1x256 .f32) (r : Fin 3840) (j : Fin 256) :
    norm1 v w (ix2 r j) = headNorm (fun x => v (ix2 r x)) (fun x => w (ix2 0 x)) j := by
  unfold headNorm rms
  pointwise [norm1]

/-- The rotation and the codes of the keys. -/
theorem pay12 (c s : Vec Ideal S3840x32 .f32) (v : FVec Ideal S3840x256 .f32) (ks : Vec Ideal S1 .f32) (r : Fin 3840) (j : Fin 256) :
    k0_pay12 c s v ks (ix2 r j) = clip (rope (fun x => v (ix2 r x)) (fun x => c (ix2 r x)) (fun x => s (ix2 r x)) j) (ks (ix1 0)) := by
  rw [← rope_of]
  unfold clip
  pointwise [k0_pay12]

/-- The codes of the values. -/
theorem pay13 (x : Vec Ideal S3840x5120 .bf16) (w : Vec Ideal S5120x256 .fp8e4m3) (s : Vec Ideal S40x2 .f32) (vs : Vec Ideal S1 .f32) (r : Fin 3840) (j : Fin 256) :
    k0_pay13 x w s vs (ix2 r j) = clip (headKV x w s r j) (vs (ix1 0)) := by
  rw [← prod_apply]
  unfold clip
  pointwise [k0_pay13, prod]

end Cert.QkvEq

end
-- ==== Proof.QkvEq.lean ====
/- The qkv claim: what the kernel's run leaves is what the reference computes. -/
module

public import proofs.«01_k».proof.Defs
public import proofs.«01_k».proof.Proof.QkvValue
public import proofs.«01_k».proof.Proof.QkvRefPay
public import proofs.«01_k».proof.Proof.Gen.QkvRefIdeal.Value

@[expose] public section

set_option maxRecDepth 16384
noncomputable section

namespace Cert.QkvEq

open Idealize.ShloMosaic Idealize.ShloMosaic.TcCoe Idealize.ShloMosaic.Tactic Cert.Layer Cert.QkvRefIdeal Cert.QkvRefIdeal.Gen
open Cert.QkvIdeal.Gen (headQ headKV queryOf keyOf resQ resGate resK resV)

section
variable (a0 : Vec Ideal S3840x5120 .bf16)
  (a1 : Vec Ideal S5120x3072 .fp8e4m3)
  (a2 : Vec Ideal S40x24 .f32)
  (a3 : Vec Ideal S5120x256 .fp8e4m3)
  (a4 : Vec Ideal S40x2 .f32)
  (a5 : Vec Ideal S5120x256 .fp8e4m3)
  (a6 : Vec Ideal S40x2 .f32)
  (a7 : Vec Ideal S1x256 .f32)
  (a8 : Vec Ideal S1x256 .f32)
  (a9 : Vec Ideal S3840x32 .f32)
  (a10 : Vec Ideal S3840x32 .f32)
  (a11 : Vec Ideal S1 .f32)
  (a12 : Vec Ideal S1 .f32)

theorem query_eq : Cert.QkvRefIdeal.Value.G13 a0 a1 a2 a3 a4 a5 a6 a7 a8 a9 a10 a11 a12 = resQ a0 a1 a2 a7 a9 a10 := by
  funext y
  obtain ⟨r, k, rfl⟩ : ∃ (r : Fin 3840) (k : Fin 1536), y = ix2 r k := ⟨y 0, y 1, eq_ix2 y⟩
  show turns (k0_pay2 a0 a1 a2 a7) a9 a10 (ix2 r k) = queryOf a0 a1 a2 a7 a9 a10 r ⟨k.val / 256, by omega⟩ ⟨k.val % 256, by omega⟩
  rw [turns_apply]
  unfold queryOf
  refine congrArg (fun v => rope v _ _ _) (funext fun x => ?_)
  rw [pay2_eq, norms_apply]
  refine congrArg (fun v => headNorm v _ x) (funext fun j => ?_)
  rw [halves_apply, pay1]
  exact congrArg (headQ a0 a1 a2 r _) (Fin.ext (by show 256 * 0 + j.val = j.val; omega))

theorem gate_eq : Cert.QkvRefIdeal.Value.G14 a0 a1 a2 a3 a4 a5 a6 a7 a8 a9 a10 a11 a12 = resGate a0 a1 a2 := by
  funext y
  obtain ⟨r, k, rfl⟩ : ∃ (r : Fin 3840) (k : Fin 1536), y = ix2 r k := ⟨y 0, y 1, eq_ix2 y⟩
  show k0_pay10 (k0_pay1 a0 a1 a2) (ix2 r k) = headQ a0 a1 a2 r ⟨k.val / 256, by omega⟩ ⟨256 + k.val % 256, by omega⟩
  rw [pay10, pay1]
  exact congrArg (headQ a0 a1 a2 r _) (Fin.ext (by show 256 * 1 + k.val % 256 = 256 + k.val % 256; omega))

theorem keys_eq : Cert.QkvRefIdeal.Value.G15 a0 a1 a2 a3 a4 a5 a6 a7 a8 a9 a10 a11 a12 = resK a0 a3 a4 a8 a9 a10 a11 := by
  funext y
  obtain ⟨r, k, rfl⟩ : ∃ (r : Fin 3840) (k : Fin 256), y = ix2 r k := ⟨y 0, y 1, eq_ix2 y⟩
  show k0_pay12 a9 a10 (k0_pay11 a0 a3 a4 a8) a11 (ix2 r k) = clip (keyOf a0 a3 a4 a8 a9 a10 r k) (a11 (ix1 0))
  rw [pay12]
  unfold keyOf
  refine congrArg (fun v => clip (rope v _ _ _) _) (funext fun x => ?_)
  rw [pay11_eq, norm1_apply]
  exact congrArg (fun v => headNorm v _ x) (funext fun j => prod_apply a0 a3 a4 r j)

theorem vals_eq : Cert.QkvRefIdeal.Value.G16 a0 a1 a2 a3 a4 a5 a6 a7 a8 a9 a10 a11 a12 = resV a0 a5 a6 a12 := by
  funext y
  obtain ⟨r, k, rfl⟩ : ∃ (r : Fin 3840) (k : Fin 256), y = ix2 r k := ⟨y 0, y 1, eq_ix2 y⟩
  exact pay13 a0 a5 a6 a12 r k

end

set_option maxHeartbeats 2000000 in
/-- The claim: both runs end, with equal results, the arguments unchanged. -/
theorem algebraic : Cert.algebraic_QkvIdeal_QkvRefIdeal := by
  intro m ρ m' ρ' _ hag
  refine ⟨fun c => resQ (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg7)) (m ((c : Thread Cert.QkvIdeal.nD Cert.QkvIdeal.τ).loc Cert.QkvIdeal.main_arg9)) (m ((c : Thread Cert.QkvIdeal.nD Cert.QkvIdeal.τ).loc Cert.QkvIdeal.main_arg10)),
    fun c => resGate (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)),
    fun c => resK (m ((c : Thread Cert.QkvIdeal.nD Cert.QkvIdeal.τ).loc Cert.QkvIdeal.main_arg0)) (m ((c : Thread Cert.QkvIdeal.nD Cert.QkvIdeal.τ).loc Cert.QkvIdeal.main_arg3)) (m ((c : Thread Cert.QkvIdeal.nD Cert.QkvIdeal.τ).loc Cert.QkvIdeal.main_arg4)) (m ((c : Thread Cert.QkvIdeal.nD Cert.QkvIdeal.τ).loc Cert.QkvIdeal.main_arg8)) (m ((c : Thread Cert.QkvIdeal.nD Cert.QkvIdeal.τ).loc Cert.QkvIdeal.main_arg9)) (m ((c : Thread Cert.QkvIdeal.nD Cert.QkvIdeal.τ).loc Cert.QkvIdeal.main_arg10)) (m ((c : Thread Cert.QkvIdeal.nD Cert.QkvIdeal.τ).loc Cert.QkvIdeal.main_arg11)),
    fun c => resV (m ((c : Thread Cert.QkvIdeal.nD Cert.QkvIdeal.τ).loc Cert.QkvIdeal.main_arg0)) (m ((c : Thread Cert.QkvIdeal.nD Cert.QkvIdeal.τ).loc Cert.QkvIdeal.main_arg5)) (m ((c : Thread Cert.QkvIdeal.nD Cert.QkvIdeal.τ).loc Cert.QkvIdeal.main_arg6)) (m ((c : Thread Cert.QkvIdeal.nD Cert.QkvIdeal.τ).loc Cert.QkvIdeal.main_arg12)), ?_, ?_⟩
  · exact Cert.QkvIdeal.Gen.run_value m ρ
  · exact (θ_run _ _ _).mono (fun _ h c => by
      obtain ⟨h0, h1, h2, h3, h4, h5, h6, h7, h8, h9, h10, h11, h12⟩ := hag c
      obtain ⟨e0, e1, e2, e3, e4⟩ := h c
      rw [h0, h1, h2, h3, h4, h5, h6, h7, h8, h9, h10, h11, h12] at e0 e1 e2 e3
      exact ⟨e0.trans (query_eq _ _ _ _ _ _ _ _ _ _ _ _ _), e1.trans (gate_eq _ _ _ _ _ _ _ _ _ _ _ _ _), e2.trans (keys_eq _ _ _ _ _ _ _ _ _ _ _ _ _), e3.trans (vals_eq _ _ _ _ _ _ _ _ _ _ _ _ _), e4⟩)
      (Cert.QkvRefIdeal.Value.run m' ρ')

end Cert.QkvEq
end
-- ==== Proof.lean ====
/- The claim, assembled: each program runs to its end, faults nowhere, keeps its arguments and ends with every semaphore at
   zero; each idealization rewrites nothing; and each kernel computes over the extended reals what its reference computes. -/
module

public import proofs.«01_k».proof.Defs
public import proofs.«01_k».proof.Proof.Gen.Down.Frame
public import proofs.«01_k».proof.Proof.Gen.DownIdeal.Frame
public import proofs.«01_k».proof.Proof.Gen.DownRefIdeal.Frame
public import proofs.«01_k».proof.Proof.DownEq
public import proofs.«01_k».proof.Proof.Gen.Wo.Frame
public import proofs.«01_k».proof.Proof.Gen.WoIdeal.Frame
public import proofs.«01_k».proof.Proof.Gen.WoRefIdeal.Frame
public import proofs.«01_k».proof.Proof.WoEq
public import proofs.«01_k».proof.Proof.GateUpFrame
public import proofs.«01_k».proof.Proof.GateUpIdealFrame
public import proofs.«01_k».proof.Proof.Gen.GateUpRefIdeal.Frame
public import proofs.«01_k».proof.Proof.GateUpEq
public import proofs.«01_k».proof.Proof.QkvFrame
public import proofs.«01_k».proof.Proof.QkvIdealFrame
public import proofs.«01_k».proof.Proof.Gen.QkvRefIdeal.Frame
public import proofs.«01_k».proof.Proof.Gen.QkvRefIdeal.Value
public import proofs.«01_k».proof.Proof.QkvEq
public import Idealize.ShloMosaic.Adequacy
public import Idealize.ShloMosaic.Init

@[expose] public section

noncomputable section

namespace Cert.Proof

open Idealize.ShloMosaic Idealize.SL.Sem

theorem claim : Cert.Claim := ⟨
  Cert.Down.Gen.facts, Cert.DownIdeal.Gen.facts, Cert.DownRefIdeal.Gen.facts, Cert.Wo.Gen.facts, Cert.WoIdeal.Gen.facts, Cert.WoRefIdeal.Gen.facts, Cert.GateUp.Gen.facts, Cert.GateUpIdeal.Gen.facts, Cert.GateUpRefIdeal.Gen.facts,
  Cert.Qkv.Gen.facts, Cert.QkvIdeal.Gen.facts, Cert.QkvRefIdeal.Gen.facts,
  fun m ρ _ => Cert.Down.Gen.frame m ρ, fun m ρ _ => Cert.DownIdeal.Gen.frame m ρ, fun m ρ _ => Cert.DownRefIdeal.Gen.frame m ρ,
  fun m ρ _ => Cert.Wo.Gen.frame m ρ, fun m ρ _ => Cert.WoIdeal.Gen.frame m ρ, fun m ρ _ => Cert.WoRefIdeal.Gen.frame m ρ,
  fun m ρ _ => Cert.GateUp.Gen.frame m ρ, fun m ρ _ => Cert.GateUpIdeal.Gen.frame m ρ, fun m ρ _ => Cert.GateUpRefIdeal.Gen.frame m ρ,
  fun m ρ _ => Cert.Qkv.Gen.frame m ρ, fun m ρ _ => Cert.QkvIdeal.Gen.frame m ρ, fun m ρ _ => Cert.QkvRefIdeal.Gen.frame m ρ,
  trivial, Cert.DownEq.algebraic,
  trivial, Cert.WoEq.algebraic,
  trivial, Cert.GateUpEq.algebraic,
  trivial, Cert.QkvEq.algebraic⟩

end Cert.Proof

end
